-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SampleIn (m : (ℓ : Loc Cert.SampleIn.nD Cert.SampleIn.τ Cert.SampleIn.sig) → Buf (Elt Bits) ℓ) : Prop :=
  True

def Pre_SampleInIdeal (m : (ℓ : Loc Cert.SampleInIdeal.nD Cert.SampleInIdeal.τ Cert.SampleInIdeal.sig) → Buf (Elt Ideal) ℓ) : Prop :=
  True

def Pre_SampleInRefIdeal (m : (ℓ : Loc Cert.SampleInRefIdeal.nD Cert.SampleInRefIdeal.τ Cert.SampleInRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_PromptTail (m : (ℓ : Loc Cert.PromptTail.nD Cert.PromptTail.τ Cert.PromptTail.sig) → Buf (Elt Bits) ℓ) : Prop :=
  True

def Pre_PromptTailIdeal (m : (ℓ : Loc Cert.PromptTailIdeal.nD Cert.PromptTailIdeal.τ Cert.PromptTailIdeal.sig) → Buf (Elt Ideal) ℓ) : Prop :=
  True

def Pre_PromptTailRefIdeal (m : (ℓ : Loc Cert.PromptTailRefIdeal.nD Cert.PromptTailRefIdeal.τ Cert.PromptTailRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_SampleIn [hSampleIn : Cert.SampleIn.Facts] : Prop :=
  ∀ (m : (ℓ : Loc Cert.SampleIn.nD Cert.SampleIn.τ Cert.SampleIn.sig) → Buf (Elt Bits) ℓ) (g : Dev Cert.SampleIn.nD → PrngReg), Pre_SampleIn m →
    θ_run (Cert.SampleIn.defs (F := Bits)) (onTc (τ := Cert.SampleIn.τ) (Cert.SampleIn.main (F := Bits))) ⟨m, fun _ => 0, g⟩ (fun r => (∀ c : Dev Cert.SampleIn.nD,
      r.2.mem ((c.tc : Thread Cert.SampleIn.nD Cert.SampleIn.τ).loc Cert.SampleIn.main_arg0) = m ((c.tc : Thread Cert.SampleIn.nD Cert.SampleIn.τ).loc Cert.SampleIn.main_arg0)
      ∧ r.2.mem ((c.tc : Thread Cert.SampleIn.nD Cert.SampleIn.τ).loc Cert.SampleIn.main_arg1) = m ((c.tc : Thread Cert.SampleIn.nD Cert.SampleIn.τ).loc Cert.SampleIn.main_arg1)
      ∧ r.2.mem ((c.tc : Thread Cert.SampleIn.nD Cert.SampleIn.τ).loc Cert.SampleIn.main_arg2) = m ((c.tc : Thread Cert.SampleIn.nD Cert.SampleIn.τ).loc Cert.SampleIn.main_arg2)
      ∧ r.2.mem ((c.tc : Thread Cert.SampleIn.nD Cert.SampleIn.τ).loc Cert.SampleIn.main_arg3) = m ((c.tc : Thread Cert.SampleIn.nD Cert.SampleIn.τ).loc Cert.SampleIn.main_arg3)
      ∧ r.2.mem ((c.tc : Thread Cert.SampleIn.nD Cert.SampleIn.τ).loc Cert.SampleIn.main_arg4) = m ((c.tc : Thread Cert.SampleIn.nD Cert.SampleIn.τ).loc Cert.SampleIn.main_arg4)
      ∧ r.2.mem ((c.tc : Thread Cert.SampleIn.nD Cert.SampleIn.τ).loc Cert.SampleIn.main_arg5) = m ((c.tc : Thread Cert.SampleIn.nD Cert.SampleIn.τ).loc Cert.SampleIn.main_arg5)
      ∧ r.2.mem ((c.tc : Thread Cert.SampleIn.nD Cert.SampleIn.τ).loc Cert.SampleIn.main_arg6) = m ((c.tc : Thread Cert.SampleIn.nD Cert.SampleIn.τ).loc Cert.SampleIn.main_arg6)
      ∧ r.2.mem ((c.tc : Thread Cert.SampleIn.nD Cert.SampleIn.τ).loc Cert.SampleIn.main_arg7) = m ((c.tc : Thread Cert.SampleIn.nD Cert.SampleIn.τ).loc Cert.SampleIn.main_arg7))
      ∧ r.2.sem = fun _ => 0)

def quiescent_SampleInIdeal [hSampleInIdeal : Cert.SampleInIdeal.Facts] : Prop :=
  ∀ (m : (ℓ : Loc Cert.SampleInIdeal.nD Cert.SampleInIdeal.τ Cert.SampleInIdeal.sig) → Buf (Elt Ideal) ℓ) (g : Dev Cert.SampleInIdeal.nD → PrngReg), Pre_SampleInIdeal m →
    θ_run (Cert.SampleInIdeal.defs (F := Ideal)) (onTc (τ := Cert.SampleInIdeal.τ) (Cert.SampleInIdeal.main (F := Ideal))) ⟨m, fun _ => 0, g⟩ (fun r => (∀ c : Dev Cert.SampleInIdeal.nD,
      r.2.mem ((c.tc : Thread Cert.SampleInIdeal.nD Cert.SampleInIdeal.τ).loc Cert.SampleInIdeal.main_arg0) = m ((c.tc : Thread Cert.SampleInIdeal.nD Cert.SampleInIdeal.τ).loc Cert.SampleInIdeal.main_arg0)
      ∧ r.2.mem ((c.tc : Thread Cert.SampleInIdeal.nD Cert.SampleInIdeal.τ).loc Cert.SampleInIdeal.main_arg1) = m ((c.tc : Thread Cert.SampleInIdeal.nD Cert.SampleInIdeal.τ).loc Cert.SampleInIdeal.main_arg1)
      ∧ r.2.mem ((c.tc : Thread Cert.SampleInIdeal.nD Cert.SampleInIdeal.τ).loc Cert.SampleInIdeal.main_arg2) = m ((c.tc : Thread Cert.SampleInIdeal.nD Cert.SampleInIdeal.τ).loc Cert.SampleInIdeal.main_arg2)
      ∧ r.2.mem ((c.tc : Thread Cert.SampleInIdeal.nD Cert.SampleInIdeal.τ).loc Cert.SampleInIdeal.main_arg3) = m ((c.tc : Thread Cert.SampleInIdeal.nD Cert.SampleInIdeal.τ).loc Cert.SampleInIdeal.main_arg3)
      ∧ r.2.mem ((c.tc : Thread Cert.SampleInIdeal.nD Cert.SampleInIdeal.τ).loc Cert.SampleInIdeal.main_arg4) = m ((c.tc : Thread Cert.SampleInIdeal.nD Cert.SampleInIdeal.τ).loc Cert.SampleInIdeal.main_arg4)
      ∧ r.2.mem ((c.tc : Thread Cert.SampleInIdeal.nD Cert.SampleInIdeal.τ).loc Cert.SampleInIdeal.main_arg5) = m ((c.tc : Thread Cert.SampleInIdeal.nD Cert.SampleInIdeal.τ).loc Cert.SampleInIdeal.main_arg5)
      ∧ r.2.mem ((c.tc : Thread Cert.SampleInIdeal.nD Cert.SampleInIdeal.τ).loc Cert.SampleInIdeal.main_arg6) = m ((c.tc : Thread Cert.SampleInIdeal.nD Cert.SampleInIdeal.τ).loc Cert.SampleInIdeal.main_arg6)
      ∧ r.2.mem ((c.tc : Thread Cert.SampleInIdeal.nD Cert.SampleInIdeal.τ).loc Cert.SampleInIdeal.main_arg7) = m ((c.tc : Thread Cert.SampleInIdeal.nD Cert.SampleInIdeal.τ).loc Cert.SampleInIdeal.main_arg7))
      ∧ r.2.sem = fun _ => 0)

def quiescent_SampleInRefIdeal [hSampleInRefIdeal : Cert.SampleInRefIdeal.Facts] : Prop :=
  ∀ (m : (ℓ : Loc Cert.SampleInRefIdeal.nD Cert.SampleInRefIdeal.τ Cert.SampleInRefIdeal.sig) → Buf (Elt Ideal) ℓ) (g : Dev Cert.SampleInRefIdeal.nD → PrngReg), Pre_SampleInRefIdeal m →
    θ_run (Cert.SampleInRefIdeal.defs (F := Ideal)) (onTc (τ := Cert.SampleInRefIdeal.τ) (Cert.SampleInRefIdeal.main (F := Ideal))) ⟨m, fun _ => 0, g⟩ (fun r => (∀ c : Dev Cert.SampleInRefIdeal.nD,
      r.2.mem ((c.tc : Thread Cert.SampleInRefIdeal.nD Cert.SampleInRefIdeal.τ).loc Cert.SampleInRefIdeal.main_arg0) = m ((c.tc : Thread Cert.SampleInRefIdeal.nD Cert.SampleInRefIdeal.τ).loc Cert.SampleInRefIdeal.main_arg0)
      ∧ r.2.mem ((c.tc : Thread Cert.SampleInRefIdeal.nD Cert.SampleInRefIdeal.τ).loc Cert.SampleInRefIdeal.main_arg1) = m ((c.tc : Thread Cert.SampleInRefIdeal.nD Cert.SampleInRefIdeal.τ).loc Cert.SampleInRefIdeal.main_arg1)
      ∧ r.2.mem ((c.tc : Thread Cert.SampleInRefIdeal.nD Cert.SampleInRefIdeal.τ).loc Cert.SampleInRefIdeal.main_arg2) = m ((c.tc : Thread Cert.SampleInRefIdeal.nD Cert.SampleInRefIdeal.τ).loc Cert.SampleInRefIdeal.main_arg2)
      ∧ r.2.mem ((c.tc : Thread Cert.SampleInRefIdeal.nD Cert.SampleInRefIdeal.τ).loc Cert.SampleInRefIdeal.main_arg3) = m ((c.tc : Thread Cert.SampleInRefIdeal.nD Cert.SampleInRefIdeal.τ).loc Cert.SampleInRefIdeal.main_arg3)
      ∧ r.2.mem ((c.tc : Thread Cert.SampleInRefIdeal.nD Cert.SampleInRefIdeal.τ).loc Cert.SampleInRefIdeal.main_arg4) = m ((c.tc : Thread Cert.SampleInRefIdeal.nD Cert.SampleInRefIdeal.τ).loc Cert.SampleInRefIdeal.main_arg4)
      ∧ r.2.mem ((c.tc : Thread Cert.SampleInRefIdeal.nD Cert.SampleInRefIdeal.τ).loc Cert.SampleInRefIdeal.main_arg5) = m ((c.tc : Thread Cert.SampleInRefIdeal.nD Cert.SampleInRefIdeal.τ).loc Cert.SampleInRefIdeal.main_arg5)
      ∧ r.2.mem ((c.tc : Thread Cert.SampleInRefIdeal.nD Cert.SampleInRefIdeal.τ).loc Cert.SampleInRefIdeal.main_arg6) = m ((c.tc : Thread Cert.SampleInRefIdeal.nD Cert.SampleInRefIdeal.τ).loc Cert.SampleInRefIdeal.main_arg6)
      ∧ r.2.mem ((c.tc : Thread Cert.SampleInRefIdeal.nD Cert.SampleInRefIdeal.τ).loc Cert.SampleInRefIdeal.main_arg7) = m ((c.tc : Thread Cert.SampleInRefIdeal.nD Cert.SampleInRefIdeal.τ).loc Cert.SampleInRefIdeal.main_arg7))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13)
      ∧ r.2.mem ((c.tc : Thread Cert.TailRefIdeal.nD Cert.TailRefIdeal.τ).loc Cert.TailRefIdeal.main_arg14) = m ((c.tc : Thread Cert.TailRefIdeal.nD Cert.TailRefIdeal.τ).loc Cert.TailRefIdeal.main_arg14))
      ∧ r.2.sem = fun _ => 0)

def quiescent_PromptTail [hPromptTail : Cert.PromptTail.Facts] : Prop :=
  ∀ (m : (ℓ : Loc Cert.PromptTail.nD Cert.PromptTail.τ Cert.PromptTail.sig) → Buf (Elt Bits) ℓ) (g : Dev Cert.PromptTail.nD → PrngReg), Pre_PromptTail m →
    θ_run (Cert.PromptTail.defs (F := Bits)) (onTc (τ := Cert.PromptTail.τ) (Cert.PromptTail.main (F := Bits))) ⟨m, fun _ => 0, g⟩ (fun r => (∀ c : Dev Cert.PromptTail.nD,
      r.2.mem ((c.tc : Thread Cert.PromptTail.nD Cert.PromptTail.τ).loc Cert.PromptTail.main_arg0) = m ((c.tc : Thread Cert.PromptTail.nD Cert.PromptTail.τ).loc Cert.PromptTail.main_arg0)
      ∧ r.2.mem ((c.tc : Thread Cert.PromptTail.nD Cert.PromptTail.τ).loc Cert.PromptTail.main_arg1) = m ((c.tc : Thread Cert.PromptTail.nD Cert.PromptTail.τ).loc Cert.PromptTail.main_arg1)
      ∧ r.2.mem ((c.tc : Thread Cert.PromptTail.nD Cert.PromptTail.τ).loc Cert.PromptTail.main_arg2) = m ((c.tc : Thread Cert.PromptTail.nD Cert.PromptTail.τ).loc Cert.PromptTail.main_arg2)
      ∧ r.2.mem ((c.tc : Thread Cert.PromptTail.nD Cert.PromptTail.τ).loc Cert.PromptTail.main_arg3) = m ((c.tc : Thread Cert.PromptTail.nD Cert.PromptTail.τ).loc Cert.PromptTail.main_arg3)
      ∧ r.2.mem ((c.tc : Thread Cert.PromptTail.nD Cert.PromptTail.τ).loc Cert.PromptTail.main_arg4) = m ((c.tc : Thread Cert.PromptTail.nD Cert.PromptTail.τ).loc Cert.PromptTail.main_arg4)
      ∧ r.2.mem ((c.tc : Thread Cert.PromptTail.nD Cert.PromptTail.τ).loc Cert.PromptTail.main_arg5) = m ((c.tc : Thread Cert.PromptTail.nD Cert.PromptTail.τ).loc Cert.PromptTail.main_arg5)
      ∧ r.2.mem ((c.tc : Thread Cert.PromptTail.nD Cert.PromptTail.τ).loc Cert.PromptTail.main_arg6) = m ((c.tc : Thread Cert.PromptTail.nD Cert.PromptTail.τ).loc Cert.PromptTail.main_arg6)
      ∧ r.2.mem ((c.tc : Thread Cert.PromptTail.nD Cert.PromptTail.τ).loc Cert.PromptTail.main_arg7) = m ((c.tc : Thread Cert.PromptTail.nD Cert.PromptTail.τ).loc Cert.PromptTail.main_arg7)
      ∧ r.2.mem ((c.tc : Thread Cert.PromptTail.nD Cert.PromptTail.τ).loc Cert.PromptTail.main_arg8) = m ((c.tc : Thread Cert.PromptTail.nD Cert.PromptTail.τ).loc Cert.PromptTail.main_arg8)
      ∧ r.2.mem ((c.tc : Thread Cert.PromptTail.nD Cert.PromptTail.τ).loc Cert.PromptTail.main_arg9) = m ((c.tc : Thread Cert.PromptTail.nD Cert.PromptTail.τ).loc Cert.PromptTail.main_arg9)
      ∧ r.2.mem ((c.tc : Thread Cert.PromptTail.nD Cert.PromptTail.τ).loc Cert.PromptTail.main_arg10) = m ((c.tc : Thread Cert.PromptTail.nD Cert.PromptTail.τ).loc Cert.PromptTail.main_arg10)
      ∧ r.2.mem ((c.tc : Thread Cert.PromptTail.nD Cert.PromptTail.τ).loc Cert.PromptTail.main_arg11) = m ((c.tc : Thread Cert.PromptTail.nD Cert.PromptTail.τ).loc Cert.PromptTail.main_arg11)
      ∧ r.2.mem ((c.tc : Thread Cert.PromptTail.nD Cert.PromptTail.τ).loc Cert.PromptTail.main_arg12) = m ((c.tc : Thread Cert.PromptTail.nD Cert.PromptTail.τ).loc Cert.PromptTail.main_arg12)
      ∧ r.2.mem ((c.tc : Thread Cert.PromptTail.nD Cert.PromptTail.τ).loc Cert.PromptTail.main_arg13) = m ((c.tc : Thread Cert.PromptTail.nD Cert.PromptTail.τ).loc Cert.PromptTail.main_arg13)
      ∧ r.2.mem ((c.tc : Thread Cert.PromptTail.nD Cert.PromptTail.τ).loc Cert.PromptTail.main_arg14) = m ((c.tc : Thread Cert.PromptTail.nD Cert.PromptTail.τ).loc Cert.PromptTail.main_arg14))
      ∧ r.2.sem = fun _ => 0)

def quiescent_PromptTailIdeal [hPromptTailIdeal : Cert.PromptTailIdeal.Facts] : Prop :=
  ∀ (m : (ℓ : Loc Cert.PromptTailIdeal.nD Cert.PromptTailIdeal.τ Cert.PromptTailIdeal.sig) → Buf (Elt Ideal) ℓ) (g : Dev Cert.PromptTailIdeal.nD → PrngReg), Pre_PromptTailIdeal m →
    θ_run (Cert.PromptTailIdeal.defs (F := Ideal)) (onTc (τ := Cert.PromptTailIdeal.τ) (Cert.PromptTailIdeal.main (F := Ideal))) ⟨m, fun _ => 0, g⟩ (fun r => (∀ c : Dev Cert.PromptTailIdeal.nD,
      r.2.mem ((c.tc : Thread Cert.PromptTailIdeal.nD Cert.PromptTailIdeal.τ).loc Cert.PromptTailIdeal.main_arg0) = m ((c.tc : Thread Cert.PromptTailIdeal.nD Cert.PromptTailIdeal.τ).loc Cert.PromptTailIdeal.main_arg0)
      ∧ r.2.mem ((c.tc : Thread Cert.PromptTailIdeal.nD Cert.PromptTailIdeal.τ).loc Cert.PromptTailIdeal.main_arg1) = m ((c.tc : Thread Cert.PromptTailIdeal.nD Cert.PromptTailIdeal.τ).loc Cert.PromptTailIdeal.main_arg1)
      ∧ r.2.mem ((c.tc : Thread Cert.PromptTailIdeal.nD Cert.PromptTailIdeal.τ).loc Cert.PromptTailIdeal.main_arg2) = m ((c.tc : Thread Cert.PromptTailIdeal.nD Cert.PromptTailIdeal.τ).loc Cert.PromptTailIdeal.main_arg2)
      ∧ r.2.mem ((c.tc : Thread Cert.PromptTailIdeal.nD Cert.PromptTailIdeal.τ).loc Cert.PromptTailIdeal.main_arg3) = m ((c.tc : Thread Cert.PromptTailIdeal.nD Cert.PromptTailIdeal.τ).loc Cert.PromptTailIdeal.main_arg3)
      ∧ r.2.mem ((c.tc : Thread Cert.PromptTailIdeal.nD Cert.PromptTailIdeal.τ).loc Cert.PromptTailIdeal.main_arg4) = m ((c.tc : Thread Cert.PromptTailIdeal.nD Cert.PromptTailIdeal.τ).loc Cert.PromptTailIdeal.main_arg4)
      ∧ r.2.mem ((c.tc : Thread Cert.PromptTailIdeal.nD Cert.PromptTailIdeal.τ).loc Cert.PromptTailIdeal.main_arg5) = m ((c.tc : Thread Cert.PromptTailIdeal.nD Cert.PromptTailIdeal.τ).loc Cert.PromptTailIdeal.main_arg5)
      ∧ r.2.mem ((c.tc : Thread Cert.PromptTailIdeal.nD Cert.PromptTailIdeal.τ).loc Cert.PromptTailIdeal.main_arg6) = m ((c.tc : Thread Cert.PromptTailIdeal.nD Cert.PromptTailIdeal.τ).loc Cert.PromptTailIdeal.main_arg6)
      ∧ r.2.mem ((c.tc : Thread Cert.PromptTailIdeal.nD Cert.PromptTailIdeal.τ).loc Cert.PromptTailIdeal.main_arg7) = m ((c.tc : Thread Cert.PromptTailIdeal.nD Cert.PromptTailIdeal.τ).loc Cert.PromptTailIdeal.main_arg7)
      ∧ r.2.mem ((c.tc : Thread Cert.PromptTailIdeal.nD Cert.PromptTailIdeal.τ).loc Cert.PromptTailIdeal.main_arg8) = m ((c.tc : Thread Cert.PromptTailIdeal.nD Cert.PromptTailIdeal.τ).loc Cert.PromptTailIdeal.main_arg8)
      ∧ r.2.mem ((c.tc : Thread Cert.PromptTailIdeal.nD Cert.PromptTailIdeal.τ).loc Cert.PromptTailIdeal.main_arg9) = m ((c.tc : Thread Cert.PromptTailIdeal.nD Cert.PromptTailIdeal.τ).loc Cert.PromptTailIdeal.main_arg9)
      ∧ r.2.mem ((c.tc : Thread Cert.PromptTailIdeal.nD Cert.PromptTailIdeal.τ).loc Cert.PromptTailIdeal.main_arg10) = m ((c.tc : Thread Cert.PromptTailIdeal.nD Cert.PromptTailIdeal.τ).loc Cert.PromptTailIdeal.main_arg10)
      ∧ r.2.mem ((c.tc : Thread Cert.PromptTailIdeal.nD Cert.PromptTailIdeal.τ).loc Cert.PromptTailIdeal.main_arg11) = m ((c.tc : Thread Cert.PromptTailIdeal.nD Cert.PromptTailIdeal.τ).loc Cert.PromptTailIdeal.main_arg11)
      ∧ r.2.mem ((c.tc : Thread Cert.PromptTailIdeal.nD Cert.PromptTailIdeal.τ).loc Cert.PromptTailIdeal.main_arg12) = m ((c.tc : Thread Cert.PromptTailIdeal.nD Cert.PromptTailIdeal.τ).loc Cert.PromptTailIdeal.main_arg12)
      ∧ r.2.mem ((c.tc : Thread Cert.PromptTailIdeal.nD Cert.PromptTailIdeal.τ).loc Cert.PromptTailIdeal.main_arg13) = m ((c.tc : Thread Cert.PromptTailIdeal.nD Cert.PromptTailIdeal.τ).loc Cert.PromptTailIdeal.main_arg13)
      ∧ r.2.mem ((c.tc : Thread Cert.PromptTailIdeal.nD Cert.PromptTailIdeal.τ).loc Cert.PromptTailIdeal.main_arg14) = m ((c.tc : Thread Cert.PromptTailIdeal.nD Cert.PromptTailIdeal.τ).loc Cert.PromptTailIdeal.main_arg14))
      ∧ r.2.sem = fun _ => 0)

def quiescent_PromptTailRefIdeal [hPromptTailRefIdeal : Cert.PromptTailRefIdeal.Facts] : Prop :=
  ∀ (m : (ℓ : Loc Cert.PromptTailRefIdeal.nD Cert.PromptTailRefIdeal.τ Cert.PromptTailRefIdeal.sig) → Buf (Elt Ideal) ℓ) (g : Dev Cert.PromptTailRefIdeal.nD → PrngReg), Pre_PromptTailRefIdeal m →
    θ_run (Cert.PromptTailRefIdeal.defs (F := Ideal)) (onTc (τ := Cert.PromptTailRefIdeal.τ) (Cert.PromptTailRefIdeal.main (F := Ideal))) ⟨m, fun _ => 0, g⟩ (fun r => (∀ c : Dev Cert.PromptTailRefIdeal.nD,
      r.2.mem ((c.tc : Thread Cert.PromptTailRefIdeal.nD Cert.PromptTailRefIdeal.τ).loc Cert.PromptTailRefIdeal.main_arg0) = m ((c.tc : Thread Cert.PromptTailRefIdeal.nD Cert.PromptTailRefIdeal.τ).loc Cert.PromptTailRefIdeal.main_arg0)
      ∧ r.2.mem ((c.tc : Thread Cert.PromptTailRefIdeal.nD Cert.PromptTailRefIdeal.τ).loc Cert.PromptTailRefIdeal.main_arg1) = m ((c.tc : Thread Cert.PromptTailRefIdeal.nD Cert.PromptTailRefIdeal.τ).loc Cert.PromptTailRefIdeal.main_arg1)
      ∧ r.2.mem ((c.tc : Thread Cert.PromptTailRefIdeal.nD Cert.PromptTailRefIdeal.τ).loc Cert.PromptTailRefIdeal.main_arg2) = m ((c.tc : Thread Cert.PromptTailRefIdeal.nD Cert.PromptTailRefIdeal.τ).loc Cert.PromptTailRefIdeal.main_arg2)
      ∧ r.2.mem ((c.tc : Thread Cert.PromptTailRefIdeal.nD Cert.PromptTailRefIdeal.τ).loc Cert.PromptTailRefIdeal.main_arg3) = m ((c.tc : Thread Cert.PromptTailRefIdeal.nD Cert.PromptTailRefIdeal.τ).loc Cert.PromptTailRefIdeal.main_arg3)
      ∧ r.2.mem ((c.tc : Thread Cert.PromptTailRefIdeal.nD Cert.PromptTailRefIdeal.τ).loc Cert.PromptTailRefIdeal.main_arg4) = m ((c.tc : Thread Cert.PromptTailRefIdeal.nD Cert.PromptTailRefIdeal.τ).loc Cert.PromptTailRefIdeal.main_arg4)
      ∧ r.2.mem ((c.tc : Thread Cert.PromptTailRefIdeal.nD Cert.PromptTailRefIdeal.τ).loc Cert.PromptTailRefIdeal.main_arg5) = m ((c.tc : Thread Cert.PromptTailRefIdeal.nD Cert.PromptTailRefIdeal.τ).loc Cert.PromptTailRefIdeal.main_arg5)
      ∧ r.2.mem ((c.tc : Thread Cert.PromptTailRefIdeal.nD Cert.PromptTailRefIdeal.τ).loc Cert.PromptTailRefIdeal.main_arg6) = m ((c.tc : Thread Cert.PromptTailRefIdeal.nD Cert.PromptTailRefIdeal.τ).loc Cert.PromptTailRefIdeal.main_arg6)
      ∧ r.2.mem ((c.tc : Thread Cert.PromptTailRefIdeal.nD Cert.PromptTailRefIdeal.τ).loc Cert.PromptTailRefIdeal.main_arg7) = m ((c.tc : Thread Cert.PromptTailRefIdeal.nD Cert.PromptTailRefIdeal.τ).loc Cert.PromptTailRefIdeal.main_arg7)
      ∧ r.2.mem ((c.tc : Thread Cert.PromptTailRefIdeal.nD Cert.PromptTailRefIdeal.τ).loc Cert.PromptTailRefIdeal.main_arg8) = m ((c.tc : Thread Cert.PromptTailRefIdeal.nD Cert.PromptTailRefIdeal.τ).loc Cert.PromptTailRefIdeal.main_arg8)
      ∧ r.2.mem ((c.tc : Thread Cert.PromptTailRefIdeal.nD Cert.PromptTailRefIdeal.τ).loc Cert.PromptTailRefIdeal.main_arg9) = m ((c.tc : Thread Cert.PromptTailRefIdeal.nD Cert.PromptTailRefIdeal.τ).loc Cert.PromptTailRefIdeal.main_arg9)
      ∧ r.2.mem ((c.tc : Thread Cert.PromptTailRefIdeal.nD Cert.PromptTailRefIdeal.τ).loc Cert.PromptTailRefIdeal.main_arg10) = m ((c.tc : Thread Cert.PromptTailRefIdeal.nD Cert.PromptTailRefIdeal.τ).loc Cert.PromptTailRefIdeal.main_arg10)
      ∧ r.2.mem ((c.tc : Thread Cert.PromptTailRefIdeal.nD Cert.PromptTailRefIdeal.τ).loc Cert.PromptTailRefIdeal.main_arg11) = m ((c.tc : Thread Cert.PromptTailRefIdeal.nD Cert.PromptTailRefIdeal.τ).loc Cert.PromptTailRefIdeal.main_arg11)
      ∧ r.2.mem ((c.tc : Thread Cert.PromptTailRefIdeal.nD Cert.PromptTailRefIdeal.τ).loc Cert.PromptTailRefIdeal.main_arg12) = m ((c.tc : Thread Cert.PromptTailRefIdeal.nD Cert.PromptTailRefIdeal.τ).loc Cert.PromptTailRefIdeal.main_arg12)
      ∧ r.2.mem ((c.tc : Thread Cert.PromptTailRefIdeal.nD Cert.PromptTailRefIdeal.τ).loc Cert.PromptTailRefIdeal.main_arg13) = m ((c.tc : Thread Cert.PromptTailRefIdeal.nD Cert.PromptTailRefIdeal.τ).loc Cert.PromptTailRefIdeal.main_arg13)
      ∧ r.2.mem ((c.tc : Thread Cert.PromptTailRefIdeal.nD Cert.PromptTailRefIdeal.τ).loc Cert.PromptTailRefIdeal.main_arg14) = m ((c.tc : Thread Cert.PromptTailRefIdeal.nD Cert.PromptTailRefIdeal.τ).loc Cert.PromptTailRefIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_3)) (v3 : (c : Dev Cert.KernelIdeal.nD) → Buf (Elt Ideal) ((c.tc : Thread Cert.KernelIdeal.nD Cert.KernelIdeal.τ).loc Cert.KernelIdeal.main_v11_4)) (v4 : (c : Dev Cert.KernelIdeal.nD) → Buf (Elt Ideal) ((c.tc : Thread Cert.KernelIdeal.nD Cert.KernelIdeal.τ).loc Cert.KernelIdeal.main_v11_5)) (v5 : (c : Dev Cert.KernelIdeal.nD) → Buf (Elt Ideal) ((c.tc : Thread Cert.KernelIdeal.nD Cert.KernelIdeal.τ).loc Cert.KernelIdeal.main_v11_6)) (v6 : (c : Dev Cert.KernelIdeal.nD) → Buf (Elt Ideal) ((c.tc : Thread Cert.KernelIdeal.nD Cert.KernelIdeal.τ).loc Cert.KernelIdeal.main_v11_7)) (v7 : (c : Dev Cert.KernelIdeal.nD) → Buf (Elt Ideal) ((c.tc : Thread Cert.KernelIdeal.nD Cert.KernelIdeal.τ).loc Cert.KernelIdeal.main_v11_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_3) = v2 c
          ∧ r.2.mem ((c.tc : Thread Cert.KernelIdeal.nD Cert.KernelIdeal.τ).loc Cert.KernelIdeal.main_v11_4) = v3 c
          ∧ r.2.mem ((c.tc : Thread Cert.KernelIdeal.nD Cert.KernelIdeal.τ).loc Cert.KernelIdeal.main_v11_5) = v4 c
          ∧ r.2.mem ((c.tc : Thread Cert.KernelIdeal.nD Cert.KernelIdeal.τ).loc Cert.KernelIdeal.main_v11_6) = v5 c
          ∧ r.2.mem ((c.tc : Thread Cert.KernelIdeal.nD Cert.KernelIdeal.τ).loc Cert.KernelIdeal.main_v11_7) = v6 c
          ∧ r.2.mem ((c.tc : Thread Cert.KernelIdeal.nD Cert.KernelIdeal.τ).loc Cert.KernelIdeal.main_v11_8) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_v178) = v1 c
          ∧ r.2.mem ((c.tc : Thread Cert.ReferenceIdeal.nD Cert.ReferenceIdeal.τ).loc Cert.ReferenceIdeal.main_v187) = v2 c
          ∧ r.2.mem ((c.tc : Thread Cert.ReferenceIdeal.nD Cert.ReferenceIdeal.τ).loc Cert.ReferenceIdeal.main_v188) = v3 c
          ∧ r.2.mem ((c.tc : Thread Cert.ReferenceIdeal.nD Cert.ReferenceIdeal.τ).loc Cert.ReferenceIdeal.main_v189) = v4 c
          ∧ r.2.mem ((c.tc : Thread Cert.ReferenceIdeal.nD Cert.ReferenceIdeal.τ).loc Cert.ReferenceIdeal.main_v196) = v5 c
          ∧ r.2.mem ((c.tc : Thread Cert.ReferenceIdeal.nD Cert.ReferenceIdeal.τ).loc Cert.ReferenceIdeal.main_v203) = v6 c
          ∧ r.2.mem ((c.tc : Thread Cert.ReferenceIdeal.nD Cert.ReferenceIdeal.τ).loc Cert.ReferenceIdeal.main_v204) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_SampleIn_SampleInIdeal : Prop :=
  True

def algebraic_SampleInIdeal_SampleInRefIdeal [hSampleInIdeal : Cert.SampleInIdeal.Facts] [hSampleInRefIdeal : Cert.SampleInRefIdeal.Facts] : Prop :=
  ∀ (m : (ℓ : Loc Cert.SampleInIdeal.nD Cert.SampleInIdeal.τ Cert.SampleInIdeal.sig) → Buf (Elt Ideal) ℓ) (g : Dev Cert.SampleInIdeal.nD → PrngReg)
    (m' : (ℓ : Loc Cert.SampleInRefIdeal.nD Cert.SampleInRefIdeal.τ Cert.SampleInRefIdeal.sig) → Buf (Elt Ideal) ℓ) (g' : Dev Cert.SampleInRefIdeal.nD → PrngReg), Pre_SampleInIdeal m →
    (∀ c : Dev Cert.SampleInIdeal.nD,
      m' ((c.tc : Thread Cert.SampleInRefIdeal.nD Cert.SampleInRefIdeal.τ).loc Cert.SampleInRefIdeal.main_arg0) = m ((c.tc : Thread Cert.SampleInIdeal.nD Cert.SampleInIdeal.τ).loc Cert.SampleInIdeal.main_arg0)
      ∧ m' ((c.tc : Thread Cert.SampleInRefIdeal.nD Cert.SampleInRefIdeal.τ).loc Cert.SampleInRefIdeal.main_arg1) = m ((c.tc : Thread Cert.SampleInIdeal.nD Cert.SampleInIdeal.τ).loc Cert.SampleInIdeal.main_arg1)
      ∧ m' ((c.tc : Thread Cert.SampleInRefIdeal.nD Cert.SampleInRefIdeal.τ).loc Cert.SampleInRefIdeal.main_arg2) = m ((c.tc : Thread Cert.SampleInIdeal.nD Cert.SampleInIdeal.τ).loc Cert.SampleInIdeal.main_arg2)
      ∧ m' ((c.tc : Thread Cert.SampleInRefIdeal.nD Cert.SampleInRefIdeal.τ).loc Cert.SampleInRefIdeal.main_arg3) = m ((c.tc : Thread Cert.SampleInIdeal.nD Cert.SampleInIdeal.τ).loc Cert.SampleInIdeal.main_arg3)
      ∧ m' ((c.tc : Thread Cert.SampleInRefIdeal.nD Cert.SampleInRefIdeal.τ).loc Cert.SampleInRefIdeal.main_arg4) = m ((c.tc : Thread Cert.SampleInIdeal.nD Cert.SampleInIdeal.τ).loc Cert.SampleInIdeal.main_arg4)
      ∧ m' ((c.tc : Thread Cert.SampleInRefIdeal.nD Cert.SampleInRefIdeal.τ).loc Cert.SampleInRefIdeal.main_arg5) = m ((c.tc : Thread Cert.SampleInIdeal.nD Cert.SampleInIdeal.τ).loc Cert.SampleInIdeal.main_arg5)
      ∧ m' ((c.tc : Thread Cert.SampleInRefIdeal.nD Cert.SampleInRefIdeal.τ).loc Cert.SampleInRefIdeal.main_arg6) = m ((c.tc : Thread Cert.SampleInIdeal.nD Cert.SampleInIdeal.τ).loc Cert.SampleInIdeal.main_arg6)
      ∧ m' ((c.tc : Thread Cert.SampleInRefIdeal.nD Cert.SampleInRefIdeal.τ).loc Cert.SampleInRefIdeal.main_arg7) = m ((c.tc : Thread Cert.SampleInIdeal.nD Cert.SampleInIdeal.τ).loc Cert.SampleInIdeal.main_arg7)) →
    ∃ (v0 : (c : Dev Cert.SampleInIdeal.nD) → Buf (Elt Ideal) ((c.tc : Thread Cert.SampleInIdeal.nD Cert.SampleInIdeal.τ).loc Cert.SampleInIdeal.main_v14_0)) (v1 : (c : Dev Cert.SampleInIdeal.nD) → Buf (Elt Ideal) ((c.tc : Thread Cert.SampleInIdeal.nD Cert.SampleInIdeal.τ).loc Cert.SampleInIdeal.main_v14_1)) (v2 : (c : Dev Cert.SampleInIdeal.nD) → Buf (Elt Ideal) ((c.tc : Thread Cert.SampleInIdeal.nD Cert.SampleInIdeal.τ).loc Cert.SampleInIdeal.main_v14_2)) (v3 : (c : Dev Cert.SampleInIdeal.nD) → Buf (Elt Ideal) ((c.tc : Thread Cert.SampleInIdeal.nD Cert.SampleInIdeal.τ).loc Cert.SampleInIdeal.main_v14_3)) (v4 : (c : Dev Cert.SampleInIdeal.nD) → Buf (Elt Ideal) ((c.tc : Thread Cert.SampleInIdeal.nD Cert.SampleInIdeal.τ).loc Cert.SampleInIdeal.main_v14_4)) (v5 : (c : Dev Cert.SampleInIdeal.nD) → Buf (Elt Ideal) ((c.tc : Thread Cert.SampleInIdeal.nD Cert.SampleInIdeal.τ).loc Cert.SampleInIdeal.main_v14_5)) (v6 : (c : Dev Cert.SampleInIdeal.nD) → Buf (Elt Ideal) ((c.tc : Thread Cert.SampleInIdeal.nD Cert.SampleInIdeal.τ).loc Cert.SampleInIdeal.main_v14_6)),
      θ_run (Cert.SampleInIdeal.defs (F := Ideal)) (onTc (τ := Cert.SampleInIdeal.τ) (Cert.SampleInIdeal.main (F := Ideal))) ⟨m, fun _ => 0, g⟩ (fun r => ∀ c : Dev Cert.SampleInIdeal.nD,
          r.2.mem ((c.tc : Thread Cert.SampleInIdeal.nD Cert.SampleInIdeal.τ).loc Cert.SampleInIdeal.main_v14_0) = v0 c
          ∧ r.2.mem ((c.tc : Thread Cert.SampleInIdeal.nD Cert.SampleInIdeal.τ).loc Cert.SampleInIdeal.main_v14_1) = v1 c
          ∧ r.2.mem ((c.tc : Thread Cert.SampleInIdeal.nD Cert.SampleInIdeal.τ).loc Cert.SampleInIdeal.main_v14_2) = v2 c
          ∧ r.2.mem ((c.tc : Thread Cert.SampleInIdeal.nD Cert.SampleInIdeal.τ).loc Cert.SampleInIdeal.main_v14_3) = v3 c
          ∧ r.2.mem ((c.tc : Thread Cert.SampleInIdeal.nD Cert.SampleInIdeal.τ).loc Cert.SampleInIdeal.main_v14_4) = v4 c
          ∧ r.2.mem ((c.tc : Thread Cert.SampleInIdeal.nD Cert.SampleInIdeal.τ).loc Cert.SampleInIdeal.main_v14_5) = v5 c
          ∧ r.2.mem ((c.tc : Thread Cert.SampleInIdeal.nD Cert.SampleInIdeal.τ).loc Cert.SampleInIdeal.main_v14_6) = v6 c
          ∧ r.2.mem ((c.tc : Thread Cert.SampleInIdeal.nD Cert.SampleInIdeal.τ).loc Cert.SampleInIdeal.main_arg0) = m ((c.tc : Thread Cert.SampleInIdeal.nD Cert.SampleInIdeal.τ).loc Cert.SampleInIdeal.main_arg0)
          ∧ r.2.mem ((c.tc : Thread Cert.SampleInIdeal.nD Cert.SampleInIdeal.τ).loc Cert.SampleInIdeal.main_arg1) = m ((c.tc : Thread Cert.SampleInIdeal.nD Cert.SampleInIdeal.τ).loc Cert.SampleInIdeal.main_arg1)
          ∧ r.2.mem ((c.tc : Thread Cert.SampleInIdeal.nD Cert.SampleInIdeal.τ).loc Cert.SampleInIdeal.main_arg2) = m ((c.tc : Thread Cert.SampleInIdeal.nD Cert.SampleInIdeal.τ).loc Cert.SampleInIdeal.main_arg2)
          ∧ r.2.mem ((c.tc : Thread Cert.SampleInIdeal.nD Cert.SampleInIdeal.τ).loc Cert.SampleInIdeal.main_arg3) = m ((c.tc : Thread Cert.SampleInIdeal.nD Cert.SampleInIdeal.τ).loc Cert.SampleInIdeal.main_arg3)
          ∧ r.2.mem ((c.tc : Thread Cert.SampleInIdeal.nD Cert.SampleInIdeal.τ).loc Cert.SampleInIdeal.main_arg4) = m ((c.tc : Thread Cert.SampleInIdeal.nD Cert.SampleInIdeal.τ).loc Cert.SampleInIdeal.main_arg4)
          ∧ r.2.mem ((c.tc : Thread Cert.SampleInIdeal.nD Cert.SampleInIdeal.τ).loc Cert.SampleInIdeal.main_arg5) = m ((c.tc : Thread Cert.SampleInIdeal.nD Cert.SampleInIdeal.τ).loc Cert.SampleInIdeal.main_arg5)
          ∧ r.2.mem ((c.tc : Thread Cert.SampleInIdeal.nD Cert.SampleInIdeal.τ).loc Cert.SampleInIdeal.main_arg6) = m ((c.tc : Thread Cert.SampleInIdeal.nD Cert.SampleInIdeal.τ).loc Cert.SampleInIdeal.main_arg6)
          ∧ r.2.mem ((c.tc : Thread Cert.SampleInIdeal.nD Cert.SampleInIdeal.τ).loc Cert.SampleInIdeal.main_arg7) = m ((c.tc : Thread Cert.SampleInIdeal.nD Cert.SampleInIdeal.τ).loc Cert.SampleInIdeal.main_arg7))
      ∧ θ_run (Cert.SampleInRefIdeal.defs (F := Ideal)) (onTc (τ := Cert.SampleInRefIdeal.τ) (Cert.SampleInRefIdeal.main (F := Ideal))) ⟨m', fun _ => 0, g'⟩ (fun r => ∀ c : Dev Cert.SampleInRefIdeal.nD,
          r.2.mem ((c.tc : Thread Cert.SampleInRefIdeal.nD Cert.SampleInRefIdeal.τ).loc Cert.SampleInRefIdeal.main_v176) = v0 c
          ∧ r.2.mem ((c.tc : Thread Cert.SampleInRefIdeal.nD Cert.SampleInRefIdeal.τ).loc Cert.SampleInRefIdeal.main_v177) = v1 c
          ∧ r.2.mem ((c.tc : Thread Cert.SampleInRefIdeal.nD Cert.SampleInRefIdeal.τ).loc Cert.SampleInRefIdeal.main_v175) = v2 c
          ∧ r.2.mem ((c.tc : Thread Cert.SampleInRefIdeal.nD Cert.SampleInRefIdeal.τ).loc Cert.SampleInRefIdeal.main_v179) = v3 c
          ∧ r.2.mem ((c.tc : Thread Cert.SampleInRefIdeal.nD Cert.SampleInRefIdeal.τ).loc Cert.SampleInRefIdeal.main_v187) = v4 c
          ∧ r.2.mem ((c.tc : Thread Cert.SampleInRefIdeal.nD Cert.SampleInRefIdeal.τ).loc Cert.SampleInRefIdeal.main_v195) = v5 c
          ∧ r.2.mem ((c.tc : Thread Cert.SampleInRefIdeal.nD Cert.SampleInRefIdeal.τ).loc Cert.SampleInRefIdeal.main_v197) = v6 c
          ∧ r.2.mem ((c.tc : Thread Cert.SampleInRefIdeal.nD Cert.SampleInRefIdeal.τ).loc Cert.SampleInRefIdeal.main_arg0) = m' ((c.tc : Thread Cert.SampleInRefIdeal.nD Cert.SampleInRefIdeal.τ).loc Cert.SampleInRefIdeal.main_arg0)
          ∧ r.2.mem ((c.tc : Thread Cert.SampleInRefIdeal.nD Cert.SampleInRefIdeal.τ).loc Cert.SampleInRefIdeal.main_arg1) = m' ((c.tc : Thread Cert.SampleInRefIdeal.nD Cert.SampleInRefIdeal.τ).loc Cert.SampleInRefIdeal.main_arg1)
          ∧ r.2.mem ((c.tc : Thread Cert.SampleInRefIdeal.nD Cert.SampleInRefIdeal.τ).loc Cert.SampleInRefIdeal.main_arg2) = m' ((c.tc : Thread Cert.SampleInRefIdeal.nD Cert.SampleInRefIdeal.τ).loc Cert.SampleInRefIdeal.main_arg2)
          ∧ r.2.mem ((c.tc : Thread Cert.SampleInRefIdeal.nD Cert.SampleInRefIdeal.τ).loc Cert.SampleInRefIdeal.main_arg3) = m' ((c.tc : Thread Cert.SampleInRefIdeal.nD Cert.SampleInRefIdeal.τ).loc Cert.SampleInRefIdeal.main_arg3)
          ∧ r.2.mem ((c.tc : Thread Cert.SampleInRefIdeal.nD Cert.SampleInRefIdeal.τ).loc Cert.SampleInRefIdeal.main_arg4) = m' ((c.tc : Thread Cert.SampleInRefIdeal.nD Cert.SampleInRefIdeal.τ).loc Cert.SampleInRefIdeal.main_arg4)
          ∧ r.2.mem ((c.tc : Thread Cert.SampleInRefIdeal.nD Cert.SampleInRefIdeal.τ).loc Cert.SampleInRefIdeal.main_arg5) = m' ((c.tc : Thread Cert.SampleInRefIdeal.nD Cert.SampleInRefIdeal.τ).loc Cert.SampleInRefIdeal.main_arg5)
          ∧ r.2.mem ((c.tc : Thread Cert.SampleInRefIdeal.nD Cert.SampleInRefIdeal.τ).loc Cert.SampleInRefIdeal.main_arg6) = m' ((c.tc : Thread Cert.SampleInRefIdeal.nD Cert.SampleInRefIdeal.τ).loc Cert.SampleInRefIdeal.main_arg6)
          ∧ r.2.mem ((c.tc : Thread Cert.SampleInRefIdeal.nD Cert.SampleInRefIdeal.τ).loc Cert.SampleInRefIdeal.main_arg7) = m' ((c.tc : Thread Cert.SampleInRefIdeal.nD Cert.SampleInRefIdeal.τ).loc Cert.SampleInRefIdeal.main_arg7))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)
      ∧ m' ((c.tc : Thread Cert.TailRefIdeal.nD Cert.TailRefIdeal.τ).loc Cert.TailRefIdeal.main_arg13) = m ((c.tc : Thread Cert.TailIdeal.nD Cert.TailIdeal.τ).loc Cert.TailIdeal.main_arg13)
      ∧ m' ((c.tc : Thread Cert.TailRefIdeal.nD Cert.TailRefIdeal.τ).loc Cert.TailRefIdeal.main_arg14) = m ((c.tc : Thread Cert.TailIdeal.nD Cert.TailIdeal.τ).loc Cert.TailIdeal.main_arg14)) →
    ∃ (v0 : (c : Dev Cert.TailIdeal.nD) → Buf (Elt Ideal) ((c.tc : Thread Cert.TailIdeal.nD Cert.TailIdeal.τ).loc Cert.TailIdeal.main_v23)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v23) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v64) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12)
          ∧ r.2.mem ((c.tc : Thread Cert.TailRefIdeal.nD Cert.TailRefIdeal.τ).loc Cert.TailRefIdeal.main_arg13) = m' ((c.tc : Thread Cert.TailRefIdeal.nD Cert.TailRefIdeal.τ).loc Cert.TailRefIdeal.main_arg13)
          ∧ r.2.mem ((c.tc : Thread Cert.TailRefIdeal.nD Cert.TailRefIdeal.τ).loc Cert.TailRefIdeal.main_arg14) = m' ((c.tc : Thread Cert.TailRefIdeal.nD Cert.TailRefIdeal.τ).loc Cert.TailRefIdeal.main_arg14))

def preserves_PromptTail_PromptTailIdeal : Prop :=
  True

def algebraic_PromptTailIdeal_PromptTailRefIdeal [hPromptTailIdeal : Cert.PromptTailIdeal.Facts] [hPromptTailRefIdeal : Cert.PromptTailRefIdeal.Facts] : Prop :=
  ∀ (m : (ℓ : Loc Cert.PromptTailIdeal.nD Cert.PromptTailIdeal.τ Cert.PromptTailIdeal.sig) → Buf (Elt Ideal) ℓ) (g : Dev Cert.PromptTailIdeal.nD → PrngReg)
    (m' : (ℓ : Loc Cert.PromptTailRefIdeal.nD Cert.PromptTailRefIdeal.τ Cert.PromptTailRefIdeal.sig) → Buf (Elt Ideal) ℓ) (g' : Dev Cert.PromptTailRefIdeal.nD → PrngReg), Pre_PromptTailIdeal m →
    (∀ c : Dev Cert.PromptTailIdeal.nD,
      m' ((c.tc : Thread Cert.PromptTailRefIdeal.nD Cert.PromptTailRefIdeal.τ).loc Cert.PromptTailRefIdeal.main_arg0) = m ((c.tc : Thread Cert.PromptTailIdeal.nD Cert.PromptTailIdeal.τ).loc Cert.PromptTailIdeal.main_arg0)
      ∧ m' ((c.tc : Thread Cert.PromptTailRefIdeal.nD Cert.PromptTailRefIdeal.τ).loc Cert.PromptTailRefIdeal.main_arg1) = m ((c.tc : Thread Cert.PromptTailIdeal.nD Cert.PromptTailIdeal.τ).loc Cert.PromptTailIdeal.main_arg1)
      ∧ m' ((c.tc : Thread Cert.PromptTailRefIdeal.nD Cert.PromptTailRefIdeal.τ).loc Cert.PromptTailRefIdeal.main_arg2) = m ((c.tc : Thread Cert.PromptTailIdeal.nD Cert.PromptTailIdeal.τ).loc Cert.PromptTailIdeal.main_arg2)
      ∧ m' ((c.tc : Thread Cert.PromptTailRefIdeal.nD Cert.PromptTailRefIdeal.τ).loc Cert.PromptTailRefIdeal.main_arg3) = m ((c.tc : Thread Cert.PromptTailIdeal.nD Cert.PromptTailIdeal.τ).loc Cert.PromptTailIdeal.main_arg3)
      ∧ m' ((c.tc : Thread Cert.PromptTailRefIdeal.nD Cert.PromptTailRefIdeal.τ).loc Cert.PromptTailRefIdeal.main_arg4) = m ((c.tc : Thread Cert.PromptTailIdeal.nD Cert.PromptTailIdeal.τ).loc Cert.PromptTailIdeal.main_arg4)
      ∧ m' ((c.tc : Thread Cert.PromptTailRefIdeal.nD Cert.PromptTailRefIdeal.τ).loc Cert.PromptTailRefIdeal.main_arg5) = m ((c.tc : Thread Cert.PromptTailIdeal.nD Cert.PromptTailIdeal.τ).loc Cert.PromptTailIdeal.main_arg5)
      ∧ m' ((c.tc : Thread Cert.PromptTailRefIdeal.nD Cert.PromptTailRefIdeal.τ).loc Cert.PromptTailRefIdeal.main_arg6) = m ((c.tc : Thread Cert.PromptTailIdeal.nD Cert.PromptTailIdeal.τ).loc Cert.PromptTailIdeal.main_arg6)
      ∧ m' ((c.tc : Thread Cert.PromptTailRefIdeal.nD Cert.PromptTailRefIdeal.τ).loc Cert.PromptTailRefIdeal.main_arg7) = m ((c.tc : Thread Cert.PromptTailIdeal.nD Cert.PromptTailIdeal.τ).loc Cert.PromptTailIdeal.main_arg7)
      ∧ m' ((c.tc : Thread Cert.PromptTailRefIdeal.nD Cert.PromptTailRefIdeal.τ).loc Cert.PromptTailRefIdeal.main_arg8) = m ((c.tc : Thread Cert.PromptTailIdeal.nD Cert.PromptTailIdeal.τ).loc Cert.PromptTailIdeal.main_arg8)
      ∧ m' ((c.tc : Thread Cert.PromptTailRefIdeal.nD Cert.PromptTailRefIdeal.τ).loc Cert.PromptTailRefIdeal.main_arg9) = m ((c.tc : Thread Cert.PromptTailIdeal.nD Cert.PromptTailIdeal.τ).loc Cert.PromptTailIdeal.main_arg9)
      ∧ m' ((c.tc : Thread Cert.PromptTailRefIdeal.nD Cert.PromptTailRefIdeal.τ).loc Cert.PromptTailRefIdeal.main_arg10) = m ((c.tc : Thread Cert.PromptTailIdeal.nD Cert.PromptTailIdeal.τ).loc Cert.PromptTailIdeal.main_arg10)
      ∧ m' ((c.tc : Thread Cert.PromptTailRefIdeal.nD Cert.PromptTailRefIdeal.τ).loc Cert.PromptTailRefIdeal.main_arg11) = m ((c.tc : Thread Cert.PromptTailIdeal.nD Cert.PromptTailIdeal.τ).loc Cert.PromptTailIdeal.main_arg11)
      ∧ m' ((c.tc : Thread Cert.PromptTailRefIdeal.nD Cert.PromptTailRefIdeal.τ).loc Cert.PromptTailRefIdeal.main_arg12) = m ((c.tc : Thread Cert.PromptTailIdeal.nD Cert.PromptTailIdeal.τ).loc Cert.PromptTailIdeal.main_arg12)
      ∧ m' ((c.tc : Thread Cert.PromptTailRefIdeal.nD Cert.PromptTailRefIdeal.τ).loc Cert.PromptTailRefIdeal.main_arg13) = m ((c.tc : Thread Cert.PromptTailIdeal.nD Cert.PromptTailIdeal.τ).loc Cert.PromptTailIdeal.main_arg13)
      ∧ m' ((c.tc : Thread Cert.PromptTailRefIdeal.nD Cert.PromptTailRefIdeal.τ).loc Cert.PromptTailRefIdeal.main_arg14) = m ((c.tc : Thread Cert.PromptTailIdeal.nD Cert.PromptTailIdeal.τ).loc Cert.PromptTailIdeal.main_arg14)) →
    ∃ (v0 : (c : Dev Cert.PromptTailIdeal.nD) → Buf (Elt Ideal) ((c.tc : Thread Cert.PromptTailIdeal.nD Cert.PromptTailIdeal.τ).loc Cert.PromptTailIdeal.main_v16)),
      θ_run (Cert.PromptTailIdeal.defs (F := Ideal)) (onTc (τ := Cert.PromptTailIdeal.τ) (Cert.PromptTailIdeal.main (F := Ideal))) ⟨m, fun _ => 0, g⟩ (fun r => ∀ c : Dev Cert.PromptTailIdeal.nD,
          r.2.mem ((c.tc : Thread Cert.PromptTailIdeal.nD Cert.PromptTailIdeal.τ).loc Cert.PromptTailIdeal.main_v16) = v0 c
          ∧ r.2.mem ((c.tc : Thread Cert.PromptTailIdeal.nD Cert.PromptTailIdeal.τ).loc Cert.PromptTailIdeal.main_arg0) = m ((c.tc : Thread Cert.PromptTailIdeal.nD Cert.PromptTailIdeal.τ).loc Cert.PromptTailIdeal.main_arg0)
          ∧ r.2.mem ((c.tc : Thread Cert.PromptTailIdeal.nD Cert.PromptTailIdeal.τ).loc Cert.PromptTailIdeal.main_arg1) = m ((c.tc : Thread Cert.PromptTailIdeal.nD Cert.PromptTailIdeal.τ).loc Cert.PromptTailIdeal.main_arg1)
          ∧ r.2.mem ((c.tc : Thread Cert.PromptTailIdeal.nD Cert.PromptTailIdeal.τ).loc Cert.PromptTailIdeal.main_arg2) = m ((c.tc : Thread Cert.PromptTailIdeal.nD Cert.PromptTailIdeal.τ).loc Cert.PromptTailIdeal.main_arg2)
          ∧ r.2.mem ((c.tc : Thread Cert.PromptTailIdeal.nD Cert.PromptTailIdeal.τ).loc Cert.PromptTailIdeal.main_arg3) = m ((c.tc : Thread Cert.PromptTailIdeal.nD Cert.PromptTailIdeal.τ).loc Cert.PromptTailIdeal.main_arg3)
          ∧ r.2.mem ((c.tc : Thread Cert.PromptTailIdeal.nD Cert.PromptTailIdeal.τ).loc Cert.PromptTailIdeal.main_arg4) = m ((c.tc : Thread Cert.PromptTailIdeal.nD Cert.PromptTailIdeal.τ).loc Cert.PromptTailIdeal.main_arg4)
          ∧ r.2.mem ((c.tc : Thread Cert.PromptTailIdeal.nD Cert.PromptTailIdeal.τ).loc Cert.PromptTailIdeal.main_arg5) = m ((c.tc : Thread Cert.PromptTailIdeal.nD Cert.PromptTailIdeal.τ).loc Cert.PromptTailIdeal.main_arg5)
          ∧ r.2.mem ((c.tc : Thread Cert.PromptTailIdeal.nD Cert.PromptTailIdeal.τ).loc Cert.PromptTailIdeal.main_arg6) = m ((c.tc : Thread Cert.PromptTailIdeal.nD Cert.PromptTailIdeal.τ).loc Cert.PromptTailIdeal.main_arg6)
          ∧ r.2.mem ((c.tc : Thread Cert.PromptTailIdeal.nD Cert.PromptTailIdeal.τ).loc Cert.PromptTailIdeal.main_arg7) = m ((c.tc : Thread Cert.PromptTailIdeal.nD Cert.PromptTailIdeal.τ).loc Cert.PromptTailIdeal.main_arg7)
          ∧ r.2.mem ((c.tc : Thread Cert.PromptTailIdeal.nD Cert.PromptTailIdeal.τ).loc Cert.PromptTailIdeal.main_arg8) = m ((c.tc : Thread Cert.PromptTailIdeal.nD Cert.PromptTailIdeal.τ).loc Cert.PromptTailIdeal.main_arg8)
          ∧ r.2.mem ((c.tc : Thread Cert.PromptTailIdeal.nD Cert.PromptTailIdeal.τ).loc Cert.PromptTailIdeal.main_arg9) = m ((c.tc : Thread Cert.PromptTailIdeal.nD Cert.PromptTailIdeal.τ).loc Cert.PromptTailIdeal.main_arg9)
          ∧ r.2.mem ((c.tc : Thread Cert.PromptTailIdeal.nD Cert.PromptTailIdeal.τ).loc Cert.PromptTailIdeal.main_arg10) = m ((c.tc : Thread Cert.PromptTailIdeal.nD Cert.PromptTailIdeal.τ).loc Cert.PromptTailIdeal.main_arg10)
          ∧ r.2.mem ((c.tc : Thread Cert.PromptTailIdeal.nD Cert.PromptTailIdeal.τ).loc Cert.PromptTailIdeal.main_arg11) = m ((c.tc : Thread Cert.PromptTailIdeal.nD Cert.PromptTailIdeal.τ).loc Cert.PromptTailIdeal.main_arg11)
          ∧ r.2.mem ((c.tc : Thread Cert.PromptTailIdeal.nD Cert.PromptTailIdeal.τ).loc Cert.PromptTailIdeal.main_arg12) = m ((c.tc : Thread Cert.PromptTailIdeal.nD Cert.PromptTailIdeal.τ).loc Cert.PromptTailIdeal.main_arg12)
          ∧ r.2.mem ((c.tc : Thread Cert.PromptTailIdeal.nD Cert.PromptTailIdeal.τ).loc Cert.PromptTailIdeal.main_arg13) = m ((c.tc : Thread Cert.PromptTailIdeal.nD Cert.PromptTailIdeal.τ).loc Cert.PromptTailIdeal.main_arg13)
          ∧ r.2.mem ((c.tc : Thread Cert.PromptTailIdeal.nD Cert.PromptTailIdeal.τ).loc Cert.PromptTailIdeal.main_arg14) = m ((c.tc : Thread Cert.PromptTailIdeal.nD Cert.PromptTailIdeal.τ).loc Cert.PromptTailIdeal.main_arg14))
      ∧ θ_run (Cert.PromptTailRefIdeal.defs (F := Ideal)) (onTc (τ := Cert.PromptTailRefIdeal.τ) (Cert.PromptTailRefIdeal.main (F := Ideal))) ⟨m', fun _ => 0, g'⟩ (fun r => ∀ c : Dev Cert.PromptTailRefIdeal.nD,
          r.2.mem ((c.tc : Thread Cert.PromptTailRefIdeal.nD Cert.PromptTailRefIdeal.τ).loc Cert.PromptTailRefIdeal.main_v63) = v0 c
          ∧ r.2.mem ((c.tc : Thread Cert.PromptTailRefIdeal.nD Cert.PromptTailRefIdeal.τ).loc Cert.PromptTailRefIdeal.main_arg0) = m' ((c.tc : Thread Cert.PromptTailRefIdeal.nD Cert.PromptTailRefIdeal.τ).loc Cert.PromptTailRefIdeal.main_arg0)
          ∧ r.2.mem ((c.tc : Thread Cert.PromptTailRefIdeal.nD Cert.PromptTailRefIdeal.τ).loc Cert.PromptTailRefIdeal.main_arg1) = m' ((c.tc : Thread Cert.PromptTailRefIdeal.nD Cert.PromptTailRefIdeal.τ).loc Cert.PromptTailRefIdeal.main_arg1)
          ∧ r.2.mem ((c.tc : Thread Cert.PromptTailRefIdeal.nD Cert.PromptTailRefIdeal.τ).loc Cert.PromptTailRefIdeal.main_arg2) = m' ((c.tc : Thread Cert.PromptTailRefIdeal.nD Cert.PromptTailRefIdeal.τ).loc Cert.PromptTailRefIdeal.main_arg2)
          ∧ r.2.mem ((c.tc : Thread Cert.PromptTailRefIdeal.nD Cert.PromptTailRefIdeal.τ).loc Cert.PromptTailRefIdeal.main_arg3) = m' ((c.tc : Thread Cert.PromptTailRefIdeal.nD Cert.PromptTailRefIdeal.τ).loc Cert.PromptTailRefIdeal.main_arg3)
          ∧ r.2.mem ((c.tc : Thread Cert.PromptTailRefIdeal.nD Cert.PromptTailRefIdeal.τ).loc Cert.PromptTailRefIdeal.main_arg4) = m' ((c.tc : Thread Cert.PromptTailRefIdeal.nD Cert.PromptTailRefIdeal.τ).loc Cert.PromptTailRefIdeal.main_arg4)
          ∧ r.2.mem ((c.tc : Thread Cert.PromptTailRefIdeal.nD Cert.PromptTailRefIdeal.τ).loc Cert.PromptTailRefIdeal.main_arg5) = m' ((c.tc : Thread Cert.PromptTailRefIdeal.nD Cert.PromptTailRefIdeal.τ).loc Cert.PromptTailRefIdeal.main_arg5)
          ∧ r.2.mem ((c.tc : Thread Cert.PromptTailRefIdeal.nD Cert.PromptTailRefIdeal.τ).loc Cert.PromptTailRefIdeal.main_arg6) = m' ((c.tc : Thread Cert.PromptTailRefIdeal.nD Cert.PromptTailRefIdeal.τ).loc Cert.PromptTailRefIdeal.main_arg6)
          ∧ r.2.mem ((c.tc : Thread Cert.PromptTailRefIdeal.nD Cert.PromptTailRefIdeal.τ).loc Cert.PromptTailRefIdeal.main_arg7) = m' ((c.tc : Thread Cert.PromptTailRefIdeal.nD Cert.PromptTailRefIdeal.τ).loc Cert.PromptTailRefIdeal.main_arg7)
          ∧ r.2.mem ((c.tc : Thread Cert.PromptTailRefIdeal.nD Cert.PromptTailRefIdeal.τ).loc Cert.PromptTailRefIdeal.main_arg8) = m' ((c.tc : Thread Cert.PromptTailRefIdeal.nD Cert.PromptTailRefIdeal.τ).loc Cert.PromptTailRefIdeal.main_arg8)
          ∧ r.2.mem ((c.tc : Thread Cert.PromptTailRefIdeal.nD Cert.PromptTailRefIdeal.τ).loc Cert.PromptTailRefIdeal.main_arg9) = m' ((c.tc : Thread Cert.PromptTailRefIdeal.nD Cert.PromptTailRefIdeal.τ).loc Cert.PromptTailRefIdeal.main_arg9)
          ∧ r.2.mem ((c.tc : Thread Cert.PromptTailRefIdeal.nD Cert.PromptTailRefIdeal.τ).loc Cert.PromptTailRefIdeal.main_arg10) = m' ((c.tc : Thread Cert.PromptTailRefIdeal.nD Cert.PromptTailRefIdeal.τ).loc Cert.PromptTailRefIdeal.main_arg10)
          ∧ r.2.mem ((c.tc : Thread Cert.PromptTailRefIdeal.nD Cert.PromptTailRefIdeal.τ).loc Cert.PromptTailRefIdeal.main_arg11) = m' ((c.tc : Thread Cert.PromptTailRefIdeal.nD Cert.PromptTailRefIdeal.τ).loc Cert.PromptTailRefIdeal.main_arg11)
          ∧ r.2.mem ((c.tc : Thread Cert.PromptTailRefIdeal.nD Cert.PromptTailRefIdeal.τ).loc Cert.PromptTailRefIdeal.main_arg12) = m' ((c.tc : Thread Cert.PromptTailRefIdeal.nD Cert.PromptTailRefIdeal.τ).loc Cert.PromptTailRefIdeal.main_arg12)
          ∧ r.2.mem ((c.tc : Thread Cert.PromptTailRefIdeal.nD Cert.PromptTailRefIdeal.τ).loc Cert.PromptTailRefIdeal.main_arg13) = m' ((c.tc : Thread Cert.PromptTailRefIdeal.nD Cert.PromptTailRefIdeal.τ).loc Cert.PromptTailRefIdeal.main_arg13)
          ∧ r.2.mem ((c.tc : Thread Cert.PromptTailRefIdeal.nD Cert.PromptTailRefIdeal.τ).loc Cert.PromptTailRefIdeal.main_arg14) = m' ((c.tc : Thread Cert.PromptTailRefIdeal.nD Cert.PromptTailRefIdeal.τ).loc Cert.PromptTailRefIdeal.main_arg14))

def Claim : Prop :=
  ∃ (hKernel : Cert.Kernel.Facts) (hKernelIdeal : Cert.KernelIdeal.Facts) (hReferenceIdeal : Cert.ReferenceIdeal.Facts) (hSampleIn : Cert.SampleIn.Facts) (hSampleInIdeal : Cert.SampleInIdeal.Facts) (hSampleInRefIdeal : Cert.SampleInRefIdeal.Facts) (hTail : Cert.Tail.Facts) (hTailIdeal : Cert.TailIdeal.Facts) (hTailRefIdeal : Cert.TailRefIdeal.Facts) (hPromptTail : Cert.PromptTail.Facts) (hPromptTailIdeal : Cert.PromptTailIdeal.Facts) (hPromptTailRefIdeal : Cert.PromptTailRefIdeal.Facts),
    quiescent_Kernel (hKernel := hKernel)
    ∧ quiescent_KernelIdeal (hKernelIdeal := hKernelIdeal)
    ∧ quiescent_ReferenceIdeal (hReferenceIdeal := hReferenceIdeal)
    ∧ quiescent_SampleIn (hSampleIn := hSampleIn)
    ∧ quiescent_SampleInIdeal (hSampleInIdeal := hSampleInIdeal)
    ∧ quiescent_SampleInRefIdeal (hSampleInRefIdeal := hSampleInRefIdeal)
    ∧ quiescent_Tail (hTail := hTail)
    ∧ quiescent_TailIdeal (hTailIdeal := hTailIdeal)
    ∧ quiescent_TailRefIdeal (hTailRefIdeal := hTailRefIdeal)
    ∧ quiescent_PromptTail (hPromptTail := hPromptTail)
    ∧ quiescent_PromptTailIdeal (hPromptTailIdeal := hPromptTailIdeal)
    ∧ quiescent_PromptTailRefIdeal (hPromptTailRefIdeal := hPromptTailRefIdeal)
    ∧ preserves_Kernel_KernelIdeal
    ∧ algebraic_KernelIdeal_ReferenceIdeal (hKernelIdeal := hKernelIdeal) (hReferenceIdeal := hReferenceIdeal)
    ∧ preserves_SampleIn_SampleInIdeal
    ∧ algebraic_SampleInIdeal_SampleInRefIdeal (hSampleInIdeal := hSampleInIdeal) (hSampleInRefIdeal := hSampleInRefIdeal)
    ∧ preserves_Tail_TailIdeal
    ∧ algebraic_TailIdeal_TailRefIdeal (hTailIdeal := hTailIdeal) (hTailRefIdeal := hTailRefIdeal)
    ∧ preserves_PromptTail_PromptTailIdeal
    ∧ algebraic_PromptTailIdeal_PromptTailRefIdeal (hPromptTailIdeal := hPromptTailIdeal) (hPromptTailRefIdeal := hPromptTailRefIdeal)
-- ==== Kernel.lean ====
abbrev S2x8192x1024 : Shape := ⟨3, ![2, 8192, 1024]⟩
abbrev S1x1024 : Shape := ⟨2, ![1, 1024]⟩
abbrev S1x1024x4096 : Shape := ⟨3, ![1, 1024, 4096]⟩
abbrev S1x64 : Shape := ⟨2, ![1, 64]⟩
abbrev S1x4x128x128 : Shape := ⟨4, ![1, 4, 128, 128]⟩
abbrev S1x512 : Shape := ⟨2, ![1, 512]⟩
abbrev S1024x4096 : Shape := ⟨2, ![1024, 4096]⟩
abbrev S1024x1536 : Shape := ⟨2, ![1024, 1536]⟩
abbrev S1536x1024 : Shape := ⟨2, ![1536, 1024]⟩
abbrev S1024x2560 : Shape := ⟨2, ![1024, 2560]⟩
abbrev S4x128x128 : Shape := ⟨3, ![4, 128, 128]⟩
abbrev S64x1 : Shape := ⟨2, ![64, 1]⟩
abbrev S2x8x64x8192 : Shape := ⟨4, ![2, 8, 64, 8192]⟩
abbrev S2x8x96x8192 : Shape := ⟨4, ![2, 8, 96, 8192]⟩
abbrev S2x8x8192x96 : Shape := ⟨4, ![2, 8, 8192, 96]⟩
abbrev S2x8x80x8192 : Shape := ⟨4, ![2, 8, 80, 8192]⟩
abbrev S2x8192x512 : Shape := ⟨3, ![2, 8192, 512]⟩
abbrev S2x16x512 : Shape := ⟨3, ![2, 16, 512]⟩
abbrev S1x512x1024 : Shape := ⟨3, ![1, 512, 1024]⟩
abbrev S1x8x64x512 : Shape := ⟨4, ![1, 8, 64, 512]⟩
abbrev S1x8x96x512 : Shape := ⟨4, ![1, 8, 96, 512]⟩
abbrev S1x8x512x96 : Shape := ⟨4, ![1, 8, 512, 96]⟩
abbrev S1x8x80x512 : Shape := ⟨4, ![1, 8, 80, 512]⟩
abbrev S1x512x512 : Shape := ⟨3, ![1, 512, 512]⟩
abbrev S1x16x512 : Shape := ⟨3, ![1, 16, 512]⟩
abbrev S528x512 : Shape := ⟨2, ![528, 512]⟩
abbrev S8x64x128 : Shape := ⟨3, ![8, 64, 128]⟩
abbrev S16x512 : Shape := ⟨2, ![16, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S8x64x512 : Shape := ⟨3, ![8, 64, 512]⟩
abbrev S8x512 : Shape := ⟨2, ![8, 512]⟩
abbrev S8x1x512 : Shape := ⟨3, ![8, 1, 512]⟩
abbrev S1x64x1 : Shape := ⟨3, ![1, 64, 1]⟩
abbrev S8x16x512 : Shape := ⟨3, ![8, 16, 512]⟩
abbrev S1x8x16x512 : Shape := ⟨4, ![1, 8, 16, 512]⟩
abbrev S1x32 : Shape := ⟨2, ![1, 32]⟩
abbrev S512x32 : Shape := ⟨2, ![512, 32]⟩
abbrev S1x64x512 : Shape := ⟨3, ![1, 64, 512]⟩
abbrev S64x512 : Shape := ⟨2, ![64, 512]⟩
abbrev S512x64 : Shape := ⟨2, ![512, 64]⟩
abbrev S1x1x512x64 : Shape := ⟨4, ![1, 1, 512, 64]⟩
abbrev S1x1x512x32 : Shape := ⟨4, ![1, 1, 512, 32]⟩
abbrev S1x1x128 : Shape := ⟨3, ![1, 1, 128]⟩
abbrev S8x64x256 : Shape := ⟨3, ![8, 64, 256]⟩
abbrev S8x64 : Shape := ⟨2, ![8, 64]⟩
abbrev S8x64x1 : Shape := ⟨3, ![8, 64, 1]⟩
abbrev S32x1 : Shape := ⟨2, ![32, 1]⟩
abbrev S1x64x128 : Shape := ⟨3, ![1, 64, 128]⟩
abbrev S64x128 : Shape := ⟨2, ![64, 128]⟩
abbrev S64x32 : Shape := ⟨2, ![64, 32]⟩
abbrev S32x512 : Shape := ⟨2, ![32, 512]⟩
abbrev S1x1x32x512 : Shape := ⟨4, ![1, 1, 32, 512]⟩
abbrev S1024x256 : Shape := ⟨2, ![1024, 256]⟩
abbrev S512x256 : Shape := ⟨2, ![512, 256]⟩
abbrev S1x512x256 : Shape := ⟨3, ![1, 512, 256]⟩
abbrev S1024x512 : Shape := ⟨2, ![1024, 512]⟩
abbrev S528x128 : Shape := ⟨2, ![528, 128]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S1x512x128 : Shape := ⟨3, ![1, 512, 128]⟩

abbrev nBuf : Space → Nat
  | .hbm => 27
  | .vmem => 29
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x4096, .f32⟩
  | .hbm, ⟨3, _⟩ => ⟨S1x64, .f32⟩
  | .hbm, ⟨4, _⟩ => ⟨S1x64, .f32⟩
  | .hbm, ⟨5, _⟩ => ⟨S1x4x128x128, .f32⟩
  | .hbm, ⟨6, _⟩ => ⟨S1x512, .f32⟩
  | .hbm, ⟨7, _⟩ => ⟨S1024x4096, .f32⟩
  | .hbm, ⟨8, _⟩ => ⟨S1024x1536, .f32⟩
  | .hbm, ⟨9, _⟩ => ⟨S1536x1024, .f32⟩
  | .hbm, ⟨10, _⟩ => ⟨S1536x1024, .bf16⟩
  | .hbm, ⟨11, _⟩ => ⟨S1024x4096, .f32⟩
  | .hbm, ⟨12, _⟩ => ⟨S1024x2560, .f32⟩
  | .hbm, ⟨13, _⟩ => ⟨S1024x2560, .bf16⟩
  | .hbm, ⟨14, _⟩ => ⟨S4x128x128, .f32⟩
  | .hbm, ⟨15, _⟩ => ⟨S4x128x128, .bf16⟩
  | .hbm, ⟨16, _⟩ => ⟨S64x1, .f32⟩
  | .hbm, ⟨17, _⟩ => ⟨S64x1, .f32⟩
  | .hbm, ⟨18, _⟩ => ⟨S2x8x64x8192, .f32⟩
  | .hbm, ⟨19, _⟩ => ⟨S2x8x64x8192, .f32⟩
  | .hbm, ⟨20, _⟩ => ⟨S2x8x96x8192, .bf16⟩
  | .hbm, ⟨21, _⟩ => ⟨S2x8x8192x96, .bf16⟩
  | .hbm, ⟨22, _⟩ => ⟨S2x8x80x8192, .bf16⟩
  | .hbm, ⟨23, _⟩ => ⟨S2x8192x512, .bf16⟩
  | .hbm, ⟨24, _⟩ => ⟨S2x8192x1024, .bf16⟩
  | .hbm, ⟨25, _⟩ => ⟨S2x8192x1024, .bf16⟩
  | .hbm, ⟨26, _⟩ => ⟨S2x16x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1536x1024, .bf16⟩
  | .local _ .vmem, ⟨4, _⟩ => ⟨S1024x2560, .bf16⟩
  | .local _ .vmem, ⟨5, _⟩ => ⟨S64x1, .f32⟩
  | .local _ .vmem, ⟨6, _⟩ => ⟨S64x1, .f32⟩
  | .local _ .vmem, ⟨7, _⟩ => ⟨S4x128x128, .bf16⟩
  | .local _ .vmem, ⟨8, _⟩ => ⟨S1x512, .f32⟩
  | .local _ .vmem, ⟨9, _⟩ => ⟨S1x8x64x512, .f32⟩
  | .local _ .vmem, ⟨10, _⟩ => ⟨S1x8x64x512, .f32⟩
  | .local _ .vmem, ⟨11, _⟩ => ⟨S1x8x64x512, .f32⟩
  | .local _ .vmem, ⟨12, _⟩ => ⟨S1x8x64x512, .f32⟩
  | .local _ .vmem, ⟨13, _⟩ => ⟨S1x8x96x512, .bf16⟩
  | .local _ .vmem, ⟨14, _⟩ => ⟨S1x8x96x512, .bf16⟩
  | .local _ .vmem, ⟨15, _⟩ => ⟨S1x8x512x96, .bf16⟩
  | .local _ .vmem, ⟨16, _⟩ => ⟨S1x8x512x96, .bf16⟩
  | .local _ .vmem, ⟨17, _⟩ => ⟨S1x8x80x512, .bf16⟩
  | .local _ .vmem, ⟨18, _⟩ => ⟨S1x8x80x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x16x512, .f32⟩
  | .local _ .vmem, ⟨26, _⟩ => ⟨S1x16x512, .f32⟩
  | .local _ .vmem, ⟨27, _⟩ => ⟨S528x512, .f32⟩
  | .local _ .vmem, ⟨28, _⟩ => ⟨S8x64x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev main_v11_7 : Ref sig .tc := ⟨.hbm, 25, rfl⟩
abbrev main_v11_8 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x96x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512x96 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x80x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S2x8192x1024 : Shape := ⟨3, ![2, 8192, 1024]⟩
abbrev S1x1024 : Shape := ⟨2, ![1, 1024]⟩
abbrev S1x1024x4096 : Shape := ⟨3, ![1, 1024, 4096]⟩
abbrev S1x64 : Shape := ⟨2, ![1, 64]⟩
abbrev S1x4x128x128 : Shape := ⟨4, ![1, 4, 128, 128]⟩
abbrev S1x512 : Shape := ⟨2, ![1, 512]⟩
abbrev S1024 : Shape := ⟨1, ![1024]⟩
abbrev S1024x4096 : Shape := ⟨2, ![1024, 4096]⟩
abbrev S64 : Shape := ⟨1, ![64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩
abbrev S2x8192x512 : Shape := ⟨3, ![2, 8192, 512]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S2x15x512 : Shape := ⟨3, ![2, 15, 512]⟩
abbrev S4x128x128 : Shape := ⟨3, ![4, 128, 128]⟩
abbrev S512 : Shape := ⟨1, ![512]⟩
abbrev S2x8207x512 : Shape := ⟨3, ![2, 8207, 512]⟩
abbrev S8192 : Shape := ⟨1, ![8192]⟩
abbrev S2x8192x128 : Shape := ⟨3, ![2, 8192, 128]⟩
abbrev S1x8192x1 : Shape := ⟨3, ![1, 8192, 1]⟩
abbrev S2x8192x4x128 : Shape := ⟨4, ![2, 8192, 4, 128]⟩
abbrev S4x128x2x8192 : Shape := ⟨4, ![4, 128, 2, 8192]⟩
abbrev S1x1x512 : Shape := ⟨3, ![1, 1, 512]⟩
abbrev S2x8x8192x64 : Shape := ⟨4, ![2, 8, 8192, 64]⟩
abbrev S8192x1 : Shape := ⟨2, ![8192, 1]⟩
abbrev S32 : Shape := ⟨1, ![32]⟩
abbrev S1x32 : Shape := ⟨2, ![1, 32]⟩
abbrev S8192x32 : Shape := ⟨2, ![8192, 32]⟩
abbrev S2x8x8192x32 : Shape := ⟨4, ![2, 8, 8192, 32]⟩
abbrev S2x8x8192x96 : Shape := ⟨4, ![2, 8, 8192, 96]⟩
abbrev S2x8x64x8192 : Shape := ⟨4, ![2, 8, 64, 8192]⟩
abbrev S16 : Shape := ⟨1, ![16]⟩
abbrev S16x1 : Shape := ⟨2, ![16, 1]⟩
abbrev S2x8x16x8192 : Shape := ⟨4, ![2, 8, 16, 8192]⟩
abbrev S2x8x80x8192 : Shape := ⟨4, ![2, 8, 80, 8192]⟩
abbrev S2x16x512 : Shape := ⟨3, ![2, 16, 512]⟩

abbrev nBuf : Space → Nat
  | .hbm => 257
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x4096, .f32⟩
  | 3 => ⟨S1x64, .f32⟩
  | 4 => ⟨S1x64, .f32⟩
  | 5 => ⟨S1x4x128x128, .f32⟩
  | 6 => ⟨S1x512, .f32⟩
  | 7 => ⟨S1024, .f32⟩
  | 8 => ⟨S1024x4096, .f32⟩
  | 9 => ⟨S64, .f32⟩
  | 10 => ⟨S64, .f32⟩
  | 11 => ⟨S2x8192x1024, .f32⟩
  | 12 => ⟨S_, .f32⟩
  | 13 => ⟨S2x8192, .f32⟩
  | 14 => ⟨S2x8192x1, .f32⟩
  | 15 => ⟨S_, .f32⟩
  | 16 => ⟨S2x8192x1, .f32⟩
  | 17 => ⟨S2x8192x1, .f32⟩
  | 18 => ⟨S_, .f32⟩
  | 19 => ⟨S2x8192x1, .f32⟩
  | 20 => ⟨S2x8192x1, .f32⟩
  | 21 => ⟨S2x8192x1, .f32⟩
  | 22 => ⟨S2x8192x1024, .f32⟩
  | 23 => ⟨S2x8192x1024, .f32⟩
  | 24 => ⟨S1x1x1024, .f32⟩
  | 25 => ⟨S2x8192x1024, .f32⟩
  | 26 => ⟨S2x8192x1024, .f32⟩
  | 27 => ⟨S2x8192x4096, .f32⟩
  | 28 => ⟨S2x8192x512, .f32⟩
  | 29 => ⟨S2x8192x512, .f32⟩
  | 30 => ⟨S2x8192x512, .f32⟩
  | 31 => ⟨S2x8192x512, .f32⟩
  | 32 => ⟨S2x8192x1024, .f32⟩
  | 33 => ⟨S2x8192x1024, .f32⟩
  | 34 => ⟨S2x8192x8x64, .f32⟩
  | 35 => ⟨S2x8192x8x64, .f32⟩
  | 36 => ⟨S_, .f32⟩
  | 37 => ⟨S2x8192x8, .f32⟩
  | 38 => ⟨S2x8192x8x1, .f32⟩
  | 39 => ⟨S_, .f32⟩
  | 40 => ⟨S2x8192x8x1, .f32⟩
  | 41 => ⟨S2x8192x8x1, .f32⟩
  | 42 => ⟨S_, .f32⟩
  | 43 => ⟨S2x8192x8x1, .f32⟩
  | 44 => ⟨S2x8192x8x1, .f32⟩
  | 45 => ⟨S2x8192x8x1, .f32⟩
  | 46 => ⟨S2x8192x8x64, .f32⟩
  | 47 => ⟨S2x8192x8x64, .f32⟩
  | 48 => ⟨S1x1x1x64, .f32⟩
  | 49 => ⟨S2x8192x8x64, .f32⟩
  | 50 => ⟨S2x8192x8x64, .f32⟩
  | 51 => ⟨S2x8192x8x64, .f32⟩
  | 52 => ⟨S2x8192x8x64, .f32⟩
  | 53 => ⟨S_, .f32⟩
  | 54 => ⟨S2x8192x8, .f32⟩
  | 55 => ⟨S2x8192x8x1, .f32⟩
  | 56 => ⟨S_, .f32⟩
  | 57 => ⟨S2x8192x8x1, .f32⟩
  | 58 => ⟨S2x8192x8x1, .f32⟩
  | 59 => ⟨S_, .f32⟩
  | 60 => ⟨S2x8192x8x1, .f32⟩
  | 61 => ⟨S2x8192x8x1, .f32⟩
  | 62 => ⟨S2x8192x8x1, .f32⟩
  | 63 => ⟨S2x8192x8x64, .f32⟩
  | 64 => ⟨S2x8192x8x64, .f32⟩
  | 65 => ⟨S1x1x1x64, .f32⟩
  | 66 => ⟨S2x8192x8x64, .f32⟩
  | 67 => ⟨S2x8192x8x64, .f32⟩
  | 68 => ⟨S2x8192x8x64, .f32⟩
  | 69 => ⟨S_, .f32⟩
  | 70 => ⟨S2x15x512, .f32⟩
  | 71 => ⟨S4x128x128, .f32⟩
  | 72 => ⟨S512, .f32⟩
  | 73 => ⟨S2x8207x512, .f32⟩
  | 74 => ⟨S8192, .i32⟩
  | 75 => ⟨S_, .i32⟩
  | 76 => ⟨S8192, .i32⟩
  | 77 => ⟨S8192, .i32⟩
  | 78 => ⟨S2x8192x128, .f32⟩
  | 79 => ⟨S_, .f32⟩
  | 80 => ⟨S2x8192x128, .f32⟩
  | 81 => ⟨S2x8192x128, .f32⟩
  | 82 => ⟨S2x8192x128, .f32⟩
  | 83 => ⟨S2x8192x128, .f32⟩
  | 84 => ⟨S_, .i32⟩
  | 85 => ⟨S8192, .i32⟩
  | 86 => ⟨S8192, .i32⟩
  | 87 => ⟨S_, .i32⟩
  | 88 => ⟨S8192, .i32⟩
  | 89 => ⟨S8192, .i32⟩
  | 90 => ⟨S8192, .f32⟩
  | 91 => ⟨S1x8192x1, .f32⟩
  | 92 => ⟨S2x8192x128, .f32⟩
  | 93 => ⟨S2x8192x128, .f32⟩
  | 94 => ⟨S2x8192x128, .f32⟩
  | 95 => ⟨S_, .f32⟩
  | 96 => ⟨S2x8192x128, .f32⟩
  | 97 => ⟨S2x8192x128, .f32⟩
  | 98 => ⟨S2x8192x128, .f32⟩
  | 99 => ⟨S2x8192x128, .f32⟩
  | 100 => ⟨S2x8192x128, .f32⟩
  | 101 => ⟨S2x8192x128, .f32⟩
  | 102 => ⟨S2x8192x128, .f32⟩
  | 103 => ⟨S2x8192x128, .f32⟩
  | 104 => ⟨S_, .i32⟩
  | 105 => ⟨S8192, .i32⟩
  | 106 => ⟨S8192, .i32⟩
  | 107 => ⟨S_, .i32⟩
  | 108 => ⟨S8192, .i32⟩
  | 109 => ⟨S8192, .i32⟩
  | 110 => ⟨S8192, .f32⟩
  | 111 => ⟨S1x8192x1, .f32⟩
  | 112 => ⟨S2x8192x128, .f32⟩
  | 113 => ⟨S2x8192x128, .f32⟩
  | 114 => ⟨S2x8192x128, .f32⟩
  | 115 => ⟨S_, .f32⟩
  | 116 => ⟨S2x8192x128, .f32⟩
  | 117 => ⟨S2x8192x128, .f32⟩
  | 118 => ⟨S2x8192x128, .f32⟩
  | 119 => ⟨S2x8192x128, .f32⟩
  | 120 => ⟨S2x8192x128, .f32⟩
  | 121 => ⟨S2x8192x128, .f32⟩
  | 122 => ⟨S2x8192x128, .f32⟩
  | 123 => ⟨S2x8192x128, .f32⟩
  | 124 => ⟨S2x8192x128, .f32⟩
  | 125 => ⟨S2x8192x128, .f32⟩
  | 126 => ⟨S2x8192x128, .f32⟩
  | 127 => ⟨S2x8192x128, .f32⟩
  | _ => ⟨S2x8192x1024, .f32⟩

abbrev hbmTy0_1 (i : Nat) : BufTy := match i % 128 with
  | 0 => ⟨S2x8192x128, .f32⟩
  | 1 => ⟨S2x8192x128, .f32⟩
  | 2 => ⟨S2x8192x128, .f32⟩
  | 3 => ⟨S2x8192x128, .f32⟩
  | 4 => ⟨S_, .i32⟩
  | 5 => ⟨S8192, .i32⟩
  | 6 => ⟨S8192, .i32⟩
  | 7 => ⟨S_, .i32⟩
  | 8 => ⟨S8192, .i32⟩
  | 9 => ⟨S8192, .i32⟩
  | 10 => ⟨S8192, .f32⟩
  | 11 => ⟨S1x8192x1, .f32⟩
  | 12 => ⟨S2x8192x128, .f32⟩
  | 13 => ⟨S2x8192x128, .f32⟩
  | 14 => ⟨S2x8192x128, .f32⟩
  | 15 => ⟨S_, .f32⟩
  | 16 => ⟨S2x8192x128, .f32⟩
  | 17 => ⟨S2x8192x128, .f32⟩
  | 18 => ⟨S2x8192x128, .f32⟩
  | 19 => ⟨S2x8192x128, .f32⟩
  | 20 => ⟨S2x8192x128, .f32⟩
  | 21 => ⟨S2x8192x128, .f32⟩
  | 22 => ⟨S2x8192x128, .f32⟩
  | 23 => ⟨S2x8192x128, .f32⟩
  | 24 => ⟨S2x8192x128, .f32⟩
  | 25 => ⟨S2x8192x128, .f32⟩
  | 26 => ⟨S2x8192x128, .f32⟩
  | 27 => ⟨S2x8192x128, .f32⟩
  | 28 => ⟨S2x8192x128, .f32⟩
  | 29 => ⟨S2x8192x128, .f32⟩
  | 30 => ⟨S2x8192x128, .f32⟩
  | 31 => ⟨S2x8192x128, .f32⟩
  | 32 => ⟨S2x8192x128, .f32⟩
  | 33 => ⟨S2x8192x128, .f32⟩
  | 34 => ⟨S2x8192x128, .f32⟩
  | 35 => ⟨S2x8192x128, .f32⟩
  | 36 => ⟨S2x8192x128, .f32⟩
  | 37 => ⟨S2x8192x128, .f32⟩
  | 38 => ⟨S2x8192x128, .f32⟩
  | 39 => ⟨S2x8192x128, .f32⟩
  | 40 => ⟨S2x8192x128, .f32⟩
  | 41 => ⟨S2x8192x128, .f32⟩
  | 42 => ⟨S2x8192x128, .f32⟩
  | 43 => ⟨S2x8192x128, .f32⟩
  | 44 => ⟨S2x8192x128, .f32⟩
  | 45 => ⟨S2x8192x128, .f32⟩
  | 46 => ⟨S2x8192x128, .f32⟩
  | 47 => ⟨S2x8192x128, .f32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S8192, .f32⟩
  | 55 => ⟨S1x8192x1, .f32⟩
  | 56 => ⟨S2x8192x128, .f32⟩
  | 57 => ⟨S2x8192x128, .f32⟩
  | 58 => ⟨S2x8192x512, .f32⟩
  | 59 => ⟨S2x8192x512, .f32⟩
  | 60 => ⟨S2x8192x512, .f32⟩
  | 61 => ⟨S2x8192x4x128, .f32⟩
  | 62 => ⟨S4x128x2x8192, .f32⟩
  | 63 => ⟨S2x8192x4x128, .f32⟩
  | 64 => ⟨S2x8192x512, .f32⟩
  | 65 => ⟨S1x1x512, .f32⟩
  | 66 => ⟨S2x8192x512, .f32⟩
  | 67 => ⟨S2x8192x512, .f32⟩
  | 68 => ⟨S2x8x8192x64, .f32⟩
  | 69 => ⟨S8192, .i32⟩
  | 70 => ⟨S_, .i32⟩
  | 71 => ⟨S_, .i32⟩
  | 72 => ⟨S8192, .i32⟩
  | 73 => ⟨S8192, .i32⟩
  | 74 => ⟨S8192, .i32⟩
  | 75 => ⟨S_, .i32⟩
  | 76 => ⟨S8192, .i32⟩
  | 77 => ⟨S8192, .i1⟩
  | 78 => ⟨S8192, .i32⟩
  | 79 => ⟨S8192, .i32⟩
  | 80 => ⟨S_, .i32⟩
  | 81 => ⟨S8192, .i32⟩
  | 82 => ⟨S8192, .i1⟩
  | 83 => ⟨S8192, .i1⟩
  | 84 => ⟨S_, .i32⟩
  | 85 => ⟨S8192, .i32⟩
  | 86 => ⟨S8192, .i32⟩
  | 87 => ⟨S8192, .i32⟩
  | 88 => ⟨S8192x1, .i32⟩
  | 89 => ⟨S32, .i32⟩
  | 90 => ⟨S1x32, .i32⟩
  | 91 => ⟨S8192x32, .i32⟩
  | 92 => ⟨S8192x32, .i32⟩
  | 93 => ⟨S8192x32, .i1⟩
  | 94 => ⟨S8192x32, .f32⟩
  | 95 => ⟨S2x8x8192x32, .f32⟩
  | 96 => ⟨S2x8x8192x96, .f32⟩
  | 97 => ⟨S2x8x64x8192, .f32⟩
  | 98 => ⟨S16, .i32⟩
  | 99 => ⟨S_, .i32⟩
  | 100 => ⟨S16, .i32⟩
  | 101 => ⟨S16, .i1⟩
  | 102 => ⟨S16, .f32⟩
  | 103 => ⟨S16x1, .f32⟩
  | 104 => ⟨S2x8x16x8192, .f32⟩
  | 105 => ⟨S2x8x80x8192, .f32⟩
  | 106 => ⟨S2x8x64x8192, .f32⟩
  | 107 => ⟨S2x8x8192x96, .bf16⟩
  | 108 => ⟨S2x8x80x8192, .bf16⟩
  | 109 => ⟨S2x8192x512, .bf16⟩
  | 110 => ⟨S2x8192x1024, .f32⟩
  | 111 => ⟨S2x8192x1024, .f32⟩
  | 112 => ⟨S_, .f32⟩
  | 113 => ⟨S2x8192x1024, .f32⟩
  | 114 => ⟨S2x8192x1024, .f32⟩
  | 115 => ⟨S_, .f32⟩
  | 116 => ⟨S2x8192x1024, .f32⟩
  | 117 => ⟨S2x8192x1024, .f32⟩
  | 118 => ⟨S2x8192x1024, .bf16⟩
  | 119 => ⟨S2x8192x1024, .f32⟩
  | 120 => ⟨S2x8192x1024, .f32⟩
  | 121 => ⟨S_, .f32⟩
  | 122 => ⟨S2x8192x1024, .f32⟩
  | 123 => ⟨S2x8192x1024, .f32⟩
  | 124 => ⟨S_, .f32⟩
  | 125 => ⟨S2x8192x1024, .f32⟩
  | 126 => ⟨S2x8192x1024, .f32⟩
  | 127 => ⟨S2x8192x1024, .bf16⟩
  | _ => ⟨S2x8192x1024, .f32⟩

abbrev hbmTy0_2 (i : Nat) : BufTy := match i % 128 with
  | 0 => ⟨S2x16x512, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_10 : Ref sig .tc := ⟨.hbm, 84, rfl⟩
abbrev main_v65 : Ref sig .tc := ⟨.hbm, 85, rfl⟩
abbrev main_v66 : Ref sig .tc := ⟨.hbm, 86, rfl⟩
abbrev main_c_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_c_13 : Ref sig .tc := ⟨.hbm, 104, rfl⟩
abbrev main_v82 : Ref sig .tc := ⟨.hbm, 105, rfl⟩
abbrev main_v83 : Ref sig .tc := ⟨.hbm, 106, rfl⟩
abbrev main_c_14 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_15 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_c_16 : Ref sig .tc := ⟨.hbm, 132, rfl⟩
abbrev main_v107 : Ref sig .tc := ⟨.hbm, 133, rfl⟩
abbrev main_v108 : Ref sig .tc := ⟨.hbm, 134, rfl⟩
abbrev main_c_17 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_18 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_c_19 : Ref sig .tc := ⟨.hbm, 176, rfl⟩
abbrev main_v148 : Ref sig .tc := ⟨.hbm, 177, rfl⟩
abbrev main_v149 : Ref sig .tc := ⟨.hbm, 178, rfl⟩
abbrev main_c_20 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_c_21 : Ref sig .tc := ⟨.hbm, 198, rfl⟩
abbrev main_call0_v0 : Ref sig .tc := ⟨.hbm, 199, rfl⟩
abbrev main_call0_v1 : Ref sig .tc := ⟨.hbm, 200, rfl⟩
abbrev main_call0_v2 : Ref sig .tc := ⟨.hbm, 201, rfl⟩
abbrev main_call0_v3 : Ref sig .tc := ⟨.hbm, 202, rfl⟩
abbrev main_call0_v4 : Ref sig .tc := ⟨.hbm, 203, rfl⟩
abbrev main_call0_v5 : Ref sig .tc := ⟨.hbm, 204, rfl⟩
abbrev main_call0_v6 : Ref sig .tc := ⟨.hbm, 205, rfl⟩
abbrev main_call0_v7 : Ref sig .tc := ⟨.hbm, 206, rfl⟩
abbrev main_call0_v8 : Ref sig .tc := ⟨.hbm, 207, rfl⟩
abbrev main_call0_c : Ref sig .tc := ⟨.hbm, 208, rfl⟩
abbrev main_call0_v9 : Ref sig .tc := ⟨.hbm, 209, rfl⟩
abbrev main_call0_v10 : Ref sig .tc := ⟨.hbm, 210, rfl⟩
abbrev main_call0_v11 : Ref sig .tc := ⟨.hbm, 211, rfl⟩
abbrev main_call0_c_0 : Ref sig .tc := ⟨.hbm, 212, rfl⟩
abbrev main_call0_v12 : Ref sig .tc := ⟨.hbm, 213, rfl⟩
abbrev main_call0_v13 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_c_22 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_cst_23 : Ref sig .tc := ⟨.hbm, 240, rfl⟩
abbrev main_v192 : Ref sig .tc := ⟨.hbm, 241, rfl⟩
abbrev main_v193 : Ref sig .tc := ⟨.hbm, 242, rfl⟩
abbrev main_cst_24 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_cst_25 : Ref sig .tc := ⟨.hbm, 249, rfl⟩
abbrev main_v199 : Ref sig .tc := ⟨.hbm, 250, rfl⟩
abbrev main_v200 : Ref sig .tc := ⟨.hbm, 251, rfl⟩
abbrev main_cst_26 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩

abbrev nD : Nat := 1
abbrev τ : Topo := Topo.v7x

variable {F : FTy → Type} [FloatOps F]
-- ==== SampleIn.lean ====
abbrev S32x1x1024 : Shape := ⟨3, ![32, 1, 1024]⟩
abbrev S1x32x15x512 : Shape := ⟨4, ![1, 32, 15, 512]⟩
abbrev S1x1024 : Shape := ⟨2, ![1, 1024]⟩
abbrev S1x1024x4096 : Shape := ⟨3, ![1, 1024, 4096]⟩
abbrev S1x64 : Shape := ⟨2, ![1, 64]⟩
abbrev S1x4x128x128 : Shape := ⟨4, ![1, 4, 128, 128]⟩
abbrev S1x512 : Shape := ⟨2, ![1, 512]⟩
abbrev S1024x4096 : Shape := ⟨2, ![1024, 4096]⟩
abbrev S1024x1536 : Shape := ⟨2, ![1024, 1536]⟩
abbrev S1536x1024 : Shape := ⟨2, ![1536, 1024]⟩
abbrev S1024x2560 : Shape := ⟨2, ![1024, 2560]⟩
abbrev S4x128x128 : Shape := ⟨3, ![4, 128, 128]⟩
abbrev S32x1024 : Shape := ⟨2, ![32, 1024]⟩
abbrev S32x15x512 : Shape := ⟨3, ![32, 15, 512]⟩
abbrev S15x32x512 : Shape := ⟨3, ![15, 32, 512]⟩
abbrev S64x1 : Shape := ⟨2, ![64, 1]⟩
abbrev S32x512 : Shape := ⟨2, ![32, 512]⟩
abbrev S3x8x64x32 : Shape := ⟨4, ![3, 8, 64, 32]⟩
abbrev S32 : Shape := ⟨1, ![32]⟩
abbrev S32x1 : Shape := ⟨2, ![32, 1]⟩
abbrev S512x1024 : Shape := ⟨2, ![512, 1024]⟩
abbrev S32x64 : Shape := ⟨2, ![32, 64]⟩
abbrev S32x2560 : Shape := ⟨2, ![32, 2560]⟩
abbrev S1536x32 : Shape := ⟨2, ![1536, 32]⟩
abbrev S1x8x64x32 : Shape := ⟨4, ![1, 8, 64, 32]⟩
abbrev S8x64x32 : Shape := ⟨3, ![8, 64, 32]⟩
abbrev S8x32 : Shape := ⟨2, ![8, 32]⟩
abbrev S8x1x32 : Shape := ⟨3, ![8, 1, 32]⟩
abbrev S1x64x1 : Shape := ⟨3, ![1, 64, 1]⟩
abbrev S32x128 : Shape := ⟨2, ![32, 128]⟩
abbrev S1x32x128 : Shape := ⟨3, ![1, 32, 128]⟩
abbrev S1x128x128 : Shape := ⟨3, ![1, 128, 128]⟩
abbrev S128x128 : Shape := ⟨2, ![128, 128]⟩
abbrev S1x128 : Shape := ⟨2, ![1, 128]⟩
abbrev S1x32x512 : Shape := ⟨3, ![1, 32, 512]⟩

abbrev nBuf : Space → Nat
  | .hbm => 29
  | .vmem => 17
  | .smem => 0
  | _ => 0

abbrev bufTy : (tb : Table) → Fin (tcTables nBuf tb) → BufTy
  | .hbm, ⟨0, _⟩ => ⟨S32x1x1024, .f32⟩
  | .hbm, ⟨1, _⟩ => ⟨S1x32x15x512, .f32⟩
  | .hbm, ⟨2, _⟩ => ⟨S1x1024, .f32⟩
  | .hbm, ⟨3, _⟩ => ⟨S1x1024x4096, .f32⟩
  | .hbm, ⟨4, _⟩ => ⟨S1x64, .f32⟩
  | .hbm, ⟨5, _⟩ => ⟨S1x64, .f32⟩
  | .hbm, ⟨6, _⟩ => ⟨S1x4x128x128, .f32⟩
  | .hbm, ⟨7, _⟩ => ⟨S1x512, .f32⟩
  | .hbm, ⟨8, _⟩ => ⟨S1024x4096, .f32⟩
  | .hbm, ⟨9, _⟩ => ⟨S1024x1536, .f32⟩
  | .hbm, ⟨10, _⟩ => ⟨S1536x1024, .f32⟩
  | .hbm, ⟨11, _⟩ => ⟨S1536x1024, .bf16⟩
  | .hbm, ⟨12, _⟩ => ⟨S1024x4096, .f32⟩
  | .hbm, ⟨13, _⟩ => ⟨S1024x2560, .f32⟩
  | .hbm, ⟨14, _⟩ => ⟨S1024x2560, .bf16⟩
  | .hbm, ⟨15, _⟩ => ⟨S4x128x128, .f32⟩
  | .hbm, ⟨16, _⟩ => ⟨S4x128x128, .bf16⟩
  | .hbm, ⟨17, _⟩ => ⟨S32x1024, .f32⟩
  | .hbm, ⟨18, _⟩ => ⟨S32x15x512, .f32⟩
  | .hbm, ⟨19, _⟩ => ⟨S15x32x512, .f32⟩
  | .hbm, ⟨20, _⟩ => ⟨S64x1, .f32⟩
  | .hbm, ⟨21, _⟩ => ⟨S64x1, .f32⟩
  | .hbm, ⟨22, _⟩ => ⟨S32x512, .f32⟩
  | .hbm, ⟨23, _⟩ => ⟨S32x512, .f32⟩
  | .hbm, ⟨24, _⟩ => ⟨S3x8x64x32, .f32⟩
  | .hbm, ⟨25, _⟩ => ⟨S32x512, .bf16⟩
  | .hbm, ⟨26, _⟩ => ⟨S32x1024, .bf16⟩
  | .hbm, ⟨27, _⟩ => ⟨S32x1024, .bf16⟩
  | .hbm, ⟨28, _⟩ => ⟨S15x32x512, .f32⟩
  | .local _ .vmem, ⟨0, _⟩ => ⟨S32x1024, .f32⟩
  | .local _ .vmem, ⟨1, _⟩ => ⟨S1x1024, .f32⟩
  | .local _ .vmem, ⟨2, _⟩ => ⟨S1536x1024, .bf16⟩
  | .local _ .vmem, ⟨3, _⟩ => ⟨S1024x2560, .bf16⟩
  | .local _ .vmem, ⟨4, _⟩ => ⟨S1x64, .f32⟩
  | .local _ .vmem, ⟨5, _⟩ => ⟨S64x1, .f32⟩
  | .local _ .vmem, ⟨6, _⟩ => ⟨S64x1, .f32⟩
  | .local _ .vmem, ⟨7, _⟩ => ⟨S15x32x512, .f32⟩
  | .local _ .vmem, ⟨8, _⟩ => ⟨S4x128x128, .bf16⟩
  | .local _ .vmem, ⟨9, _⟩ => ⟨S1x512, .f32⟩
  | .local _ .vmem, ⟨10, _⟩ => ⟨S32x512, .f32⟩
  | .local _ .vmem, ⟨11, _⟩ => ⟨S32x512, .f32⟩
  | .local _ .vmem, ⟨12, _⟩ => ⟨S3x8x64x32, .f32⟩
  | .local _ .vmem, ⟨13, _⟩ => ⟨S32x512, .bf16⟩
  | .local _ .vmem, ⟨14, _⟩ => ⟨S32x1024, .bf16⟩
  | .local _ .vmem, ⟨15, _⟩ => ⟨S32x1024, .bf16⟩
  | .local _ .vmem, ⟨16, _⟩ => ⟨S15x32x512, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev main_v14_5 : Ref sig .tc := ⟨.hbm, 27, rfl⟩
abbrev main_v14_6 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S15x32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x8x64x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S15x32x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== SampleInRefIdeal.lean ====
abbrev S32x1x1024 : Shape := ⟨3, ![32, 1, 1024]⟩
abbrev S1x32x15x512 : Shape := ⟨4, ![1, 32, 15, 512]⟩
abbrev S1x1024 : Shape := ⟨2, ![1, 1024]⟩
abbrev S1x1024x4096 : Shape := ⟨3, ![1, 1024, 4096]⟩
abbrev S1x64 : Shape := ⟨2, ![1, 64]⟩
abbrev S1x4x128x128 : Shape := ⟨4, ![1, 4, 128, 128]⟩
abbrev S1x512 : Shape := ⟨2, ![1, 512]⟩
abbrev S1024 : Shape := ⟨1, ![1024]⟩
abbrev S1024x4096 : Shape := ⟨2, ![1024, 4096]⟩
abbrev S64 : Shape := ⟨1, ![64]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x4096 : Shape := ⟨3, ![32, 1, 4096]⟩
abbrev S32x1x512 : Shape := ⟨3, ![32, 1, 512]⟩
abbrev S32x1x8x64 : Shape := ⟨4, ![32, 1, 8, 64]⟩
abbrev S32x1x8 : Shape := ⟨3, ![32, 1, 8]⟩
abbrev S32x1x8x1 : Shape := ⟨4, ![32, 1, 8, 1]⟩
abbrev S1x1x1x64 : Shape := ⟨4, ![1, 1, 1, 64]⟩
abbrev S32x15x512 : Shape := ⟨3, ![32, 15, 512]⟩
abbrev S4x128x128 : Shape := ⟨3, ![4, 128, 128]⟩
abbrev S512 : Shape := ⟨1, ![512]⟩
abbrev S32x16x512 : Shape := ⟨3, ![32, 16, 512]⟩
abbrev S1 : Shape := ⟨1, ![1]⟩
abbrev S32x1x128 : Shape := ⟨3, ![32, 1, 128]⟩
abbrev S1x1x1 : Shape := ⟨3, ![1, 1, 1]⟩
abbrev S32x1x4x128 : Shape := ⟨4, ![32, 1, 4, 128]⟩
abbrev S4x128x32x1 : Shape := ⟨4, ![4, 128, 32, 1]⟩
abbrev S1x1x512 : Shape := ⟨3, ![1, 1, 512]⟩
abbrev S32x8x64 : Shape := ⟨3, ![32, 8, 64]⟩
abbrev S8x64x32 : Shape := ⟨3, ![8, 64, 32]⟩
abbrev S1x8x64x32 : Shape := ⟨4, ![1, 8, 64, 32]⟩
abbrev S3x8x64x32 : Shape := ⟨4, ![3, 8, 64, 32]⟩
abbrev S32x512 : Shape := ⟨2, ![32, 512]⟩
abbrev S32x1024 : Shape := ⟨2, ![32, 1024]⟩
abbrev S15x32x512 : Shape := ⟨3, ![15, 32, 512]⟩

abbrev nBuf : Space → Nat
  | .hbm => 232
  | .vmem => 0
  | .smem => 0
  | _ => 0

abbrev hbmTy0_0 (i : Nat) : BufTy := match i % 128 with
  | 0 => ⟨S32x1x1024, .f32⟩
  | 1 => ⟨S1x32x15x512, .f32⟩
  | 2 => ⟨S1x1024, .f32⟩
  | 3 => ⟨S1x1024x4096, .f32⟩
  | 4 => ⟨S1x64, .f32⟩
  | 5 => ⟨S1x64, .f32⟩
  | 6 => ⟨S1x4x128x128, .f32⟩
  | 7 => ⟨S1x512, .f32⟩
  | 8 => ⟨S1024, .f32⟩
  | 9 => ⟨S1024x4096, .f32⟩
  | 10 => ⟨S64, .f32⟩
  | 11 => ⟨S64, .f32⟩
  | 12 => ⟨S32x1x1024, .f32⟩
  | 13 => ⟨S_, .f32⟩
  | 14 => ⟨S32x1, .f32⟩
  | 15 => ⟨S32x1x1, .f32⟩
  | 16 => ⟨S_, .f32⟩
  | 17 => ⟨S32x1x1, .f32⟩
  | 18 => ⟨S32x1x1, .f32⟩
  | 19 => ⟨S_, .f32⟩
  | 20 => ⟨S32x1x1, .f32⟩
  | 21 => ⟨S32x1x1, .f32⟩
  | 22 => ⟨S32x1x1, .f32⟩
  | 23 => ⟨S32x1x1024, .f32⟩
  | 24 => ⟨S32x1x1024, .f32⟩
  | 25 => ⟨S1x1x1024, .f32⟩
  | 26 => ⟨S32x1x1024, .f32⟩
  | 27 => ⟨S32x1x1024, .f32⟩
  | 28 => ⟨S32x1x4096, .f32⟩
  | 29 => ⟨S32x1x512, .f32⟩
  | 30 => ⟨S32x1x512, .f32⟩
  | 31 => ⟨S32x1x512, .f32⟩
  | 32 => ⟨S32x1x512, .f32⟩
  | 33 => ⟨S32x1x1024, .f32⟩
  | 34 => ⟨S32x1x1024, .f32⟩
  | 35 => ⟨S32x1x8x64, .f32⟩
  | 36 => ⟨S32x1x8x64, .f32⟩
  | 37 => ⟨S_, .f32⟩
  | 38 => ⟨S32x1x8, .f32⟩
  | 39 => ⟨S32x1x8x1, .f32⟩
  | 40 => ⟨S_, .f32⟩
  | 41 => ⟨S32x1x8x1, .f32⟩
  | 42 => ⟨S32x1x8x1, .f32⟩
  | 43 => ⟨S_, .f32⟩
  | 44 => ⟨S32x1x8x1, .f32⟩
  | 45 => ⟨S32x1x8x1, .f32⟩
  | 46 => ⟨S32x1x8x1, .f32⟩
  | 47 => ⟨S32x1x8x64, .f32⟩
  | 48 => ⟨S32x1x8x64, .f32⟩
  | 49 => ⟨S1x1x1x64, .f32⟩
  | 50 => ⟨S32x1x8x64, .f32⟩
  | 51 => ⟨S32x1x8x64, .f32⟩
  | 52 => ⟨S32x1x8x64, .f32⟩
  | 53 => ⟨S32x1x8x64, .f32⟩
  | 54 => ⟨S_, .f32⟩
  | 55 => ⟨S32x1x8, .f32⟩
  | 56 => ⟨S32x1x8x1, .f32⟩
  | 57 => ⟨S_, .f32⟩
  | 58 => ⟨S32x1x8x1, .f32⟩
  | 59 => ⟨S32x1x8x1, .f32⟩
  | 60 => ⟨S_, .f32⟩
  | 61 => ⟨S32x1x8x1, .f32⟩
  | 62 => ⟨S32x1x8x1, .f32⟩
  | 63 => ⟨S32x1x8x1, .f32⟩
  | 64 => ⟨S32x1x8x64, .f32⟩
  | 65 => ⟨S32x1x8x64, .f32⟩
  | 66 => ⟨S1x1x1x64, .f32⟩
  | 67 => ⟨S32x1x8x64, .f32⟩
  | 68 => ⟨S32x1x8x64, .f32⟩
  | 69 => ⟨S32x1x8x64, .f32⟩
  | 70 => ⟨S32x15x512, .f32⟩
  | 71 => ⟨S4x128x128, .f32⟩
  | 72 => ⟨S512, .f32⟩
  | 73 => ⟨S32x16x512, .f32⟩
  | 74 => ⟨S1, .i32⟩
  | 75 => ⟨S_, .i32⟩
  | 76 => ⟨S1, .i32⟩
  | 77 => ⟨S1, .i32⟩
  | 78 => ⟨S32x1x128, .f32⟩
  | 79 => ⟨S_, .f32⟩
  | 80 => ⟨S32x1x128, .f32⟩
  | 81 => ⟨S32x1x128, .f32⟩
  | 82 => ⟨S32x1x128, .f32⟩
  | 83 => ⟨S32x1x128, .f32⟩
  | 84 => ⟨S_, .i32⟩
  | 85 => ⟨S1, .i32⟩
  | 86 => ⟨S1, .i32⟩
  | 87 => ⟨S_, .i32⟩
  | 88 => ⟨S1, .i32⟩
  | 89 => ⟨S1, .i32⟩
  | 90 => ⟨S1, .f32⟩
  | 91 => ⟨S1x1x1, .f32⟩
  | 92 => ⟨S32x1x128, .f32⟩
  | 93 => ⟨S32x1x128, .f32⟩
  | 94 => ⟨S32x1x128, .f32⟩
  | 95 => ⟨S_, .f32⟩
  | 96 => ⟨S32x1x128, .f32⟩
  | 97 => ⟨S32x1x128, .f32⟩
  | 98 => ⟨S32x1x128, .f32⟩
  | 99 => ⟨S32x1x128, .f32⟩
  | 100 => ⟨S32x1x128, .f32⟩
  | 101 => ⟨S32x1x128, .f32⟩
  | 102 => ⟨S32x1x128, .f32⟩
  | 103 => ⟨S32x1x128, .f32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .f32⟩
  | 111 => ⟨S1x1x1, .f32⟩
  | 112 => ⟨S32x1x128, .f32⟩
  | 113 => ⟨S32x1x128, .f32⟩
  | 114 => ⟨S32x1x128, .f32⟩
  | 115 => ⟨S_, .f32⟩
  | 116 => ⟨S32x1x128, .f32⟩
  | 117 => ⟨S32x1x128, .f32⟩
  | 118 => ⟨S32x1x128, .f32⟩
  | 119 => ⟨S32x1x128, .f32⟩
  | 120 => ⟨S32x1x128, .f32⟩
  | 121 => ⟨S32x1x128, .f32⟩
  | 122 => ⟨S32x1x128, .f32⟩
  | 123 => ⟨S32x1x128, .f32⟩
  | 124 => ⟨S32x1x128, .f32⟩
  | 125 => ⟨S32x1x128, .f32⟩
  | 126 => ⟨S32x1x128, .f32⟩
  | 127 => ⟨S32x1x128, .f32⟩
  | _ => ⟨S32x1x1024, .f32⟩

abbrev hbmTy0_1 (i : Nat) : BufTy := match i % 128 with
  | 0 => ⟨S32x1x128, .f32⟩
  | 1 => ⟨S32x1x128, .f32⟩
  | 2 => ⟨S32x1x128, .f32⟩
  | 3 => ⟨S32x1x128, .f32⟩
  | 4 => ⟨S_, .i32⟩
  | 5 => ⟨S1, .i32⟩
  | 6 => ⟨S1, .i32⟩
  | 7 => ⟨S_, .i32⟩
  | 8 => ⟨S1, .i32⟩
  | 9 => ⟨S1, .i32⟩
  | 10 => ⟨S1, .f32⟩
  | 11 => ⟨S1x1x1, .f32⟩
  | 12 => ⟨S32x1x128, .f32⟩
  | 13 => ⟨S32x1x128, .f32⟩
  | 14 => ⟨S32x1x128, .f32⟩
  | 15 => ⟨S_, .f32⟩
  | 16 => ⟨S32x1x128, .f32⟩
  | 17 => ⟨S32x1x128, .f32⟩
  | 18 => ⟨S32x1x128, .f32⟩
  | 19 => ⟨S32x1x128, .f32⟩
  | 20 => ⟨S32x1x128, .f32⟩
  | 21 => ⟨S32x1x128, .f32⟩
  | 22 => ⟨S32x1x128, .f32⟩
  | 23 => ⟨S32x1x128, .f32⟩
  | 24 => ⟨S32x1x128, .f32⟩
  | 25 => ⟨S32x1x128, .f32⟩
  | 26 => ⟨S32x1x128, .f32⟩
  | 27 => ⟨S32x1x128, .f32⟩
  | 28 => ⟨S32x1x128, .f32⟩
  | 29 => ⟨S32x1x128, .f32⟩
  | 30 => ⟨S32x1x128, .f32⟩
  | 31 => ⟨S32x1x128, .f32⟩
  | 32 => ⟨S32x1x128, .f32⟩
  | 33 => ⟨S32x1x128, .f32⟩
  | 34 => ⟨S32x1x128, .f32⟩
  | 35 => ⟨S32x1x128, .f32⟩
  | 36 => ⟨S32x1x128, .f32⟩
  | 37 => ⟨S32x1x128, .f32⟩
  | 38 => ⟨S32x1x128, .f32⟩
  | 39 => ⟨S32x1x128, .f32⟩
  | 40 => ⟨S32x1x128, .f32⟩
  | 41 => ⟨S32x1x128, .f32⟩
  | 42 => ⟨S32x1x128, .f32⟩
  | 43 => ⟨S32x1x128, .f32⟩
  | 44 => ⟨S32x1x128, .f32⟩
  | 45 => ⟨S32x1x128, .f32⟩
  | 46 => ⟨S32x1x128, .f32⟩
  | 47 => ⟨S32x1x128, .f32⟩
  | 48 => ⟨S_, .i32⟩
  | 49 => ⟨S1, .i32⟩
  | 50 => ⟨S1, .i32⟩
  | 51 => ⟨S_, .i32⟩
  | 52 => ⟨S1, .i32⟩
  | 53 => ⟨S1, .i32⟩
  | 54 => ⟨S1, .f32⟩
  | 55 => ⟨S1x1x1, .f32⟩
  | 56 => ⟨S32x1x128, .f32⟩
  | 57 => ⟨S32x1x128, .f32⟩
  | 58 => ⟨S32x1x512, .f32⟩
  | 59 => ⟨S32x1x512, .f32⟩
  | 60 => ⟨S32x1x512, .f32⟩
  | 61 => ⟨S32x1x4x128, .f32⟩
  | 62 => ⟨S4x128x32x1, .f32⟩
  | 63 => ⟨S32x1x4x128, .f32⟩
  | 64 => ⟨S32x1x512, .f32⟩
  | 65 => ⟨S1x1x512, .f32⟩
  | 66 => ⟨S32x1x512, .f32⟩
  | 67 => ⟨S32x1x512, .f32⟩
  | 68 => ⟨S32x8x64, .f32⟩
  | 69 => ⟨S8x64x32, .f32⟩
  | 70 => ⟨S32x8x64, .f32⟩
  | 71 => ⟨S8x64x32, .f32⟩
  | 72 => ⟨S32x8x64, .f32⟩
  | 73 => ⟨S8x64x32, .f32⟩
  | 74 => ⟨S1x8x64x32, .f32⟩
  | 75 => ⟨S1x8x64x32, .f32⟩
  | 76 => ⟨S1x8x64x32, .f32⟩
  | 77 => ⟨S3x8x64x32, .f32⟩
  | 78 => ⟨S32x512, .f32⟩
  | 79 => ⟨S32x512, .f32⟩
  | 80 => ⟨S32x512, .f32⟩
  | 81 => ⟨S32x512, .bf16⟩
  | 82 => ⟨S32x1024, .f32⟩
  | 83 => ⟨S32x1024, .f32⟩
  | 84 => ⟨S32x1024, .f32⟩
  | 85 => ⟨S_, .f32⟩
  | 86 => ⟨S32x1024, .f32⟩
  | 87 => ⟨S32x1024, .f32⟩
  | 88 => ⟨S_, .f32⟩
  | 89 => ⟨S32x1024, .f32⟩
  | 90 => ⟨S32x1024, .f32⟩
  | 91 => ⟨S32x1024, .bf16⟩
  | 92 => ⟨S32x1024, .f32⟩
  | 93 => ⟨S32x1024, .f32⟩
  | 94 => ⟨S32x1024, .f32⟩
  | 95 => ⟨S_, .f32⟩
  | 96 => ⟨S32x1024, .f32⟩
  | 97 => ⟨S32x1024, .f32⟩
  | 98 => ⟨S_, .f32⟩
  | 99 => ⟨S32x1024, .f32⟩
  | 100 => ⟨S32x1024, .f32⟩
  | 101 => ⟨S32x1024, .bf16⟩
  | 102 => ⟨S32x15x512, .f32⟩
  | 103 => ⟨S15x32x512, .f32⟩
  | _ => ⟨S32x1x1024, .f32⟩

abbrev hbmTy (i : Nat) : BufTy := match i / 128 with
  | 0 => hbmTy0_0 i
  | 1 => hbmTy0_1 i
  | _ => ⟨S32x1x1024, .f32⟩

abbrev bufTy : (tb : Table) → Fin (tcTables nBuf tb) → BufTy
  | .hbm, ⟨i, _⟩ => hbmTy i
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_9 : Ref sig .tc := ⟨.hbm, 84, rfl⟩
abbrev main_v65 : Ref sig .tc := ⟨.hbm, 85, rfl⟩
abbrev main_v66 : Ref sig .tc := ⟨.hbm, 86, rfl⟩
abbrev main_c_10 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_11 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_c_12 : Ref sig .tc := ⟨.hbm, 104, rfl⟩
abbrev main_v82 : Ref sig .tc := ⟨.hbm, 105, rfl⟩
abbrev main_v83 : Ref sig .tc := ⟨.hbm, 106, rfl⟩
abbrev main_c_13 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_14 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_c_15 : Ref sig .tc := ⟨.hbm, 132, rfl⟩
abbrev main_v107 : Ref sig .tc := ⟨.hbm, 133, rfl⟩
abbrev main_v108 : Ref sig .tc := ⟨.hbm, 134, rfl⟩
abbrev main_c_16 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_17 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_c_18 : Ref sig .tc := ⟨.hbm, 176, rfl⟩
abbrev main_v148 : Ref sig .tc := ⟨.hbm, 177, rfl⟩
abbrev main_v149 : Ref sig .tc := ⟨.hbm, 178, rfl⟩
abbrev main_c_19 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_cst_20 : Ref sig .tc := ⟨.hbm, 213, rfl⟩
abbrev main_v183 : Ref sig .tc := ⟨.hbm, 214, rfl⟩
abbrev main_v184 : Ref sig .tc := ⟨.hbm, 215, rfl⟩
abbrev main_cst_21 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_cst_22 : Ref sig .tc := ⟨.hbm, 223, rfl⟩
abbrev main_v191 : Ref sig .tc := ⟨.hbm, 224, rfl⟩
abbrev main_v192 : Ref sig .tc := ⟨.hbm, 225, rfl⟩
abbrev main_cst_23 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩

abbrev nD : Nat := 1
abbrev τ : Topo := Topo.v7x

variable {F : FTy → Type} [FloatOps F]
-- ==== Tail.lean ====
abbrev S32x1x1024 : Shape := ⟨3, ![32, 1, 1024]⟩
abbrev S8x64x32 : Shape := ⟨3, ![8, 64, 32]⟩
abbrev S32x512 : Shape := ⟨2, ![32, 512]⟩
abbrev S32x1024 : Shape := ⟨2, ![32, 1024]⟩
abbrev S1x32x1x256 : Shape := ⟨4, ![1, 32, 1, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S1x512x32 : Shape := ⟨3, ![1, 512, 32]⟩
abbrev S1x32x1024 : Shape := ⟨3, ![1, 32, 1024]⟩
abbrev S1x32x512 : Shape := ⟨3, ![1, 32, 512]⟩
abbrev S32x1x256 : Shape := ⟨3, ![32, 1, 256]⟩
abbrev S1x32x256 : Shape := ⟨3, ![1, 32, 256]⟩
abbrev S512x32 : Shape := ⟨2, ![512, 32]⟩
abbrev S32 : Shape := ⟨1, ![32]⟩
abbrev S32x1 : Shape := ⟨2, ![32, 1]⟩
abbrev S32x256 : Shape := ⟨2, ![32, 256]⟩

abbrev nBuf : Space → Nat
  | .hbm => 39
  | .vmem => 17
  | .smem => 0
  | _ => 0

abbrev bufTy : (tb : Table) → Fin (tcTables nBuf tb) → BufTy
  | .hbm, ⟨0, _⟩ => ⟨S32x1x1024, .f32⟩
  | .hbm, ⟨1, _⟩ => ⟨S8x64x32, .f32⟩
  | .hbm, ⟨2, _⟩ => ⟨S32x512, .bf16⟩
  | .hbm, ⟨3, _⟩ => ⟨S32x1024, .bf16⟩
  | .hbm, ⟨4, _⟩ => ⟨S32x1024, .bf16⟩
  | .hbm, ⟨5, _⟩ => ⟨S1x32x1x256, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1x1024, .f32⟩
  | .hbm, ⟨13, _⟩ => ⟨S1x1024x1024, .f32⟩
  | .hbm, ⟨14, _⟩ => ⟨S1x256x1024, .f32⟩
  | .hbm, ⟨15, _⟩ => ⟨S512x1024, .f32⟩
  | .hbm, ⟨16, _⟩ => ⟨S512x1024, .bf16⟩
  | .hbm, ⟨17, _⟩ => ⟨S512x1024, .f32⟩
  | .hbm, ⟨18, _⟩ => ⟨S512x1024, .bf16⟩
  | .hbm, ⟨19, _⟩ => ⟨S1024x1024, .f32⟩
  | .hbm, ⟨20, _⟩ => ⟨S1024x1024, .bf16⟩
  | .hbm, ⟨21, _⟩ => ⟨S1024x4096, .f32⟩
  | .hbm, ⟨22, _⟩ => ⟨S1024x4096, .bf16⟩
  | .hbm, ⟨23, _⟩ => ⟨S4096x1024, .f32⟩
  | .hbm, ⟨24, _⟩ => ⟨S4096x1024, .bf16⟩
  | .hbm, ⟨25, _⟩ => ⟨S1024x1024, .f32⟩
  | .hbm, ⟨26, _⟩ => ⟨S1024x1024, .bf16⟩
  | .hbm, ⟨27, _⟩ => ⟨S256x1024, .f32⟩
  | .hbm, ⟨28, _⟩ => ⟨S256x1024, .bf16⟩
  | .hbm, ⟨29, _⟩ => ⟨S32x1024, .f32⟩
  | .hbm, ⟨30, _⟩ => ⟨S1x512x32, .f32⟩
  | .hbm, ⟨31, _⟩ => ⟨S1x512x32, .bf16⟩
  | .hbm, ⟨32, _⟩ => ⟨S1x32x1024, .f32⟩
  | .hbm, ⟨33, _⟩ => ⟨S1x32x512, .bf16⟩
  | .hbm, ⟨34, _⟩ => ⟨S1x32x1024, .bf16⟩
  | .hbm, ⟨35, _⟩ => ⟨S1x32x1024, .bf16⟩
  | .hbm, ⟨36, _⟩ => ⟨S32x1x256, .f32⟩
  | .hbm, ⟨37, _⟩ => ⟨S1x32x256, .f32⟩
  | .hbm, ⟨38, _⟩ => ⟨S1x32x1024, .f32⟩
  | .local _ .vmem, ⟨0, _⟩ => ⟨S1x32x1024, .f32⟩
  | .local _ .vmem, ⟨1, _⟩ => ⟨S1x512x32, .bf16⟩
  | .local _ .vmem, ⟨2, _⟩ => ⟨S1x512x32, .bf16⟩
  | .local _ .vmem, ⟨3, _⟩ => ⟨S1x32x512, .bf16⟩
  | .local _ .vmem, ⟨4, _⟩ => ⟨S1x32x1024, .bf16⟩
  | .local _ .vmem, ⟨5, _⟩ => ⟨S1x32x1024, .bf16⟩
  | .local _ .vmem, ⟨6, _⟩ => ⟨S1x32x256, .f32⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S1024x1024, .bf16⟩
  | .local _ .vmem, ⟨15, _⟩ => ⟨S256x1024, .bf16⟩
  | .local _ .vmem, ⟨16, _⟩ => ⟨S1x32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x512x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x512x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x32x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x32x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]
-- ==== TailRefIdeal.lean ====
abbrev S32x1x1024 : Shape := ⟨3, ![32, 1, 1024]⟩
abbrev S8x64x32 : Shape := ⟨3, ![8, 64, 32]⟩
abbrev S32x512 : Shape := ⟨2, ![32, 512]⟩
abbrev S32x1024 : Shape := ⟨2, ![32, 1024]⟩
abbrev S1x32x1x256 : Shape := ⟨4, ![1, 32, 1, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S512x32 : Shape := ⟨2, ![512, 32]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S32 : Shape := ⟨1, ![32]⟩
abbrev S32x1 : Shape := ⟨2, ![32, 1]⟩
abbrev S1024x4096 : Shape := ⟨2, ![1024, 4096]⟩
abbrev S32x4096 : Shape := ⟨2, ![32, 4096]⟩
abbrev S4096x1024 : Shape := ⟨2, ![4096, 1024]⟩
abbrev S32x256 : Shape := ⟨2, ![32, 256]⟩
abbrev S256x1024 : Shape := ⟨2, ![256, 1024]⟩
abbrev S1x32x1024 : Shape := ⟨3, ![1, 32, 1024]⟩

abbrev nBuf : Space → Nat
  | .hbm => 90
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S8x64x32, .f32⟩
  | .hbm, ⟨2, _⟩ => ⟨S32x512, .bf16⟩
  | .hbm, ⟨3, _⟩ => ⟨S32x1024, .bf16⟩
  | .hbm, ⟨4, _⟩ => ⟨S32x1024, .bf16⟩
  | .hbm, ⟨5, _⟩ => ⟨S1x32x1x256, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1x1024, .f32⟩
  | .hbm, ⟨13, _⟩ => ⟨S1x1024x1024, .f32⟩
  | .hbm, ⟨14, _⟩ => ⟨S1x256x1024, .f32⟩
  | .hbm, ⟨15, _⟩ => ⟨S32x1024, .f32⟩
  | .hbm, ⟨16, _⟩ => ⟨S512x32, .f32⟩
  | .hbm, ⟨17, _⟩ => ⟨S32x512, .f32⟩
  | .hbm, ⟨18, _⟩ => ⟨S32x512, .f32⟩
  | .hbm, ⟨19, _⟩ => ⟨S32x1024, .f32⟩
  | .hbm, ⟨20, _⟩ => ⟨S32x1024, .f32⟩
  | .hbm, ⟨21, _⟩ => ⟨S512x1024, .f32⟩
  | .hbm, ⟨22, _⟩ => ⟨S32x1024, .f32⟩
  | .hbm, ⟨23, _⟩ => ⟨S32x1024, .f32⟩
  | .hbm, ⟨24, _⟩ => ⟨S512x1024, .f32⟩
  | .hbm, ⟨25, _⟩ => ⟨S32x1024, .f32⟩
  | .hbm, ⟨26, _⟩ => ⟨S32x1024, .f32⟩
  | .hbm, ⟨27, _⟩ => ⟨S32x1024, .f32⟩
  | .hbm, ⟨28, _⟩ => ⟨S1024x1024, .f32⟩
  | .hbm, ⟨29, _⟩ => ⟨S32x1024, .f32⟩
  | .hbm, ⟨30, _⟩ => ⟨S32x1024, .f32⟩
  | .hbm, ⟨31, _⟩ => ⟨S1024, .f32⟩
  | .hbm, ⟨32, _⟩ => ⟨S32x1024, .f32⟩
  | .hbm, ⟨33, _⟩ => ⟨S_, .f32⟩
  | .hbm, ⟨34, _⟩ => ⟨S32, .f32⟩
  | .hbm, ⟨35, _⟩ => ⟨S32x1, .f32⟩
  | .hbm, ⟨36, _⟩ => ⟨S_, .f32⟩
  | .hbm, ⟨37, _⟩ => ⟨S32x1, .f32⟩
  | .hbm, ⟨38, _⟩ => ⟨S32x1, .f32⟩
  | .hbm, ⟨39, _⟩ => ⟨S_, .f32⟩
  | .hbm, ⟨40, _⟩ => ⟨S32x1, .f32⟩
  | .hbm, ⟨41, _⟩ => ⟨S32x1, .f32⟩
  | .hbm, ⟨42, _⟩ => ⟨S32x1, .f32⟩
  | .hbm, ⟨43, _⟩ => ⟨S32x1024, .f32⟩
  | .hbm, ⟨44, _⟩ => ⟨S32x1024, .f32⟩
  | .hbm, ⟨45, _⟩ => ⟨S1x1024, .f32⟩
  | .hbm, ⟨46, _⟩ => ⟨S32x1024, .f32⟩
  | .hbm, ⟨47, _⟩ => ⟨S32x1024, .f32⟩
  | .hbm, ⟨48, _⟩ => ⟨S1024x4096, .f32⟩
  | .hbm, ⟨49, _⟩ => ⟨S32x4096, .f32⟩
  | .hbm, ⟨50, _⟩ => ⟨S_, .f32⟩
  | .hbm, ⟨51, _⟩ => ⟨S32x4096, .f32⟩
  | .hbm, ⟨52, _⟩ => ⟨S32x4096, .f32⟩
  | .hbm, ⟨53, _⟩ => ⟨S32x4096, .f32⟩
  | .hbm, ⟨54, _⟩ => ⟨S4096x1024, .f32⟩
  | .hbm, ⟨55, _⟩ => ⟨S32x1024, .f32⟩
  | .hbm, ⟨56, _⟩ => ⟨S32x1024, .f32⟩
  | .hbm, ⟨57, _⟩ => ⟨S1024, .f32⟩
  | .hbm, ⟨58, _⟩ => ⟨S32x1024, .f32⟩
  | .hbm, ⟨59, _⟩ => ⟨S_, .f32⟩
  | .hbm, ⟨60, _⟩ => ⟨S32, .f32⟩
  | .hbm, ⟨61, _⟩ => ⟨S32x1, .f32⟩
  | .hbm, ⟨62, _⟩ => ⟨S_, .f32⟩
  | .hbm, ⟨63, _⟩ => ⟨S32x1, .f32⟩
  | .hbm, ⟨64, _⟩ => ⟨S32x1, .f32⟩
  | .hbm, ⟨65, _⟩ => ⟨S_, .f32⟩
  | .hbm, ⟨66, _⟩ => ⟨S32x1, .f32⟩
  | .hbm, ⟨67, _⟩ => ⟨S32x1, .f32⟩
  | .hbm, ⟨68, _⟩ => ⟨S32x1, .f32⟩
  | .hbm, ⟨69, _⟩ => ⟨S32x1024, .f32⟩
  | .hbm, ⟨70, _⟩ => ⟨S32x1024, .f32⟩
  | .hbm, ⟨71, _⟩ => ⟨S1x1024, .f32⟩
  | .hbm, ⟨72, _⟩ => ⟨S32x1024, .f32⟩
  | .hbm, ⟨73, _⟩ => ⟨S32x1024, .f32⟩
  | .hbm, ⟨74, _⟩ => ⟨S1024x1024, .f32⟩
  | .hbm, ⟨75, _⟩ => ⟨S32x1024, .f32⟩
  | .hbm, ⟨76, _⟩ => ⟨S32x1024, .f32⟩
  | .hbm, ⟨77, _⟩ => ⟨S32x1024, .f32⟩
  | .hbm, ⟨78, _⟩ => ⟨S_, .f32⟩
  | .hbm, ⟨79, _⟩ => ⟨S32x1024, .f32⟩
  | .hbm, ⟨80, _⟩ => ⟨S32x1024, .f32⟩
  | .hbm, ⟨81, _⟩ => ⟨S_, .f32⟩
  | .hbm, ⟨82, _⟩ => ⟨S32x1024, .f32⟩
  | .hbm, ⟨83, _⟩ => ⟨S32x1024, .f32⟩
  | .hbm, ⟨84, _⟩ => ⟨S32x256, .f32⟩
  | .hbm, ⟨85, _⟩ => ⟨S256x1024, .f32⟩
  | .hbm, ⟨86, _⟩ => ⟨S32x1024, .f32⟩
  | .hbm, ⟨87, _⟩ => ⟨S32x1024, .f32⟩
  | .hbm, ⟨88, _⟩ => ⟨S32x1024, .f32⟩
  | .hbm, ⟨89, _⟩ => ⟨S1x32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call0_cst : Ref sig .tc := ⟨.hbm, 50, rfl⟩
abbrev main_call0_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_2 : Ref sig .tc := ⟨.hbm, 59, rfl⟩
abbrev main_v39 : Ref sig .tc := ⟨.hbm, 60, rfl⟩
abbrev main_v40 : Ref sig .tc := ⟨.hbm, 61, rfl⟩
abbrev main_cst_3 : Ref sig .tc := ⟨.hbm, 62, rfl⟩
abbrev main_v41 : Ref sig .tc := ⟨.hbm, 63, rfl⟩
abbrev main_v42 : Ref sig .tc := ⟨.hbm, 64, rfl⟩
abbrev main_cst_4 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]
-- ==== PromptTail.lean ====
abbrev S2x8192x1024 : Shape := ⟨3, ![2, 8192, 1024]⟩
abbrev S2x8x64x8192 : Shape := ⟨4, ![2, 8, 64, 8192]⟩
abbrev S2x8192x512 : Shape := ⟨3, ![2, 8192, 512]⟩
abbrev S1x2x8192x256 : Shape := ⟨4, ![1, 2, 8192, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S2x512x8192 : Shape := ⟨3, ![2, 512, 8192]⟩
abbrev S2x8192x256 : Shape := ⟨3, ![2, 8192, 256]⟩
abbrev S1x512x512 : Shape := ⟨3, ![1, 512, 512]⟩
abbrev S1x512x256 : Shape := ⟨3, ![1, 512, 256]⟩
abbrev S512x512 : Shape := ⟨2, ![512, 512]⟩
abbrev S512 : Shape := ⟨1, ![512]⟩
abbrev S512x1 : Shape := ⟨2, ![512, 1]⟩
abbrev S512x256 : Shape := ⟨2, ![512, 256]⟩

abbrev nBuf : Space → Nat
  | .hbm => 32
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S2x8x64x8192, .bf16⟩
  | .hbm, ⟨2, _⟩ => ⟨S2x8192x512, .bf16⟩
  | .hbm, ⟨3, _⟩ => ⟨S2x8192x1024, .bf16⟩
  | .hbm, ⟨4, _⟩ => ⟨S2x8192x1024, .bf16⟩
  | .hbm, ⟨5, _⟩ => ⟨S1x2x8192x256, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1x1024, .f32⟩
  | .hbm, ⟨13, _⟩ => ⟨S1x1024x1024, .f32⟩
  | .hbm, ⟨14, _⟩ => ⟨S1x256x1024, .f32⟩
  | .hbm, ⟨15, _⟩ => ⟨S512x1024, .f32⟩
  | .hbm, ⟨16, _⟩ => ⟨S512x1024, .bf16⟩
  | .hbm, ⟨17, _⟩ => ⟨S512x1024, .f32⟩
  | .hbm, ⟨18, _⟩ => ⟨S512x1024, .bf16⟩
  | .hbm, ⟨19, _⟩ => ⟨S1024x1024, .f32⟩
  | .hbm, ⟨20, _⟩ => ⟨S1024x1024, .bf16⟩
  | .hbm, ⟨21, _⟩ => ⟨S1024x4096, .f32⟩
  | .hbm, ⟨22, _⟩ => ⟨S1024x4096, .bf16⟩
  | .hbm, ⟨23, _⟩ => ⟨S4096x1024, .f32⟩
  | .hbm, ⟨24, _⟩ => ⟨S4096x1024, .bf16⟩
  | .hbm, ⟨25, _⟩ => ⟨S1024x1024, .f32⟩
  | .hbm, ⟨26, _⟩ => ⟨S1024x1024, .bf16⟩
  | .hbm, ⟨27, _⟩ => ⟨S256x1024, .f32⟩
  | .hbm, ⟨28, _⟩ => ⟨S256x1024, .bf16⟩
  | .hbm, ⟨29, _⟩ => ⟨S2x512x8192, .bf16⟩
  | .hbm, ⟨30, _⟩ => ⟨S2x8192x256, .f32⟩
  | .hbm, ⟨31, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x256, .f32⟩
  | .local _ .vmem, ⟨11, _⟩ => ⟨S1x512x256, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S1024x1024, .bf16⟩
  | .local _ .vmem, ⟨20, _⟩ => ⟨S256x1024, .bf16⟩
  | .local _ .vmem, ⟨21, _⟩ => ⟨S1x512x1024, .f32⟩
  | .local _ .vmem, ⟨22, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== PromptTailRefIdeal.lean ====
abbrev S2x8192x1024 : Shape := ⟨3, ![2, 8192, 1024]⟩
abbrev S2x8x64x8192 : Shape := ⟨4, ![2, 8, 64, 8192]⟩
abbrev S2x8192x512 : Shape := ⟨3, ![2, 8192, 512]⟩
abbrev S1x2x8192x256 : Shape := ⟨4, ![1, 2, 8192, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S2x512x8192 : Shape := ⟨3, ![2, 512, 8192]⟩
abbrev S2x8192x256 : Shape := ⟨3, ![2, 8192, 256]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x4096 : Shape := ⟨2, ![1024, 4096]⟩
abbrev S2x8192x4096 : Shape := ⟨3, ![2, 8192, 4096]⟩
abbrev S4096x1024 : Shape := ⟨2, ![4096, 1024]⟩
abbrev S256x1024 : Shape := ⟨2, ![256, 1024]⟩

abbrev nBuf : Space → Nat
  | .hbm => 89
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8x64x8192, .bf16⟩
  | .hbm, ⟨2, _⟩ => ⟨S2x8192x512, .bf16⟩
  | .hbm, ⟨3, _⟩ => ⟨S2x8192x1024, .bf16⟩
  | .hbm, ⟨4, _⟩ => ⟨S2x8192x1024, .bf16⟩
  | .hbm, ⟨5, _⟩ => ⟨S1x2x8192x256, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1x1024, .f32⟩
  | .hbm, ⟨13, _⟩ => ⟨S1x1024x1024, .f32⟩
  | .hbm, ⟨14, _⟩ => ⟨S1x256x1024, .f32⟩
  | .hbm, ⟨15, _⟩ => ⟨S2x8x64x8192, .f32⟩
  | .hbm, ⟨16, _⟩ => ⟨S2x512x8192, .f32⟩
  | .hbm, ⟨17, _⟩ => ⟨S2x8192x512, .f32⟩
  | .hbm, ⟨18, _⟩ => ⟨S2x8192x256, .f32⟩
  | .hbm, ⟨19, _⟩ => ⟨S2x8192x512, .f32⟩
  | .hbm, ⟨20, _⟩ => ⟨S2x8192x1024, .f32⟩
  | .hbm, ⟨21, _⟩ => ⟨S2x8192x1024, .f32⟩
  | .hbm, ⟨22, _⟩ => ⟨S512x1024, .f32⟩
  | .hbm, ⟨23, _⟩ => ⟨S2x8192x1024, .f32⟩
  | .hbm, ⟨24, _⟩ => ⟨S2x8192x1024, .f32⟩
  | .hbm, ⟨25, _⟩ => ⟨S512x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S1024x1024, .f32⟩
  | .hbm, ⟨30, _⟩ => ⟨S2x8192x1024, .f32⟩
  | .hbm, ⟨31, _⟩ => ⟨S2x8192x1024, .f32⟩
  | .hbm, ⟨32, _⟩ => ⟨S1024, .f32⟩
  | .hbm, ⟨33, _⟩ => ⟨S2x8192x1024, .f32⟩
  | .hbm, ⟨34, _⟩ => ⟨S_, .f32⟩
  | .hbm, ⟨35, _⟩ => ⟨S2x8192, .f32⟩
  | .hbm, ⟨36, _⟩ => ⟨S2x8192x1, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S2x8192x1, .f32⟩
  | .hbm, ⟨44, _⟩ => ⟨S2x8192x1024, .f32⟩
  | .hbm, ⟨45, _⟩ => ⟨S2x8192x1024, .f32⟩
  | .hbm, ⟨46, _⟩ => ⟨S1x1x1024, .f32⟩
  | .hbm, ⟨47, _⟩ => ⟨S2x8192x1024, .f32⟩
  | .hbm, ⟨48, _⟩ => ⟨S2x8192x1024, .f32⟩
  | .hbm, ⟨49, _⟩ => ⟨S1024x4096, .f32⟩
  | .hbm, ⟨50, _⟩ => ⟨S2x8192x4096, .f32⟩
  | .hbm, ⟨51, _⟩ => ⟨S_, .f32⟩
  | .hbm, ⟨52, _⟩ => ⟨S2x8192x4096, .f32⟩
  | .hbm, ⟨53, _⟩ => ⟨S2x8192x4096, .f32⟩
  | .hbm, ⟨54, _⟩ => ⟨S2x8192x4096, .f32⟩
  | .hbm, ⟨55, _⟩ => ⟨S4096x1024, .f32⟩
  | .hbm, ⟨56, _⟩ => ⟨S2x8192x1024, .f32⟩
  | .hbm, ⟨57, _⟩ => ⟨S2x8192x1024, .f32⟩
  | .hbm, ⟨58, _⟩ => ⟨S1024, .f32⟩
  | .hbm, ⟨59, _⟩ => ⟨S2x8192x1024, .f32⟩
  | .hbm, ⟨60, _⟩ => ⟨S_, .f32⟩
  | .hbm, ⟨61, _⟩ => ⟨S2x8192, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S_, .f32⟩
  | .hbm, ⟨67, _⟩ => ⟨S2x8192x1, .f32⟩
  | .hbm, ⟨68, _⟩ => ⟨S2x8192x1, .f32⟩
  | .hbm, ⟨69, _⟩ => ⟨S2x8192x1, .f32⟩
  | .hbm, ⟨70, _⟩ => ⟨S2x8192x1024, .f32⟩
  | .hbm, ⟨71, _⟩ => ⟨S2x8192x1024, .f32⟩
  | .hbm, ⟨72, _⟩ => ⟨S1x1x1024, .f32⟩
  | .hbm, ⟨73, _⟩ => ⟨S2x8192x1024, .f32⟩
  | .hbm, ⟨74, _⟩ => ⟨S2x8192x1024, .f32⟩
  | .hbm, ⟨75, _⟩ => ⟨S1024x1024, .f32⟩
  | .hbm, ⟨76, _⟩ => ⟨S2x8192x1024, .f32⟩
  | .hbm, ⟨77, _⟩ => ⟨S2x8192x1024, .f32⟩
  | .hbm, ⟨78, _⟩ => ⟨S2x8192x1024, .f32⟩
  | .hbm, ⟨79, _⟩ => ⟨S_, .f32⟩
  | .hbm, ⟨80, _⟩ => ⟨S2x8192x1024, .f32⟩
  | .hbm, ⟨81, _⟩ => ⟨S2x8192x1024, .f32⟩
  | .hbm, ⟨82, _⟩ => ⟨S_, .f32⟩
  | .hbm, ⟨83, _⟩ => ⟨S2x8192x1024, .f32⟩
  | .hbm, ⟨84, _⟩ => ⟨S2x8192x1024, .f32⟩
  | .hbm, ⟨85, _⟩ => ⟨S256x1024, .f32⟩
  | .hbm, ⟨86, _⟩ => ⟨S2x8192x1024, .f32⟩
  | .hbm, ⟨87, _⟩ => ⟨S2x8192x1024, .f32⟩
  | .hbm, ⟨88, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_cst : Ref sig .tc := ⟨.hbm, 51, rfl⟩
abbrev main_call0_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_2 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_cst_4 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_5 : Ref sig .tc := ⟨.hbm, 79, rfl⟩
abbrev main_v56 : Ref sig .tc := ⟨.hbm, 80, rfl⟩
abbrev main_v57 : Ref sig .tc := ⟨.hbm, 81, rfl⟩
abbrev main_cst_6 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== Proof.Math.lean ====
module

public import Idealize.ShloMosaic.Lib.Pointwise
public import Idealize.ShloMosaic.Lib.IdealHost

/-! # Facts about extended reals that the two sides of the claims differ by

The kernel writes the logistic function as a scaled and shifted `tanh`, and it multiplies by reciprocals where the
reference divides.  Both are equalities on every extended real, so no claim needs a precondition for them. -/

@[expose] public section

noncomputable section

open Idealize.ShloMosaic

namespace Cert.Math

/-- The pattern of one half. -/
theorem half_val : Ideal.ofBits .f32 0x3F000000#32 = ((1 / 2 : ℝ) : EReal) := by
  simp [Ideal.ofBits, Ideal.ieee, -EReal.coe_mul]; norm_num

/-- On the reals, `tanh (x / 2) / 2 + 1 / 2` is the logistic function of `x`. -/
theorem real_logistic (x : ℝ) : 1 / 2 * Real.tanh (1 / 2 * x) + 1 / 2 = 1 / (1 + Real.exp (-x)) := by
  have hx : Real.exp (-x) = Real.exp (-(1 / 2 * x)) * Real.exp (-(1 / 2 * x)) := by
    rw [← Real.exp_add]; congr 1; ring
  have h1 : Real.exp (1 / 2 * x) * Real.exp (-(1 / 2 * x)) = 1 := by
    rw [← Real.exp_add, add_neg_cancel, Real.exp_zero]
  have hp := Real.exp_pos (1 / 2 * x)
  have hn := Real.exp_pos (-(1 / 2 * x))
  rw [Real.tanh_eq_sinh_div_cosh, Real.sinh_eq, Real.cosh_eq, hx]
  set u := Real.exp (1 / 2 * x)
  set v := Real.exp (-(1 / 2 * x))
  have hd : u + v ≠ 0 := by positivity
  have hd' : 1 + v * v ≠ 0 := by positivity
  field_simp
  linear_combination (2 * v) * h1

/-- One half of `tanh` of one half of `x`, plus one half, is the logistic function of `x`, the infinities included. -/
theorem logistic (x : EReal) :
    Ideal.ofBits .f32 0x3F000000#32 * Ideal.tanh (Ideal.ofBits .f32 0x3F000000#32 * x) + Ideal.ofBits .f32 0x3F000000#32
      = Ideal.div 1 (1 + Ideal.exp (-x)) := by
  rw [half_val]
  induction x with
  | bot =>
    rw [EReal.coe_mul_bot_of_pos (by norm_num), Ideal.tanh_bot, EReal.neg_bot, Ideal.exp_top, EReal.add_top_of_ne_bot (by decide)]
    have : Ideal.div 1 ⊤ = 0 := by simp [Ideal.div]
    rw [this, show (-1 : EReal) = ((-1 : ℝ) : EReal) by rw [EReal.coe_neg, EReal.coe_one], ← EReal.coe_mul, ← EReal.coe_add]
    norm_num
  | top =>
    rw [EReal.coe_mul_top_of_pos (by norm_num), Ideal.tanh_top, EReal.neg_top, Ideal.exp_bot, add_zero, mul_one, ← EReal.coe_add,
      show (1 : EReal) = ((1 : ℝ) : EReal) by norm_cast, Ideal.div_coe one_ne_zero, ← EReal.coe_mul]
    norm_num
  | coe r =>
    have hr : (1 + Real.exp (-r) : ℝ) ≠ 0 := by positivity
    rw [← EReal.coe_mul, Ideal.tanh_coe, ← EReal.coe_mul, ← EReal.coe_add, ← EReal.coe_neg, Ideal.exp_coe,
      show (1 : EReal) = ((1 : ℝ) : EReal) by norm_cast, ← EReal.coe_add, Ideal.div_coe hr, ← EReal.coe_mul, real_logistic, one_mul]

/-- Multiplying by the reciprocal of an integer that is not zero divides by it. -/
theorem recip (x : EReal) (n : BitVec 32) (h : n.toInt ≠ 0) :
    x * Ideal.div 1 (FloatOps.sitofp (F := Ideal) .f32 n) = Ideal.div x (FloatOps.sitofp (F := Ideal) .f32 n) := by
  have e : FloatOps.sitofp (F := Ideal) .f32 n = ((n.toInt : ℝ) : EReal) := rfl
  have h' : (n.toInt : ℝ) ≠ 0 := by exact_mod_cast h
  rw [e, Ideal.div_coe h', Ideal.div_coe h', one_mul]

/-- The patterns of the four window lengths are the four integers. -/
theorem len2_val : Ideal.ofBits .f32 0x40000000#32 = FloatOps.sitofp (F := Ideal) .f32 2#32 := by
  refine Eq.trans (b := ((2 : ℝ) : EReal)) ?_ (congrArg Real.toEReal (by rw [show (2#32).toInt = 2 by decide]; norm_num))
  simp [Ideal.ofBits, Ideal.ieee, -EReal.coe_mul]; try norm_num
theorem len4_val : Ideal.ofBits .f32 0x40800000#32 = FloatOps.sitofp (F := Ideal) .f32 4#32 := by
  refine Eq.trans (b := ((4 : ℝ) : EReal)) ?_ (congrArg Real.toEReal (by rw [show (4#32).toInt = 4 by decide]; norm_num))
  simp [Ideal.ofBits, Ideal.ieee, -EReal.coe_mul]; try norm_num
theorem len8_val : Ideal.ofBits .f32 0x41000000#32 = FloatOps.sitofp (F := Ideal) .f32 8#32 := by
  refine Eq.trans (b := ((8 : ℝ) : EReal)) ?_ (congrArg Real.toEReal (by rw [show (8#32).toInt = 8 by decide]; norm_num))
  simp [Ideal.ofBits, Ideal.ieee, -EReal.coe_mul]; try norm_num
theorem len16_val : Ideal.ofBits .f32 0x41800000#32 = FloatOps.sitofp (F := Ideal) .f32 16#32 := by
  refine Eq.trans (b := ((16 : ℝ) : EReal)) ?_ (congrArg Real.toEReal (by rw [show (16#32).toInt = 16 by decide]; norm_num))
  simp [Ideal.ofBits, Ideal.ieee, -EReal.coe_mul]; try norm_num

end Cert.Math

end
-- ==== Proof.InPure.lean ====
module

public import proofs.«01_k».proof.Proof.Gen.KernelIdeal.Skeleton
public import proofs.«01_k».proof.Proof.Gen.ReferenceIdeal.Read
public import proofs.«01_k».proof.Proof.Math

/-! # The prompt's in-projection: one tile of 512 rows against the reference's rows

Tile `T` of batch `b` holds the rows `512 * T + r`. Each lemma reads one value of the kernel's body at that tile and names
the entry of the reference's array that it is. -/

@[expose] public section

set_option maxRecDepth 16384

noncomputable section

open Idealize.ShloMosaic Idealize.ShloMosaic.TcCoe Idealize.SL.Sem
open Cert.KernelIdeal Cert.KernelIdeal.Gen Cert.ReferenceIdeal.Read

namespace Cert.In.Pure

variable (a0 : FVec Ideal ⟨3, ![2, 8192, 1024]⟩ .f32) (a1 : FVec Ideal ⟨2, ![1, 1024]⟩ .f32)
  (a2 : FVec Ideal ⟨3, ![1, 1024, 4096]⟩ .f32) (a3 a4 : FVec Ideal ⟨2, ![1, 64]⟩ .f32)
  (a5 : FVec Ideal ⟨4, ![1, 4, 128, 128]⟩ .f32) (a6 : FVec Ideal ⟨2, ![1, 512]⟩ .f32)

/-- Row `r` of tile `T` among the sequence's rows. -/
def row (T : Fin 16) (r : Fin 512) : Fin 8192 := ⟨512 * T + r, by omega⟩

/-- The normalised rows. -/
theorem xn_at (b : Fin 2) (T : Fin 16) (v3 : FVec Ideal S1x512x1024 .f32) (v5 : FVec Ideal S1x1024 .f32)
    (h3 : ∀ (r : Fin 512) (k : Fin 1024), v3 (ix3 0 r k) = a0 (ix3 b (row T r) k)) (h5 : v5 = a1) (r : Fin 512) (k : Fin 1024) :
    k0_pay6 (F := Ideal) v3 v5 (ix2 r k) = val_main_v16 (F := Ideal) a0 a1 (ix3 b (row T r) k) := by
  subst h5
  pointwise [k0_pay6, val_main_v16, val_main_v15, val_main_v14, val_main_v13, val_main_v12, val_main_v11, val_main_v10, val_main_v9, val_main_v8, val_main_v7, val_main_v6, val_main_v5, val_main_v4, val_main_v0, val_main_cst, val_main_cst_0, val_main_cst_1, h3]

variable (b : Fin 2) (T : Fin 16) (v18 : FVec Ideal S512x1024 .bf16)
  (h18 : ∀ (r : Fin 512) (k : Fin 1024), v18 (ix2 r k) = val_main_v16 (F := Ideal) a0 a1 (ix3 b (row T r) k))
include h18

/-- The keys, head by head. -/
theorem key_at (v38 : FVec Ideal S512x1024 .bf16) (v42 : FVec Ideal S64x1 .f32)
    (h38 : ∀ (q : Fin 512) (k : Fin 1024), v38 (ix2 q k) = a2 (ix3 0 k ⟨512 + q, by omega⟩))
    (h42 : ∀ d : Fin 64, v42 (ix2 d 0) = a4 (ix2 0 d)) (h : Fin 8) (d : Fin 64) (r : Fin 512) :
    k0_pay8 (F := Ideal) v18 v38 v42 (ix3 h d r) = val_main_v51 (F := Ideal) a0 a1 a2 a4 (ix4 b (row T r) h d) := by
  pointwise [k0_pay8, val_main_v51, val_main_v50, val_main_v49, val_main_v48, val_main_v47, val_main_v46, val_main_v45, val_main_v44, val_main_v43, val_main_v42, val_main_v41, val_main_v40, val_main_v39, val_main_v38, val_main_v19, val_main_v17, val_main_v1, val_main_v3, val_main_cst_5, val_main_cst_6, val_main_cst_7, h18, h38, h42]
  simp only [mul_comm (val_main_v16 (F := Ideal) a0 a1 _)]

/-- The values, head by head. -/
theorem val_at (v57 : FVec Ideal S512x1024 .bf16)
    (h57 : ∀ (q : Fin 512) (k : Fin 1024), v57 (ix2 q k) = a2 (ix3 0 k ⟨1024 + q, by omega⟩)) (h : Fin 8) (d : Fin 64) (r : Fin 512) :
    k0_pay9 (F := Ideal) v18 v57 (ix3 h d r) = val_main_v52 (F := Ideal) a0 a1 a2 (ix4 b (row T r) h d) := by
  pointwise [k0_pay9, val_main_v52, val_main_v20, val_main_v17, val_main_v1, h18, h57]
  simp only [mul_comm (val_main_v16 (F := Ideal) a0 a1 _)]

/-- The rows of the pooled branch's input. -/
theorem u_at (w : FVec Ideal S1024x512 .bf16)
    (hw : ∀ (k : Fin 1024) (q : Fin 512), w (ix2 k q) = a2 (ix3 0 k ⟨1536 + q, by omega⟩)) (r : Fin 512) (q : Fin 512) :
    k0_pay162 (F := Ideal) v18 w (ix2 r q) = val_main_v21 (F := Ideal) a0 a1 a2 (ix3 b (row T r) q) := by
  pointwise [k0_pay162, val_main_v21, val_main_v17, val_main_v1, h18, hw]

/-- The first gate, chunk 0 of its columns. -/
theorem ga0_at (w : FVec Ideal S1024x256 .bf16)
    (hw : ∀ (k : Fin 1024) (q : Fin 256), w (ix2 k q) = a2 (ix3 0 k ⟨2048 + q, by omega⟩)) (r : Fin 512) (q : Fin 256) :
    k0_pay56 (F := Ideal) v18 w (ix3 0 r q)
      = val_main_v196 (F := Ideal) a0 a1 a2 (ix3 b (row T r) ⟨0 + q, by omega⟩) := by
  pointwise [k0_pay56, val_main_v196, val_main_v195, val_main_v194, val_main_v193, val_main_v192, val_main_v191, val_main_v190, val_main_v22, val_main_cst_23, val_main_cst_24, val_main_v17, val_main_v1, h18, hw]
  exact Cert.Math.logistic _

/-- The first gate, chunk 1 of its columns. -/
theorem ga1_at (w : FVec Ideal S1024x256 .bf16)
    (hw : ∀ (k : Fin 1024) (q : Fin 256), w (ix2 k q) = a2 (ix3 0 k ⟨2048 + (256 + q), by omega⟩)) (r : Fin 512) (q : Fin 256) :
    k0_pay73 (F := Ideal) (k0_pay72 (F := Ideal) v18 w) (Scalar.ofBits (F := Ideal) .f32 0x3F000000#32) (ix3 0 r q)
      = val_main_v196 (F := Ideal) a0 a1 a2 (ix3 b (row T r) ⟨256 + q, by omega⟩) := by
  pointwise [k0_pay73, k0_pay72, val_main_v196, val_main_v195, val_main_v194, val_main_v193, val_main_v192, val_main_v191, val_main_v190, val_main_v22, val_main_cst_23, val_main_cst_24, val_main_v17, val_main_v1, h18, hw]
  exact Cert.Math.logistic _

/-- The first gate, chunk 2 of its columns. -/
theorem ga2_at (w : FVec Ideal S1024x256 .bf16)
    (hw : ∀ (k : Fin 1024) (q : Fin 256), w (ix2 k q) = a2 (ix3 0 k ⟨2048 + (512 + q), by omega⟩)) (r : Fin 512) (q : Fin 256) :
    k0_pay87 (F := Ideal) v18 w (ix3 0 r q)
      = val_main_v196 (F := Ideal) a0 a1 a2 (ix3 b (row T r) ⟨512 + q, by omega⟩) := by
  pointwise [k0_pay87, val_main_v196, val_main_v195, val_main_v194, val_main_v193, val_main_v192, val_main_v191, val_main_v190, val_main_v22, val_main_cst_23, val_main_cst_24, val_main_v17, val_main_v1, h18, hw]
  exact Cert.Math.logistic _

/-- The first gate, chunk 3 of its columns. -/
theorem ga3_at (w : FVec Ideal S1024x256 .bf16)
    (hw : ∀ (k : Fin 1024) (q : Fin 256), w (ix2 k q) = a2 (ix3 0 k ⟨2048 + (768 + q), by omega⟩)) (r : Fin 512) (q : Fin 256) :
    k0_pay102 (F := Ideal) (k0_pay101 (F := Ideal) v18 w) (ix3 0 r q)
      = val_main_v196 (F := Ideal) a0 a1 a2 (ix3 b (row T r) ⟨768 + q, by omega⟩) := by
  pointwise [k0_pay102, k0_pay101, val_main_v196, val_main_v195, val_main_v194, val_main_v193, val_main_v192, val_main_v191, val_main_v190, val_main_v22, val_main_cst_23, val_main_cst_24, val_main_v17, val_main_v1, h18, hw]
  exact Cert.Math.logistic _

/-- The second gate, chunk 0 of its columns. -/
theorem gb0_at (w : FVec Ideal S1024x256 .bf16)
    (hw : ∀ (k : Fin 1024) (q : Fin 256), w (ix2 k q) = a2 (ix3 0 k ⟨3072 + q, by omega⟩)) (r : Fin 512) (q : Fin 256) :
    k0_pay115 (F := Ideal) v18 w (ix3 0 r q)
      = val_main_v203 (F := Ideal) a0 a1 a2 (ix3 b (row T r) ⟨0 + q, by omega⟩) := by
  pointwise [k0_pay115, val_main_v203, val_main_v202, val_main_v201, val_main_v200, val_main_v199, val_main_v198, val_main_v197, val_main_v23, val_main_cst_25, val_main_cst_26, val_main_v17, val_main_v1, h18, hw]
  exact Cert.Math.logistic _

/-- The second gate, chunk 1 of its columns. -/
theorem gb1_at (w : FVec Ideal S1024x256 .bf16)
    (hw : ∀ (k : Fin 1024) (q : Fin 256), w (ix2 k q) = a2 (ix3 0 k ⟨3072 + (256 + q), by omega⟩)) (r : Fin 512) (q : Fin 256) :
    k0_pay131 (F := Ideal) (k0_pay130 (F := Ideal) v18 w) (Scalar.ofBits (F := Ideal) .f32 0x3F000000#32) (ix3 0 r q)
      = val_main_v203 (F := Ideal) a0 a1 a2 (ix3 b (row T r) ⟨256 + q, by omega⟩) := by
  pointwise [k0_pay131, k0_pay130, val_main_v203, val_main_v202, val_main_v201, val_main_v200, val_main_v199, val_main_v198, val_main_v197, val_main_v23, val_main_cst_25, val_main_cst_26, val_main_v17, val_main_v1, h18, hw]
  exact Cert.Math.logistic _

/-- The second gate, chunk 2 of its columns. -/
theorem gb2_at (w : FVec Ideal S1024x256 .bf16)
    (hw : ∀ (k : Fin 1024) (q : Fin 256), w (ix2 k q) = a2 (ix3 0 k ⟨3072 + (512 + q), by omega⟩)) (r : Fin 512) (q : Fin 256) :
    k0_pay145 (F := Ideal) v18 w (ix3 0 r q)
      = val_main_v203 (F := Ideal) a0 a1 a2 (ix3 b (row T r) ⟨512 + q, by omega⟩) := by
  pointwise [k0_pay145, val_main_v203, val_main_v202, val_main_v201, val_main_v200, val_main_v199, val_main_v198, val_main_v197, val_main_v23, val_main_cst_25, val_main_cst_26, val_main_v17, val_main_v1, h18, hw]
  exact Cert.Math.logistic _

/-- The second gate, chunk 3 of its columns. -/
theorem gb3_at (w : FVec Ideal S1024x256 .bf16)
    (hw : ∀ (k : Fin 1024) (q : Fin 256), w (ix2 k q) = a2 (ix3 0 k ⟨3072 + (768 + q), by omega⟩)) (r : Fin 512) (q : Fin 256) :
    k0_pay161 (F := Ideal) (k0_pay160 (F := Ideal) v18 w) (ix3 0 r q)
      = val_main_v203 (F := Ideal) a0 a1 a2 (ix3 b (row T r) ⟨768 + q, by omega⟩) := by
  pointwise [k0_pay161, k0_pay160, val_main_v203, val_main_v202, val_main_v201, val_main_v200, val_main_v199, val_main_v198, val_main_v197, val_main_v23, val_main_cst_25, val_main_cst_26, val_main_v17, val_main_v1, h18, hw]
  exact Cert.Math.logistic _

end Cert.In.Pure
end
-- ==== Proof.InValue.lean ====
module

public import proofs.«01_k».proof.Proof.Gen.KernelIdeal.Value
public import proofs.«01_k».proof.Proof.InPure
public import Idealize.ShloMosaic.Lib.Pipeline.ValueKit

/-! # The prompt's in-projection: what each window's block reads

Point `t` of the grid is batch `t / 16`, tile `t % 16`.  Each lemma reads one input block at an index, as an entry of
the argument that the window stages. -/

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.In.Val

variable (m : (ℓ : Loc nD τ sig) → Buf (Elt Ideal) ℓ)

/-- The windows' block indices at point `t`: batch `t / 16`, tile `t % 16`. -/
theorem idx : ∀ t : Fin cfg0.N, win0_0.index t = ![t.val / 16, t.val % 16, 0] ∧ win0_1.index t = ![0, 0] ∧ win0_2.index t = ![0, 0]
    ∧ win0_3.index t = ![0, 0] ∧ win0_4.index t = ![0, 0] ∧ win0_5.index t = ![0, 0] ∧ win0_6.index t = ![0, 0, 0]
    ∧ win0_7.index t = ![0, 0] ∧ win0_8.index t = ![t.val / 16, 0, 0, t.val % 16] ∧ win0_9.index t = ![t.val / 16, 0, 0, t.val % 16]
    ∧ win0_11.index t = ![t.val / 16, 0, t.val % 16, 0] ∧ win0_12.index t = ![t.val / 16, 0, 0, t.val % 16]
    ∧ win0_13.index t = ![t.val / 16, t.val % 16, 0] ∧ win0_14.index t = ![t.val / 16, t.val % 16, 0]
    ∧ win0_15.index t = ![t.val / 16, t.val % 16, 0] ∧ win0_16.index t = ![t.val / 16, 0, 0] :=
  (by decide +kernel : ∀ t : Fin grid0.N, _)

/-- The batch of point `t`. -/
def bat (t : Fin cfg0.N) : Fin 2 := ⟨t.val / 16, by have := lt_of_lt_of_eq t.isLt N_0; omega⟩

/-- The tile of point `t`. -/
def tile (t : Fin cfg0.N) : Fin 16 := ⟨t.val % 16, by omega⟩

/-- Window 0's block: 512 rows of the input. -/
theorem b0 (c : Dev nD) (t : Fin cfg0.N) (r : Fin 512) (k : Fin 1024) :
    @Eq EReal (iblk m c 0 t (ix3 0 r k)) (m ((c : Thread nD τ).loc main_arg0) (ix3 (bat t) (Cert.In.Pure.row (tile t) r) k)) := by
  blk_ext [iblk, V, idx t, bat, tile, Cert.In.Pure.row]

/-- Window 1's block: the scale of the rows. -/
theorem b1 (c : Dev nD) (t : Fin cfg0.N) (z : Fin 1) (k : Fin 1024) :
    @Eq EReal (iblk m c 1 t (ix2 z k)) (m ((c : Thread nD τ).loc main_arg1) (ix2 z k)) := by
  blk_ext [iblk, V, idx t]

/-- Window 2's block: the weights of queries, keys and values, columns first. -/
theorem b2 (c : Dev nD) (t : Fin cfg0.N) (q : Fin 1536) (k : Fin 1024) :
    @Eq EReal (iblk m c 2 t (ix2 q k)) (m ((c : Thread nD τ).loc main_arg2) (ix3 0 k ⟨q, by omega⟩)) := by
  blk_simp [iblk, idx t]
  entry_read
  pointwise
  try blk_ext [idx t]

/-- Window 3's block: the other weights. -/
theorem b3 (c : Dev nD) (t : Fin cfg0.N) (k : Fin 1024) (q : Fin 2560) :
    @Eq EReal (iblk m c 3 t (ix2 k q)) (m ((c : Thread nD τ).loc main_arg2) (ix3 0 k ⟨1536 + q, by omega⟩)) := by
  blk_simp [iblk, idx t]
  entry_read
  pointwise
  try blk_ext [idx t]

/-- Window 4's block: the scale of the queries, as a column. -/
theorem b4 (c : Dev nD) (t : Fin cfg0.N) (d : Fin 64) (z : Fin 1) :
    @Eq EReal (iblk m c 4 t (ix2 d z)) (m ((c : Thread nD τ).loc main_arg3) (ix2 z d)) := by
  blk_simp [iblk, idx t]
  entry_read
  pointwise
  try blk_ext [idx t]

/-- Window 5's block: the scale of the keys, as a column. -/
theorem b5 (c : Dev nD) (t : Fin cfg0.N) (d : Fin 64) (z : Fin 1) :
    @Eq EReal (iblk m c 5 t (ix2 d z)) (m ((c : Thread nD τ).loc main_arg4) (ix2 z d)) := by
  blk_simp [iblk, idx t]
  entry_read
  pointwise
  try blk_ext [idx t]

/-- Window 6's block: the four groups' weights. -/
theorem b6 (c : Dev nD) (t : Fin cfg0.N) (g : Fin 4) (q k : Fin 128) :
    @Eq EReal (iblk m c 6 t (ix3 g q k)) (m ((c : Thread nD τ).loc main_arg5) (ix4 0 g q k)) := by
  blk_simp [iblk, idx t]
  entry_read
  pointwise
  try blk_ext [idx t]

/-- Window 7's block: the scale of the pooled branch. -/
theorem b7 (c : Dev nD) (t : Fin cfg0.N) (z : Fin 1) (k : Fin 512) :
    @Eq EReal (iblk m c 7 t (ix2 z k)) (m ((c : Thread nD τ).loc main_arg6) (ix2 z k)) := by
  blk_ext [iblk, V, idx t]

end Cert.In.Val
end
-- ==== Proof.InOneHot.lean ====
module

public import proofs.«01_k».proof.Proof.InPure

/-! # The two integer-made parts of the prompt's call: the one-hot block index of a row and the row of ones -/

@[expose] public section

set_option maxRecDepth 16384

noncomputable section

open Idealize.ShloMosaic Idealize.ShloMosaic.TcCoe Idealize.SL.Sem
open Cert.KernelIdeal Cert.KernelIdeal.Gen Cert.ReferenceIdeal.Read
namespace Cert.In.Pure

/-- A choice between one and zero by a bit is the bit read as a number. -/
theorem select_bit (x : BitVec 1) : Scalar.select x (1 : EReal) 0 = FloatOps.uitofp (F := Ideal) .f32 x := by
  rcases (by decide +revert : x = 0#1 ∨ x = 1#1) with rfl | rfl
  · simp [Scalar.select, FloatOps.uitofp]
  · simp [Scalar.select, FloatOps.uitofp]

/-- Row `r` of tile `T` lies in the 256-row block that the reference's row lies in. -/
theorem onehot_at (T : Fin 16) (r : Fin 512) (l : Fin 32) :
    k0_pay18 (F := Ideal) (k0_pay16 (BitVec.ofNat 32 T)) (k0_pay17 (BitVec.ofNat 32 T)) (ix2 r l)
      = val_main_v175 (F := Ideal) (ix2 (row T r) l) := by
  pointwise [k0_pay18, k0_pay17, k0_pay16, k0_pay15, val_main_v175, val_main_v174, val_main_v173, val_main_v172, val_main_v171, val_main_v170, val_main_v169, val_main_v168, val_main_call0_v13, val_main_call0_v12, val_main_call0_c_0, val_main_call0_v11, val_main_call0_v10, val_main_call0_v9, val_main_call0_c, val_main_call0_v8, val_main_call0_v7, val_main_call0_v6, val_main_call0_v5, val_main_call0_v4, val_main_call0_v3, val_main_call0_v2, val_main_call0_v1, val_main_call0_v0, val_main_c_21, val_main_v167]
  refine (select_bit _).trans (congrArg _ (congrArg (fun z => IntOp.cmpi .eq z _) ?_))
  clear l
  revert r T
  decide +kernel

/-- The row of ones below the values. -/
theorem ones_at (h : Fin 8) (o : Fin 16) (r : Fin 512) (b : Fin 2) (s : Fin 8192) :
    k0_pay13 (F := Ideal) (iota Kind.tc S8x16x512 32 [1] iota_S8x16x512_d1_w32) 0#32 (ix4 0 h o r)
      = val_main_v184 (F := Ideal) (ix4 b h o s) := by
  pointwise [k0_pay13, val_main_v184, val_main_v183, val_main_v182, val_main_v181, val_main_v180, val_main_v179, val_main_c_22]
  exact select_bit _
end Cert.In.Pure
end
-- ==== Proof.InOut.lean ====
module

public import proofs.«01_k».proof.Proof.InValue
public import proofs.«01_k».proof.Proof.InOneHot

/-! # The prompt's in-projection: what a point writes into each result that needs one tile only -/

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.ReferenceIdeal.Read Cert.In.Pure

namespace Cert.In.Val

variable (m : (ℓ : Loc nD τ sig) → Buf (Elt Ideal) ℓ)

/-- The arguments, as arrays. -/
abbrev A0 (c : Dev nD) : FVec Ideal ⟨3, ![2, 8192, 1024]⟩ .f32 := m ((c : Thread nD τ).loc main_arg0)
abbrev A1 (c : Dev nD) : FVec Ideal ⟨2, ![1, 1024]⟩ .f32 := m ((c : Thread nD τ).loc main_arg1)
abbrev A2 (c : Dev nD) : FVec Ideal ⟨3, ![1, 1024, 4096]⟩ .f32 := m ((c : Thread nD τ).loc main_arg2)
abbrev A3 (c : Dev nD) : FVec Ideal ⟨2, ![1, 64]⟩ .f32 := m ((c : Thread nD τ).loc main_arg3)
abbrev A4 (c : Dev nD) : FVec Ideal ⟨2, ![1, 64]⟩ .f32 := m ((c : Thread nD τ).loc main_arg4)
abbrev A5 (c : Dev nD) : FVec Ideal ⟨4, ![1, 4, 128, 128]⟩ .f32 := m ((c : Thread nD τ).loc main_arg5)
abbrev A6 (c : Dev nD) : FVec Ideal ⟨2, ![1, 512]⟩ .f32 := m ((c : Thread nD τ).loc main_arg6)

/-- The grid's second coordinate is the tile. -/
theorem coord (t : Fin cfg0.N) : (grid0.coords t 1 : ℕ) = (tile t : ℕ) :=
  (by decide +kernel : ∀ t : Fin grid0.N, (grid0.coords t 1 : ℕ) = t.val % 16) t

/-- The normalised rows of point `t`. -/
theorem xn (c : Dev nD) (t : Fin cfg0.N) (r : Fin 512) (k : Fin 1024) :
    k0_pay6 (F := Ideal) (iblk m c 0 t) (iblk m c 1 t) (ix2 r k) = val_main_v16 (F := Ideal) (A0 m c) (A1 m c) (ix3 (bat t) (row (tile t) r) k) :=
  xn_at _ _ _ _ _ _ (b0 m c t) (by funext j; idx_vars j; exact b1 m c t _ _) r k

/-- The keys of point `t`. -/
theorem key (c : Dev nD) (t : Fin cfg0.N) (h : Fin 8) (d : Fin 64) (r : Fin 512) :
    k0_pay8 (F := Ideal) (k0_pay6 (F := Ideal) (iblk m c 0 t) (iblk m c 1 t))
        (View.ld (iblk m c 2 t) (Rect.unit ![512, 0] ![512, 1024] inb_S1536x1024_S512x1024_512_0)) (iblk m c 5 t) (ix3 h d r)
      = val_main_v51 (F := Ideal) (A0 m c) (A1 m c) (A2 m c) (A4 m c) (ix4 (bat t) (row (tile t) r) h d) := by
  refine key_at _ _ _ _ _ _ _ (xn m c t) _ _ (fun q k => ?_) (fun d => b5 m c t d 0) h d r
  pointwise
  exact b2 m c t _ k

/-- The values of point `t`. -/
theorem value (c : Dev nD) (t : Fin cfg0.N) (h : Fin 8) (d : Fin 64) (r : Fin 512) :
    k0_pay9 (F := Ideal) (k0_pay6 (F := Ideal) (iblk m c 0 t) (iblk m c 1 t))
        (View.ld (iblk m c 2 t) (Rect.unit ![1024, 0] ![512, 1024] inb_S1536x1024_S512x1024_1024_0)) (ix3 h d r)
      = val_main_v52 (F := Ideal) (A0 m c) (A1 m c) (A2 m c) (ix4 (bat t) (row (tile t) r) h d) := by
  refine val_at _ _ _ _ _ _ (xn m c t) _ (fun q k => ?_) h d r
  pointwise
  exact b2 m c t _ k

/-- The pooled branch's rows of point `t`. -/
theorem urow (c : Dev nD) (t : Fin cfg0.N) (r : Fin 512) (q : Fin 512) :
    k0_pay162 (F := Ideal) (k0_pay6 (F := Ideal) (iblk m c 0 t) (iblk m c 1 t))
        (View.ld (iblk m c 3 t) (Rect.unit ![0, 0] ![1024, 512] inb_S1024x2560_S1024x512_0_0)) (ix2 r q)
      = val_main_v21 (F := Ideal) (A0 m c) (A1 m c) (A2 m c) (ix3 (bat t) (row (tile t) r) q) := by
  refine u_at _ _ _ _ _ _ (xn m c t) _ (fun k q => ?_) r q
  pointwise
  exact b3 m c t k _

/-- The keys' array. -/
theorem final8 (c : Dev nD) : (dats m 0 c).arrAt 8 (cfgs 0).N = val_main_v186 (F := Ideal) (A0 m c) (A1 m c) (A2 m c) (A4 m c) := by
  refine (dats m 0 c).arrAt_eq_of_covers 8 _ (by decide +kernel) fun t _ y => ?_
  blk_simp
  rw [after0_8]
  have hp : ∀ y : S1x8x64x512.Idx, k0_pay10 (F := Ideal) (k0_pay6 (F := Ideal) (iblk m c 0 t) (iblk m c 1 t))
        (View.ld (iblk m c 2 t) (Rect.unit ![512, 0] ![512, 1024] inb_S1536x1024_S512x1024_512_0)) (iblk m c 5 t) y
      = val_main_v186 (F := Ideal) (A0 m c) (A1 m c) (A2 m c) (A4 m c) (ix4 (bat t) (y 1) (y 2) (row (tile t) (y 3))) := by
    intro y
    idx_vars y
    pointwise [k0_pay10, val_main_v186]
    exact key m c t _ _ _
  have hy : (((View.whole main_v11_0).slice (win0_8.rect t)).emb y) = ix4 (bat t) (y 1) (y 2) (row (tile t) (y 3)) := by
    blk_ext [idx t, bat, tile, row]
  rw [hy]
  by_cases h : t.val % 16 = 0
  · rw [outsAt0_A m c t h]; frame_out; exact hp y
  · rw [outsAt0_B m c t h]; frame_out; exact hp y

/-- The values' array. -/
theorem final9 (c : Dev nD) : (dats m 0 c).arrAt 9 (cfgs 0).N = val_main_v178 (F := Ideal) (A0 m c) (A1 m c) (A2 m c) := by
  refine (dats m 0 c).arrAt_eq_of_covers 9 _ (by decide +kernel) fun t _ y => ?_
  blk_simp
  rw [after0_9]
  have hp : ∀ y : S1x8x64x512.Idx, k0_pay11 (F := Ideal) (k0_pay6 (F := Ideal) (iblk m c 0 t) (iblk m c 1 t))
        (View.ld (iblk m c 2 t) (Rect.unit ![1024, 0] ![512, 1024] inb_S1536x1024_S512x1024_1024_0)) y
      = val_main_v178 (F := Ideal) (A0 m c) (A1 m c) (A2 m c) (ix4 (bat t) (y 1) (y 2) (row (tile t) (y 3))) := by
    intro y
    idx_vars y
    pointwise [k0_pay11, val_main_v178]
    exact value m c t _ _ _
  have hy : (((View.whole main_v11_1).slice (win0_9.rect t)).emb y) = ix4 (bat t) (y 1) (y 2) (row (tile t) (y 3)) := by
    blk_ext [idx t, bat, tile, row]
  rw [hy]
  by_cases h : t.val % 16 = 0
  · rw [outsAt0_A m c t h]; frame_out; exact hp y
  · rw [outsAt0_B m c t h]; frame_out; exact hp y

end Cert.In.Val
end
-- ==== Proof.InOut2.lean ====
module

public import proofs.«01_k».proof.Proof.InOut

/-! # The prompt's in-projection: the results that are written in several pieces -/

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.ReferenceIdeal.Read Cert.In.Pure

namespace Cert.In.Val

variable (m : (ℓ : Loc nD τ sig) → Buf (Elt Ideal) ℓ)

/-- The first 64 lanes of the extended keys are the keys. -/
theorem ka_key (a0 : FVec Ideal ⟨3, ![2, 8192, 1024]⟩ .f32) (a1 : FVec Ideal ⟨2, ![1, 1024]⟩ .f32) (a2 : FVec Ideal ⟨3, ![1, 1024, 4096]⟩ .f32)
    (a4 : FVec Ideal ⟨2, ![1, 64]⟩ .f32) (b : Fin 2) (h : Fin 8) (s : Fin 8192) (j : Fin 96) (hj : (j : ℕ) < 64) :
    val_main_v51 (F := Ideal) a0 a1 a2 a4 (ix4 b s h ⟨j, hj⟩) = val_main_v187 (F := Ideal) a0 a1 a2 a4 (ix4 b h s j) := by
  pointwise [val_main_v187, val_main_v177, val_main_v166]
  rw [dif_pos hj]

/-- The other 32 lanes are the one-hot block index. -/
theorem ka_hot (a0 : FVec Ideal ⟨3, ![2, 8192, 1024]⟩ .f32) (a1 : FVec Ideal ⟨2, ![1, 1024]⟩ .f32) (a2 : FVec Ideal ⟨3, ![1, 1024, 4096]⟩ .f32)
    (a4 : FVec Ideal ⟨2, ![1, 64]⟩ .f32) (b : Fin 2) (h : Fin 8) (s : Fin 8192) (j : Fin 96) (hj : 64 ≤ (j : ℕ)) :
    val_main_v175 (F := Ideal) (ix2 s ⟨(j : ℕ) - 64, by omega⟩) = val_main_v187 (F := Ideal) a0 a1 a2 a4 (ix4 b h s j) := by
  pointwise [val_main_v187, val_main_v177, val_main_v176]
  rw [dif_neg (by omega)]

/-- The first 64 rows of the extended values are the values. -/
theorem va_val (a0 : FVec Ideal ⟨3, ![2, 8192, 1024]⟩ .f32) (a1 : FVec Ideal ⟨2, ![1, 1024]⟩ .f32) (a2 : FVec Ideal ⟨3, ![1, 1024, 4096]⟩ .f32)
    (b : Fin 2) (h : Fin 8) (s : Fin 8192) (j : Fin 80) (hj : (j : ℕ) < 64) :
    val_main_v52 (F := Ideal) a0 a1 a2 (ix4 b s h ⟨j, hj⟩) = val_main_v188 (F := Ideal) a0 a1 a2 (ix4 b h j s) := by
  pointwise [val_main_v188, val_main_v185, val_main_v178]
  rw [dif_pos hj]

/-- The other 16 rows begin with a row of ones. -/
theorem va_one (a0 : FVec Ideal ⟨3, ![2, 8192, 1024]⟩ .f32) (a1 : FVec Ideal ⟨2, ![1, 1024]⟩ .f32) (a2 : FVec Ideal ⟨3, ![1, 1024, 4096]⟩ .f32)
    (b : Fin 2) (h : Fin 8) (s : Fin 8192) (j : Fin 80) (hj : 64 ≤ (j : ℕ)) :
    val_main_v184 (F := Ideal) (ix4 b h ⟨(j : ℕ) - 64, by omega⟩ s) = val_main_v188 (F := Ideal) a0 a1 a2 (ix4 b h j s) := by
  pointwise [val_main_v188, val_main_v185]
  rw [dif_neg (by omega)]

set_option maxHeartbeats 1000000 in
/-- The keys with their block's one-hot index. -/
theorem final11 (c : Dev nD) : (dats m 0 c).arrAt 11 (cfgs 0).N = val_main_v187 (F := Ideal) (A0 m c) (A1 m c) (A2 m c) (A4 m c) := by
  refine (dats m 0 c).arrAt_eq_of_covers 11 _ (by decide +kernel) fun t _ y => ?_
  blk_simp
  rw [after0_11]
  have hc := coord t
  have hk := key m c t
  have ho := onehot_at (tile t)
  rw [← hc] at ho
  have hy : (((View.whole main_v11_3).slice (win0_11.rect t)).emb y) = ix4 (bat t) (y 1) (row (tile t) (y 2)) (y 3) := by
    blk_ext [idx t, bat, tile, row]
  rw [hy]
  clear hy
  by_cases h : t.val % 16 = 0
  · rw [outsAt0_A m c t h]; frame_out
    clear h
    canon_tiles x h using View.cover_of_tiledBy _ ![1, 1, 512, 32] (by sl_kernel_rfl) y
    all_goals first
      | refine Eq.trans ?_ ((ho (y 2) ⟨(y 3 : ℕ) - 64, by omega⟩).trans (ka_hot _ _ _ _ _ (y 1) _ (y 3) (by omega)))
      | refine Eq.trans ?_ ((hk (y 1) ⟨(y 3 : ℕ), by omega⟩ (y 2)).trans (ka_key _ _ _ _ _ (y 1) _ (y 3) (by omega)))
    all_goals (open_payloads; pointwise; blk_ext)
  · rw [outsAt0_B m c t h]; frame_out
    clear h
    canon_tiles x h using View.cover_of_tiledBy _ ![1, 1, 512, 32] (by sl_kernel_rfl) y
    all_goals first
      | refine Eq.trans ?_ ((ho (y 2) ⟨(y 3 : ℕ) - 64, by omega⟩).trans (ka_hot _ _ _ _ _ (y 1) _ (y 3) (by omega)))
      | refine Eq.trans ?_ ((hk (y 1) ⟨(y 3 : ℕ), by omega⟩ (y 2)).trans (ka_key _ _ _ _ _ (y 1) _ (y 3) (by omega)))
    all_goals (open_payloads; pointwise; blk_ext)

/-- The values with the row of ones. -/
theorem final12 (c : Dev nD) : (dats m 0 c).arrAt 12 (cfgs 0).N = val_main_v188 (F := Ideal) (A0 m c) (A1 m c) (A2 m c) := by
  refine (dats m 0 c).arrAt_eq_of_covers 12 _ (by decide +kernel) fun t _ y => ?_
  blk_simp
  rw [after0_12]
  have hv := value m c t
  have ho := ones_at
  have hy : (((View.whole main_v11_4).slice (win0_12.rect t)).emb y) = ix4 (bat t) (y 1) (y 2) (row (tile t) (y 3)) := by
    blk_ext [idx t, bat, tile, row]
  rw [hy]
  clear hy
  by_cases h : t.val % 16 = 0
  · rw [outsAt0_A m c t h]; frame_out
    clear h
    canon_tiles x h using View.cover_of_tiledBy _ ![1, 8, 16, 512] (by sl_kernel_rfl) y
    · refine Eq.trans ?_ ((ho (y 1) ⟨(y 2 : ℕ) - 64, by omega⟩ (y 3) _ _).trans (va_one _ _ _ _ (y 1) _ (y 2) (by omega)))
      refine congrArg _ ?_
      blk_ext
    · refine Eq.trans ?_ ((hv (y 1) ⟨(y 2 : ℕ), by omega⟩ (y 3)).trans (va_val _ _ _ _ (y 1) _ (y 2) (by omega)))
      open_payloads; pointwise; blk_ext
  · rw [outsAt0_B m c t h]; frame_out
    clear h
    canon_tiles x h using View.cover_of_tiledBy _ ![1, 8, 16, 512] (by sl_kernel_rfl) y
    · refine Eq.trans ?_ ((ho (y 1) ⟨(y 2 : ℕ) - 64, by omega⟩ (y 3) _ _).trans (va_one _ _ _ _ (y 1) _ (y 2) (by omega)))
      refine congrArg _ ?_
      blk_ext
    · refine Eq.trans ?_ ((hv (y 1) ⟨(y 2 : ℕ), by omega⟩ (y 3)).trans (va_val _ _ _ _ (y 1) _ (y 2) (by omega)))
      open_payloads; pointwise; blk_ext

end Cert.In.Val
end
-- ==== Proof.InGate.lean ====
module

public import proofs.«01_k».proof.Proof.InOut

/-! # The prompt's in-projection: the arrays of the two gates -/

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.ReferenceIdeal.Read Cert.In.Pure

namespace Cert.In.Val

variable (m : (ℓ : Loc nD τ sig) → Buf (Elt Ideal) ℓ)

/-- The first gate's array. -/
theorem final14 (c : Dev nD) : (dats m 0 c).arrAt 14 (cfgs 0).N = val_main_v196 (F := Ideal) (A0 m c) (A1 m c) (A2 m c) := by
  refine (dats m 0 c).arrAt_eq_of_covers 14 _ (by decide +kernel) fun t _ y => ?_
  blk_simp
  rw [after0_14]
  have hx := xn m c t
  have hw := b3 m c t
  have hy : (((View.whole main_v11_6).slice (win0_14.rect t)).emb y) = ix3 (bat t) (row (tile t) (y 1)) (y 2) := by
    blk_ext [idx t, bat, tile, row]
  rw [hy]
  clear hy
  by_cases h : t.val % 16 = 0
  · rw [outsAt0_A m c t h]; frame_out
    clear h
    canon_tiles x h
    · idx_vars x
      obtain rfl : x0 = 0 := Subsingleton.elim _ _
      refine (ga3_at _ _ _ _ _ _ hx _ (fun k q => ?_) x1 x2).trans (congrArg _ ?_)
      · pointwise; exact (hw _ _).trans (congrArg _ (by blk_ext))
      · blk_ext [row]
    · idx_vars x
      obtain rfl : x0 = 0 := Subsingleton.elim _ _
      refine (ga2_at _ _ _ _ _ _ hx _ (fun k q => ?_) x1 x2).trans (congrArg _ ?_)
      · pointwise; exact (hw _ _).trans (congrArg _ (by blk_ext))
      · blk_ext [row]
    · idx_vars x
      obtain rfl : x0 = 0 := Subsingleton.elim _ _
      refine (ga1_at _ _ _ _ _ _ hx _ (fun k q => ?_) x1 x2).trans (congrArg _ ?_)
      · pointwise; exact (hw _ _).trans (congrArg _ (by blk_ext))
      · blk_ext [row]
    · idx_vars x
      obtain rfl : x0 = 0 := Subsingleton.elim _ _
      refine (ga0_at _ _ _ _ _ _ hx _ (fun k q => ?_) x1 x2).trans (congrArg _ ?_)
      · pointwise; exact (hw _ _).trans (congrArg _ (by blk_ext))
      · blk_ext [row]
  · rw [outsAt0_B m c t h]; frame_out
    clear h
    canon_tiles x h
    · idx_vars x
      obtain rfl : x0 = 0 := Subsingleton.elim _ _
      refine (ga3_at _ _ _ _ _ _ hx _ (fun k q => ?_) x1 x2).trans (congrArg _ ?_)
      · pointwise; exact (hw _ _).trans (congrArg _ (by blk_ext))
      · blk_ext [row]
    · idx_vars x
      obtain rfl : x0 = 0 := Subsingleton.elim _ _
      refine (ga2_at _ _ _ _ _ _ hx _ (fun k q => ?_) x1 x2).trans (congrArg _ ?_)
      · pointwise; exact (hw _ _).trans (congrArg _ (by blk_ext))
      · blk_ext [row]
    · idx_vars x
      obtain rfl : x0 = 0 := Subsingleton.elim _ _
      refine (ga1_at _ _ _ _ _ _ hx _ (fun k q => ?_) x1 x2).trans (congrArg _ ?_)
      · pointwise; exact (hw _ _).trans (congrArg _ (by blk_ext))
      · blk_ext [row]
    · idx_vars x
      obtain rfl : x0 = 0 := Subsingleton.elim _ _
      refine (ga0_at _ _ _ _ _ _ hx _ (fun k q => ?_) x1 x2).trans (congrArg _ ?_)
      · pointwise; exact (hw _ _).trans (congrArg _ (by blk_ext))
      · blk_ext [row]

/-- The second gate's array. -/
theorem final15 (c : Dev nD) : (dats m 0 c).arrAt 15 (cfgs 0).N = val_main_v203 (F := Ideal) (A0 m c) (A1 m c) (A2 m c) := by
  refine (dats m 0 c).arrAt_eq_of_covers 15 _ (by decide +kernel) fun t _ y => ?_
  blk_simp
  rw [after0_15]
  have hx := xn m c t
  have hw := b3 m c t
  have hy : (((View.whole main_v11_7).slice (win0_15.rect t)).emb y) = ix3 (bat t) (row (tile t) (y 1)) (y 2) := by
    blk_ext [idx t, bat, tile, row]
  rw [hy]
  clear hy
  by_cases h : t.val % 16 = 0
  · rw [outsAt0_A m c t h]; frame_out
    clear h
    canon_tiles x h
    · idx_vars x
      obtain rfl : x0 = 0 := Subsingleton.elim _ _
      refine (gb3_at _ _ _ _ _ _ hx _ (fun k q => ?_) x1 x2).trans (congrArg _ ?_)
      · pointwise; exact (hw _ _).trans (congrArg _ (by blk_ext))
      · blk_ext [row]
    · idx_vars x
      obtain rfl : x0 = 0 := Subsingleton.elim _ _
      refine (gb2_at _ _ _ _ _ _ hx _ (fun k q => ?_) x1 x2).trans (congrArg _ ?_)
      · pointwise; exact (hw _ _).trans (congrArg _ (by blk_ext))
      · blk_ext [row]
    · idx_vars x
      obtain rfl : x0 = 0 := Subsingleton.elim _ _
      refine (gb1_at _ _ _ _ _ _ hx _ (fun k q => ?_) x1 x2).trans (congrArg _ ?_)
      · pointwise; exact (hw _ _).trans (congrArg _ (by blk_ext))
      · blk_ext [row]
    · idx_vars x
      obtain rfl : x0 = 0 := Subsingleton.elim _ _
      refine (gb0_at _ _ _ _ _ _ hx _ (fun k q => ?_) x1 x2).trans (congrArg _ ?_)
      · pointwise; exact (hw _ _).trans (congrArg _ (by blk_ext))
      · blk_ext [row]
  · rw [outsAt0_B m c t h]; frame_out
    clear h
    canon_tiles x h
    · idx_vars x
      obtain rfl : x0 = 0 := Subsingleton.elim _ _
      refine (gb3_at _ _ _ _ _ _ hx _ (fun k q => ?_) x1 x2).trans (congrArg _ ?_)
      · pointwise; exact (hw _ _).trans (congrArg _ (by blk_ext))
      · blk_ext [row]
    · idx_vars x
      obtain rfl : x0 = 0 := Subsingleton.elim _ _
      refine (gb2_at _ _ _ _ _ _ hx _ (fun k q => ?_) x1 x2).trans (congrArg _ ?_)
      · pointwise; exact (hw _ _).trans (congrArg _ (by blk_ext))
      · blk_ext [row]
    · idx_vars x
      obtain rfl : x0 = 0 := Subsingleton.elim _ _
      refine (gb1_at _ _ _ _ _ _ hx _ (fun k q => ?_) x1 x2).trans (congrArg _ ?_)
      · pointwise; exact (hw _ _).trans (congrArg _ (by blk_ext))
      · blk_ext [row]
    · idx_vars x
      obtain rfl : x0 = 0 := Subsingleton.elim _ _
      refine (gb0_at _ _ _ _ _ _ hx _ (fun k q => ?_) x1 x2).trans (congrArg _ ?_)
      · pointwise; exact (hw _ _).trans (congrArg _ (by blk_ext))
      · blk_ext [row]

end Cert.In.Val
end
-- ==== Proof.InScratch.lean ====
module

public import proofs.«01_k».proof.Proof.InOut
public import Idealize.ShloMosaic.Lib.WritesUnit

/-! # The prompt's in-projection: the scratch with the rows before a tile -/

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.ReferenceIdeal.Read Cert.In.Pure

namespace Cert.In.Val

variable (m : (ℓ : Loc nD τ sig) → Buf (Elt Ideal) ℓ)

/-- The first 16 scratch rows after a point: the last 16 rows of its tile. -/
theorem scr (c : Dev nD) (t : Fin cfg0.N) (p : Fin 16) (q : Fin 512) :
    (outsAt0 m c t.val t.isLt).2.2.2.2.2.2.2.2.2.1 (ix2 ⟨p, by omega⟩ q)
      = val_main_v21 (F := Ideal) (A0 m c) (A1 m c) (A2 m c) (ix3 (bat t) (row (tile t) ⟨496 + p, by omega⟩) q) := by
  have hu := urow m c t
  by_cases h : t.val % 16 = 0
  · rw [outsAt0_A m c t h]; frame_out
    rw [← View.read_writes_junk_apply_eq_canon (View.whole cc0_scratch0),
      View.read_writes_cons_unit_of_mem _ _ _ _ _ _ (ix2 p q) rfl (Fin.forall_fin_two.mpr ⟨(Nat.zero_add _).symm, (Nat.zero_add _).symm⟩)]
    unfold k0_pay2
    pointwise
    rw [View.readCov_eq_canon']
    beta_reduce
    rw [← View.read_writes_junk_apply_eq_canon (View.whole cc0_scratch0),
      View.read_writes_cons_unit_of_mem _ _ _ _ _ _ (ix2 ⟨496 + p, by omega⟩ q) rfl (Fin.forall_fin_two.mpr ⟨(Rect.idx_unit_val _ _ _ _ _).trans (by show 512 + (p : ℕ) = 16 + (496 + (p : ℕ)); omega), (Rect.idx_unit_val _ _ _ _ _).trans rfl⟩)]
    exact hu _ _
  · rw [outsAt0_B m c t h]; frame_out
    rw [← View.read_writes_junk_apply_eq_canon (View.whole cc0_scratch0),
      View.read_writes_cons_unit_of_mem _ _ _ _ _ _ (ix2 p q) rfl (Fin.forall_fin_two.mpr ⟨(Nat.zero_add _).symm, (Nat.zero_add _).symm⟩)]
    unfold k0_pay2
    pointwise
    rw [View.readCov_eq_canon']
    beta_reduce
    rw [← View.read_writes_junk_apply_eq_canon (View.whole cc0_scratch0),
      View.read_writes_cons_unit_of_mem _ _ _ _ _ _ (ix2 ⟨496 + p, by omega⟩ q) rfl (Fin.forall_fin_two.mpr ⟨(Rect.idx_unit_val _ _ _ _ _).trans (by show 512 + (p : ℕ) = 16 + (496 + (p : ℕ)); omega), (Rect.idx_unit_val _ _ _ _ _).trans rfl⟩)]
    exact hu _ _

/-- The pooling state. -/
theorem final16 (c : Dev nD) : (dats m 0 c).arrAt 16 (cfgs 0).N = val_main_v204 (F := Ideal) (A0 m c) (A1 m c) (A2 m c) := by
  refine (dats m 0 c).arrAt_eq_of_covers 16 _ (by decide +kernel) fun t ht y => ?_
  blk_simp
  rw [after0_16]
  have hu := urow m c t
  have h15 : t.val % 16 = 15 := (flush0_16 t).mp ht
  have hy : (((View.whole main_v11_8).slice (win0_16.rect t)).emb y) = ix3 (bat t) (y 1) (y 2) := by
    blk_ext [idx t, bat, tile, row]
  rw [hy]
  clear hy
  rw [outsAt0_B m c t (by omega)]; frame_out
  idx_vars y
  pointwise [k0_pay3]
  rw [View.readCov_eq_canon']
  beta_reduce
  rw [← View.read_writes_junk_apply_eq_canon (View.whole cc0_scratch0),
    View.read_writes_cons_unit_of_mem _ _ _ _ _ _ (ix2 ⟨496 + y1, by omega⟩ y2) rfl (Fin.forall_fin_two.mpr ⟨(Rect.idx_unit_val _ _ _ _ _).trans (by show 512 + (y1 : ℕ) = 16 + (496 + (y1 : ℕ)); omega), (Rect.idx_unit_val _ _ _ _ _).trans rfl⟩)]
  refine (hu _ _).trans ?_
  pointwise [val_main_v204, val_main_v56]
  rw [dif_neg (by omega)]
  exact congrArg (val_main_v21 (F := Ideal) (A0 m c) (A1 m c) (A2 m c)) (by blk_ext [row, tile])
end Cert.In.Val
end
-- ==== Proof.InPool.lean ====
module

public import proofs.«01_k».proof.Proof.InPure
public import Idealize.ShloMosaic.Lib.Pipeline.ValueKit.Geometry

/-! # The prompt's in-projection: the pooled branch of one tile

The kernel keeps the 16 rows before a tile in the first rows of a scratch, sums a window by doubling it, and multiplies by
the reciprocal of the window's length; the reference adds the shifted rows one by one and divides. -/

@[expose] public section

set_option maxRecDepth 16384

noncomputable section

open Idealize.ShloMosaic Idealize.ShloMosaic.TcCoe Idealize.SL.Sem
open Cert.KernelIdeal Cert.KernelIdeal.Gen Cert.ReferenceIdeal.Read

namespace Cert.In.Pure

/-- The kernel's number of a row is the reference's. -/
theorem pos_eq (T : Fin 16) (r : Fin 512) :
    IntOp.addi (Scalar.muli (BitVec.ofNat 32 T) 512#32) (BitVec.ofNat 32 r) = IntOp.addi 0#32 (BitVec.ofNat 32 (512 * (T : ℕ) + r)) := by
  revert r T
  decide +kernel

/-- The lengths of the four windows are not zero. -/
theorem len2 (T : Fin 16) (r : Fin 512) : (IntOp.minsi 2#32 (IntOp.addi (IntOp.addi 0#32 (BitVec.ofNat 32 (512 * (T : ℕ) + r))) 1#32)).toInt ≠ 0 := by
  revert r T
  decide +kernel
theorem len4 (T : Fin 16) (r : Fin 512) : (IntOp.minsi 4#32 (IntOp.addi (IntOp.addi 0#32 (BitVec.ofNat 32 (512 * (T : ℕ) + r))) 1#32)).toInt ≠ 0 := by
  revert r T
  decide +kernel
theorem len8 (T : Fin 16) (r : Fin 512) : (IntOp.minsi 8#32 (IntOp.addi (IntOp.addi 0#32 (BitVec.ofNat 32 (512 * (T : ℕ) + r))) 1#32)).toInt ≠ 0 := by
  revert r T
  decide +kernel
theorem len16 (T : Fin 16) (r : Fin 512) : (IntOp.minsi 16#32 (IntOp.addi (IntOp.addi 0#32 (BitVec.ofNat 32 (512 * (T : ℕ) + r))) 1#32)).toInt ≠ 0 := by
  revert r T
  decide +kernel

variable (a0 : FVec Ideal ⟨3, ![2, 8192, 1024]⟩ .f32) (a1 : FVec Ideal ⟨2, ![1, 1024]⟩ .f32)
  (a2 : FVec Ideal ⟨3, ![1, 1024, 4096]⟩ .f32)
  (a5 : FVec Ideal ⟨4, ![1, 4, 128, 128]⟩ .f32) (a6 : FVec Ideal ⟨2, ![1, 512]⟩ .f32)
  (b : Fin 2) (T : Fin 16)

/-- The means of two rows, less the row. -/
theorem d0_at (L : FVec Ideal S528x128 .f32) (C : FVec Ideal S512x128 .f32)
    (hL : ∀ (p : Fin 528) (q : Fin 128),
      L (ix2 p q) = val_main_v56 (F := Ideal) a0 a1 a2 (ix3 b ⟨512 * T + p - 1, by omega⟩ ⟨0 + q, by omega⟩))
    (hC : ∀ (r : Fin 512) (q : Fin 128),
      C (ix2 r q) = val_main_v56 (F := Ideal) a0 a1 a2 (ix3 b ⟨512 * T + (15 + r), by omega⟩ ⟨0 + q, by omega⟩))
    (r : Fin 512) (q : Fin 128) :
    k0_pay164 (F := Ideal) (BitVec.ofNat 32 T) L C (ix2 r q)
      = val_main_v158 (F := Ideal) a0 a1 a2 (ix3 b (row T r) ⟨0 + q, by omega⟩) := by
  pointwise [k0_pay163, k0_pay164, val_main_v158, val_main_v157, val_main_v156, val_main_v72, val_main_v64, val_main_v62, val_main_v61, val_main_cst_9, val_main_v60, val_main_v63, val_main_v71, val_main_v70, val_main_v69, val_main_v68, val_main_v67, val_main_c_11, val_main_v66, val_main_v59, val_main_v58, val_main_c, val_main_v57, val_main_v65, val_main_c_10, hL, hC]
  generalize val_main_v56 (F := Ideal) a0 a1 a2 = V
  rw [pos_eq, Cert.Math.recip _ _ (len2 T r)]
  refine congrArg₂ (fun x y : EReal => x - y) (congrArg (fun x => Ideal.div x _) ?_) (congrArg V (by blk_ext [row]))
  simp only [add_assoc]
  repeat' first
    | exact congrArg V (by blk_ext [row])
    | refine congrArg₂ (fun x y : EReal => x + y) ?_ ?_

/-- The means of four rows, less the row. -/
theorem d1_at (L : FVec Ideal S528x128 .f32) (C : FVec Ideal S512x128 .f32)
    (hL : ∀ (p : Fin 528) (q : Fin 128),
      L (ix2 p q) = val_main_v56 (F := Ideal) a0 a1 a2 (ix3 b ⟨512 * T + p - 1, by omega⟩ ⟨128 + q, by omega⟩))
    (hC : ∀ (r : Fin 512) (q : Fin 128),
      C (ix2 r q) = val_main_v56 (F := Ideal) a0 a1 a2 (ix3 b ⟨512 * T + (15 + r), by omega⟩ ⟨128 + q, by omega⟩))
    (r : Fin 512) (q : Fin 128) :
    k0_pay166 (F := Ideal) (k0_pay163 (BitVec.ofNat 32 T)) (k0_pay165 (F := Ideal) L) C (ix2 r q)
      = val_main_v158 (F := Ideal) a0 a1 a2 (ix3 b (row T r) ⟨128 + q, by omega⟩) := by
  pointwise [k0_pay163, k0_pay166, k0_pay165, val_main_v158, val_main_v157, val_main_v156, val_main_v89, val_main_v81, val_main_v79, val_main_v77, val_main_v75, val_main_v74, val_main_cst_12, val_main_v73, val_main_v76, val_main_v78, val_main_v80, val_main_v88, val_main_v87, val_main_v86, val_main_v85, val_main_v84, val_main_c_14, val_main_v83, val_main_v59, val_main_v58, val_main_c, val_main_v57, val_main_v82, val_main_c_13, hL, hC]
  generalize val_main_v56 (F := Ideal) a0 a1 a2 = V
  rw [pos_eq, Cert.Math.recip _ _ (len4 T r)]
  refine congrArg₂ (fun x y : EReal => x - y) (congrArg (fun x => Ideal.div x _) ?_) (congrArg V (by blk_ext [row]))
  simp only [add_assoc]
  repeat' first
    | exact congrArg V (by blk_ext [row])
    | refine congrArg₂ (fun x y : EReal => x + y) ?_ ?_

/-- The doubled sum of 8 numbers. -/
theorem sum8 (x0 x1 x2 x3 x4 x5 x6 x7 : EReal) : ((x0 + x1) + (x2 + x3)) + ((x4 + x5) + (x6 + x7)) = x0 + x1 + x2 + x3 + x4 + x5 + x6 + x7 := by
  simp only [add_assoc]

/-- The reference's columns of group 2. -/
theorem cat2 (s : Fin 8192) (q : Fin 128) :
    val_main_v156 (F := Ideal) a0 a1 a2 (ix3 b s ⟨256 + q, by omega⟩) = val_main_v114 (F := Ideal) a0 a1 a2 (ix3 b s q) := by
  pointwise [val_main_v156]
  rw [dif_neg (by omega), dif_neg (by omega), dif_pos (by omega)]
  exact congrArg _ (by blk_ext)

/-- The reference's mean of eight rows. -/
theorem win2 (X : ℕ → EReal) (r : Fin 512) (q : Fin 128)
    (hV : ∀ (k : ℕ) (h : k + (row T r : ℕ) < 8207), val_main_v56 (F := Ideal) a0 a1 a2 (ix3 b ⟨k + (row T r : ℕ), h⟩ ⟨256 + q, by omega⟩) = X (k + 1 + r)) :
    val_main_v114 (F := Ideal) a0 a1 a2 (ix3 b (row T r) q) = Ideal.div (X (16 + r) + X (15 + r) + X (14 + r) + X (13 + r) + X (12 + r) + X (11 + r) + X (10 + r) + X (9 + r)) (FloatOps.sitofp (F := Ideal) .f32 (IntOp.minsi 8#32 (IntOp.addi (IntOp.addi 0#32 (BitVec.ofNat 32 (512 * (T : ℕ) + r))) 1#32))) := by
  pointwise [val_main_v114, val_main_v106, val_main_v104, val_main_v102, val_main_v100, val_main_v98, val_main_v96, val_main_v94, val_main_v92, val_main_v91, val_main_cst_15, val_main_v90, val_main_v93, val_main_v95, val_main_v97, val_main_v99, val_main_v101, val_main_v103, val_main_v105, val_main_v113, val_main_v112, val_main_v111, val_main_v110, val_main_v109, val_main_c_17, val_main_v108, val_main_v59, val_main_v58, val_main_c, val_main_v57, val_main_v107, val_main_c_16, hV]
  try rfl

/-- The kernel's mean of eight rows, less the row. -/
theorem roll2 (L : FVec Ideal S528x128 .f32) (C : FVec Ideal S512x128 .f32) (X : ℕ → EReal) (r : Fin 512) (q : Fin 128)
    (hL : ∀ p : Fin 528, L (ix2 p q) = X p) :
    k0_pay167 (F := Ideal) (k0_pay163 (BitVec.ofNat 32 T)) L C (ix2 r q) = Ideal.div (X (16 + r) + X (15 + r) + X (14 + r) + X (13 + r) + X (12 + r) + X (11 + r) + X (10 + r) + X (9 + r)) (FloatOps.sitofp (F := Ideal) .f32 (IntOp.minsi 8#32 (IntOp.addi (IntOp.addi 0#32 (BitVec.ofNat 32 (512 * (T : ℕ) + r))) 1#32))) - C (ix2 r q) := by
  pointwise [k0_pay163, k0_pay167, hL]
  simp only [show (16 + (r : ℕ) + 528 - 4) % 528 = 12 + r by omega, show (12 + (r : ℕ) + 528 - 2) % 528 = 10 + r by omega, show (10 + (r : ℕ) + 528 - 1) % 528 = 9 + r by omega, show (12 + (r : ℕ) + 528 - 1) % 528 = 11 + r by omega, show (16 + (r : ℕ) + 528 - 2) % 528 = 14 + r by omega, show (14 + (r : ℕ) + 528 - 1) % 528 = 13 + r by omega, show (16 + (r : ℕ) + 528 - 1) % 528 = 15 + r by omega]
  rw [pos_eq, Cert.Math.recip _ _ (len8 T r), sum8]

/-- The means of eight rows, less the row. -/
theorem d2_at (L : FVec Ideal S528x128 .f32) (C : FVec Ideal S512x128 .f32)
    (hL : ∀ (p : Fin 528) (q : Fin 128),
      L (ix2 p q) = val_main_v56 (F := Ideal) a0 a1 a2 (ix3 b ⟨512 * T + p - 1, by omega⟩ ⟨256 + q, by omega⟩))
    (hC : ∀ (r : Fin 512) (q : Fin 128),
      C (ix2 r q) = val_main_v56 (F := Ideal) a0 a1 a2 (ix3 b ⟨512 * T + (15 + r), by omega⟩ ⟨256 + q, by omega⟩))
    (r : Fin 512) (q : Fin 128) :
    k0_pay167 (F := Ideal) (k0_pay163 (BitVec.ofNat 32 T)) L C (ix2 r q)
      = val_main_v158 (F := Ideal) a0 a1 a2 (ix3 b (row T r) ⟨256 + q, by omega⟩) := by
  obtain ⟨X, hX⟩ : ∃ X : ℕ → EReal, ∀ (n : ℕ) (h : 512 * (T : ℕ) + n - 1 < 8207),
      val_main_v56 (F := Ideal) a0 a1 a2 (ix3 b ⟨512 * T + n - 1, h⟩ ⟨256 + q, by omega⟩) = X n :=
    ⟨fun n => if h : 512 * (T : ℕ) + n - 1 < 8207 then val_main_v56 (F := Ideal) a0 a1 a2 (ix3 b ⟨512 * T + n - 1, h⟩ ⟨256 + q, by omega⟩) else 0,
      fun n h => by beta_reduce; rw [dif_pos h]⟩
  rw [roll2 T L C X r q (fun p => (hL p q).trans (hX p _)), hC]
  pointwise [val_main_v158, val_main_v157]
  rw [cat2, win2 a0 a1 a2 b T X r q (fun k h => ?_)]
  · refine congrArg (fun x : EReal => _ - x) (congrArg (val_main_v56 (F := Ideal) a0 a1 a2) (by blk_ext [row]))
  · refine Eq.trans (congrArg (val_main_v56 (F := Ideal) a0 a1 a2) (by blk_ext [row])) (hX (k + 1 + r) (by have := row; simp only [row] at h; omega))

/-- The doubled sum of 16 numbers. -/
theorem sum16 (x0 x1 x2 x3 x4 x5 x6 x7 x8 x9 x10 x11 x12 x13 x14 x15 : EReal) : (((x0 + x1) + (x2 + x3)) + ((x4 + x5) + (x6 + x7))) + (((x8 + x9) + (x10 + x11)) + ((x12 + x13) + (x14 + x15))) = x0 + x1 + x2 + x3 + x4 + x5 + x6 + x7 + x8 + x9 + x10 + x11 + x12 + x13 + x14 + x15 := by
  simp only [add_assoc]

/-- The reference's columns of group 3. -/
theorem cat3 (s : Fin 8192) (q : Fin 128) :
    val_main_v156 (F := Ideal) a0 a1 a2 (ix3 b s ⟨384 + q, by omega⟩) = val_main_v155 (F := Ideal) a0 a1 a2 (ix3 b s q) := by
  pointwise [val_main_v156]
  rw [dif_neg (by omega), dif_neg (by omega), dif_neg (by omega)]
  exact congrArg _ (by blk_ext)

/-- The reference's mean of sixteen rows. -/
theorem win3 (X : ℕ → EReal) (r : Fin 512) (q : Fin 128)
    (hV : ∀ (k : ℕ) (h : k + (row T r : ℕ) < 8207), val_main_v56 (F := Ideal) a0 a1 a2 (ix3 b ⟨k + (row T r : ℕ), h⟩ ⟨384 + q, by omega⟩) = X (k + 1 + r)) :
    val_main_v155 (F := Ideal) a0 a1 a2 (ix3 b (row T r) q) = Ideal.div (X (16 + r) + X (15 + r) + X (14 + r) + X (13 + r) + X (12 + r) + X (11 + r) + X (10 + r) + X (9 + r) + X (8 + r) + X (7 + r) + X (6 + r) + X (5 + r) + X (4 + r) + X (3 + r) + X (2 + r) + X (1 + r)) (FloatOps.sitofp (F := Ideal) .f32 (IntOp.minsi 16#32 (IntOp.addi (IntOp.addi 0#32 (BitVec.ofNat 32 (512 * (T : ℕ) + r))) 1#32))) := by
  have h0 : ∀ h : (row T r : ℕ) < 8207, val_main_v56 (F := Ideal) a0 a1 a2 (ix3 b ⟨row T r, h⟩ ⟨384 + q, by omega⟩) = X (1 + r) := fun h => by
    have e := hV 0 (by omega)
    simp only [Nat.zero_add] at e
    exact e
  pointwise [val_main_v155, val_main_v147, val_main_v145, val_main_v143, val_main_v141, val_main_v139, val_main_v137, val_main_v135, val_main_v133, val_main_v131, val_main_v129, val_main_v127, val_main_v125, val_main_v123, val_main_v121, val_main_v119, val_main_v117, val_main_v116, val_main_cst_18, val_main_v115, val_main_v118, val_main_v120, val_main_v122, val_main_v124, val_main_v126, val_main_v128, val_main_v130, val_main_v132, val_main_v134, val_main_v136, val_main_v138, val_main_v140, val_main_v142, val_main_v144, val_main_v146, val_main_v154, val_main_v153, val_main_v152, val_main_v151, val_main_v150, val_main_c_20, val_main_v149, val_main_v59, val_main_v58, val_main_c, val_main_v57, val_main_v148, val_main_c_19, h0, hV]
  try rfl

set_option maxHeartbeats 4000000 in
/-- The kernel's mean of sixteen rows, less the row. -/
theorem roll3 (L : FVec Ideal S528x128 .f32) (C : FVec Ideal S512x128 .f32) (X : ℕ → EReal) (r : Fin 512) (q : Fin 128)
    (hL : ∀ p : Fin 528, L (ix2 p q) = X p) :
    k0_pay170 (F := Ideal) (k0_pay163 (BitVec.ofNat 32 T)) (k0_pay168 (F := Ideal) L) (k0_pay169 (F := Ideal) L) C (ix2 r q) = Ideal.div (X (16 + r) + X (15 + r) + X (14 + r) + X (13 + r) + X (12 + r) + X (11 + r) + X (10 + r) + X (9 + r) + X (8 + r) + X (7 + r) + X (6 + r) + X (5 + r) + X (4 + r) + X (3 + r) + X (2 + r) + X (1 + r)) (FloatOps.sitofp (F := Ideal) .f32 (IntOp.minsi 16#32 (IntOp.addi (IntOp.addi 0#32 (BitVec.ofNat 32 (512 * (T : ℕ) + r))) 1#32))) - C (ix2 r q) := by
  pointwise [k0_pay163, k0_pay170, k0_pay169, k0_pay168, hL]
  simp only [show (16 + (r : ℕ) + 528 - 8) % 528 = 8 + r by omega, show (8 + (r : ℕ) + 528 - 4) % 528 = 4 + r by omega, show (4 + (r : ℕ) + 528 - 2) % 528 = 2 + r by omega, show (2 + (r : ℕ) + 528 - 1) % 528 = 1 + r by omega, show (4 + (r : ℕ) + 528 - 1) % 528 = 3 + r by omega, show (8 + (r : ℕ) + 528 - 2) % 528 = 6 + r by omega, show (6 + (r : ℕ) + 528 - 1) % 528 = 5 + r by omega, show (8 + (r : ℕ) + 528 - 1) % 528 = 7 + r by omega, show (16 + (r : ℕ) + 528 - 4) % 528 = 12 + r by omega, show (12 + (r : ℕ) + 528 - 2) % 528 = 10 + r by omega, show (10 + (r : ℕ) + 528 - 1) % 528 = 9 + r by omega, show (12 + (r : ℕ) + 528 - 1) % 528 = 11 + r by omega, show (16 + (r : ℕ) + 528 - 2) % 528 = 14 + r by omega, show (14 + (r : ℕ) + 528 - 1) % 528 = 13 + r by omega, show (16 + (r : ℕ) + 528 - 1) % 528 = 15 + r by omega]
  rw [pos_eq, Cert.Math.recip _ _ (len16 T r), sum16]

/-- The means of sixteen rows, less the row. -/
theorem d3_at (L : FVec Ideal S528x128 .f32) (C : FVec Ideal S512x128 .f32)
    (hL : ∀ (p : Fin 528) (q : Fin 128),
      L (ix2 p q) = val_main_v56 (F := Ideal) a0 a1 a2 (ix3 b ⟨512 * T + p - 1, by omega⟩ ⟨384 + q, by omega⟩))
    (hC : ∀ (r : Fin 512) (q : Fin 128),
      C (ix2 r q) = val_main_v56 (F := Ideal) a0 a1 a2 (ix3 b ⟨512 * T + (15 + r), by omega⟩ ⟨384 + q, by omega⟩))
    (r : Fin 512) (q : Fin 128) :
    k0_pay170 (F := Ideal) (k0_pay163 (BitVec.ofNat 32 T)) (k0_pay168 (F := Ideal) L) (k0_pay169 (F := Ideal) L) C (ix2 r q)
      = val_main_v158 (F := Ideal) a0 a1 a2 (ix3 b (row T r) ⟨384 + q, by omega⟩) := by
  obtain ⟨X, hX⟩ : ∃ X : ℕ → EReal, ∀ (n : ℕ) (h : 512 * (T : ℕ) + n - 1 < 8207),
      val_main_v56 (F := Ideal) a0 a1 a2 (ix3 b ⟨512 * T + n - 1, h⟩ ⟨384 + q, by omega⟩) = X n :=
    ⟨fun n => if h : 512 * (T : ℕ) + n - 1 < 8207 then val_main_v56 (F := Ideal) a0 a1 a2 (ix3 b ⟨512 * T + n - 1, h⟩ ⟨384 + q, by omega⟩) else 0,
      fun n h => by beta_reduce; rw [dif_pos h]⟩
  rw [roll3 T L C X r q (fun p => (hL p q).trans (hX p _)), hC]
  pointwise [val_main_v158, val_main_v157]
  rw [cat3, win3 a0 a1 a2 b T X r q (fun k h => ?_)]
  · refine congrArg (fun x : EReal => _ - x) (congrArg (val_main_v56 (F := Ideal) a0 a1 a2) (by blk_ext [row]))
  · refine Eq.trans (congrArg (val_main_v56 (F := Ideal) a0 a1 a2) (by blk_ext [row])) (hX (k + 1 + r) (by have := row; simp only [row] at h; omega))

end Cert.In.Pure
end
-- ==== Proof.InPoolDot.lean ====
module

public import proofs.«01_k».proof.Proof.InPure
public import Idealize.ShloMosaic.Lib.Pipeline.ValueKit.Geometry

/-! # The prompt's in-projection: the pooled branch's linear map of one tile -/

@[expose] public section

set_option maxRecDepth 16384

noncomputable section

open Idealize.ShloMosaic Idealize.ShloMosaic.TcCoe Idealize.SL.Sem
open Cert.KernelIdeal Cert.KernelIdeal.Gen Cert.ReferenceIdeal.Read

namespace Cert.In.Pure

variable (a0 : FVec Ideal ⟨3, ![2, 8192, 1024]⟩ .f32) (a1 : FVec Ideal ⟨2, ![1, 1024]⟩ .f32)
  (a2 : FVec Ideal ⟨3, ![1, 1024, 4096]⟩ .f32)
  (a5 : FVec Ideal ⟨4, ![1, 4, 128, 128]⟩ .f32) (a6 : FVec Ideal ⟨2, ![1, 512]⟩ .f32)
  (b : Fin 2) (T : Fin 16)

/-- Group 0 of the columns: the linear map of the differences, scaled. -/
theorem y0_at (D : FVec Ideal S512x128 .f32) (W : FVec Ideal S1x128x128 .bf16) (S : FVec Ideal S1x128 .f32)
    (hD : ∀ (r : Fin 512) (q : Fin 128), D (ix2 r q) = val_main_v158 (F := Ideal) a0 a1 a2 (ix3 b (row T r) ⟨0 + q, by omega⟩))
    (hW : ∀ k q : Fin 128, W (ix3 0 k q) = a5 (ix4 0 0 k q))
    (hS : ∀ q : Fin 128, S (ix2 0 q) = a6 (ix2 0 ⟨0 + q, by omega⟩)) (r : Fin 512) (q : Fin 128) :
    k0_pay171 (F := Ideal) D W S (ix3 0 r q) = val_main_v189 (F := Ideal) a0 a1 a2 a5 a6 (ix3 b (row T r) ⟨0 + q, by omega⟩) := by
  pointwise [k0_pay171, val_main_v189, val_main_v165, val_main_v164, val_main_v163, val_main_v162, val_main_v161, val_main_v160, val_main_v159, val_main_v55, val_main_v54, hD, hW, hS]
  generalize val_main_v158 (F := Ideal) a0 a1 a2 = V
  refine congrArg (fun x : EReal => x * _) (Finset.sum_congr rfl fun k _ => ?_)
  exact (mul_comm _ _).trans (congrArg₂ (fun x y : EReal => x * y) (congrArg a5 (by blk_ext)) (congrArg V (by blk_ext)))

/-- Group 1 of the columns: the linear map of the differences, scaled. -/
theorem y1_at (D : FVec Ideal S512x128 .f32) (W : FVec Ideal S1x128x128 .bf16) (S : FVec Ideal S1x128 .f32)
    (hD : ∀ (r : Fin 512) (q : Fin 128), D (ix2 r q) = val_main_v158 (F := Ideal) a0 a1 a2 (ix3 b (row T r) ⟨128 + q, by omega⟩))
    (hW : ∀ k q : Fin 128, W (ix3 0 k q) = a5 (ix4 0 1 k q))
    (hS : ∀ q : Fin 128, S (ix2 0 q) = a6 (ix2 0 ⟨128 + q, by omega⟩)) (r : Fin 512) (q : Fin 128) :
    k0_pay172 (F := Ideal) D W S (ix3 0 r q) = val_main_v189 (F := Ideal) a0 a1 a2 a5 a6 (ix3 b (row T r) ⟨128 + q, by omega⟩) := by
  pointwise [k0_pay172, val_main_v189, val_main_v165, val_main_v164, val_main_v163, val_main_v162, val_main_v161, val_main_v160, val_main_v159, val_main_v55, val_main_v54, hD, hW, hS]
  generalize val_main_v158 (F := Ideal) a0 a1 a2 = V
  refine congrArg (fun x : EReal => x * _) (Finset.sum_congr rfl fun k _ => ?_)
  exact (mul_comm _ _).trans (congrArg₂ (fun x y : EReal => x * y) (congrArg a5 (by blk_ext)) (congrArg V (by blk_ext)))

/-- Group 2 of the columns: the linear map of the differences, scaled. -/
theorem y2_at (D : FVec Ideal S512x128 .f32) (W : FVec Ideal S1x128x128 .bf16) (S : FVec Ideal S1x128 .f32)
    (hD : ∀ (r : Fin 512) (q : Fin 128), D (ix2 r q) = val_main_v158 (F := Ideal) a0 a1 a2 (ix3 b (row T r) ⟨256 + q, by omega⟩))
    (hW : ∀ k q : Fin 128, W (ix3 0 k q) = a5 (ix4 0 2 k q))
    (hS : ∀ q : Fin 128, S (ix2 0 q) = a6 (ix2 0 ⟨256 + q, by omega⟩)) (r : Fin 512) (q : Fin 128) :
    k0_pay173 (F := Ideal) D W S (ix3 0 r q) = val_main_v189 (F := Ideal) a0 a1 a2 a5 a6 (ix3 b (row T r) ⟨256 + q, by omega⟩) := by
  pointwise [k0_pay173, val_main_v189, val_main_v165, val_main_v164, val_main_v163, val_main_v162, val_main_v161, val_main_v160, val_main_v159, val_main_v55, val_main_v54, hD, hW, hS]
  generalize val_main_v158 (F := Ideal) a0 a1 a2 = V
  refine congrArg (fun x : EReal => x * _) (Finset.sum_congr rfl fun k _ => ?_)
  exact (mul_comm _ _).trans (congrArg₂ (fun x y : EReal => x * y) (congrArg a5 (by blk_ext)) (congrArg V (by blk_ext)))

/-- Group 3 of the columns: the linear map of the differences, scaled. -/
theorem y3_at (D : FVec Ideal S512x128 .f32) (W : FVec Ideal S1x128x128 .bf16) (S : FVec Ideal S1x128 .f32)
    (hD : ∀ (r : Fin 512) (q : Fin 128), D (ix2 r q) = val_main_v158 (F := Ideal) a0 a1 a2 (ix3 b (row T r) ⟨384 + q, by omega⟩))
    (hW : ∀ k q : Fin 128, W (ix3 0 k q) = a5 (ix4 0 3 k q))
    (hS : ∀ q : Fin 128, S (ix2 0 q) = a6 (ix2 0 ⟨384 + q, by omega⟩)) (r : Fin 512) (q : Fin 128) :
    k0_pay1 (F := Ideal) (k0_pay174 (F := Ideal) D W) S (ix3 0 r q) = val_main_v189 (F := Ideal) a0 a1 a2 a5 a6 (ix3 b (row T r) ⟨384 + q, by omega⟩) := by
  pointwise [k0_pay1, k0_pay174, val_main_v189, val_main_v165, val_main_v164, val_main_v163, val_main_v162, val_main_v161, val_main_v160, val_main_v159, val_main_v55, val_main_v54, hD, hW, hS]
  generalize val_main_v158 (F := Ideal) a0 a1 a2 = V
  refine congrArg (fun x : EReal => x * _) (Finset.sum_congr rfl fun k _ => ?_)
  exact (mul_comm _ _).trans (congrArg₂ (fun x y : EReal => x * y) (congrArg a5 (by blk_ext)) (congrArg V (by blk_ext)))

end Cert.In.Pure
end
-- ==== Proof.InPoolOut.lean ====
module

public import proofs.«01_k».proof.Proof.InScratch
public import proofs.«01_k».proof.Proof.InPool
public import proofs.«01_k».proof.Proof.InPoolDot
public import Idealize.ShloMosaic.Lib.WritesUnit
public import Idealize.ShloMosaic.Lib.Pipeline.ReadBack

/-! # The prompt's in-projection: the pooled branch's array -/

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.ReferenceIdeal.Read Cert.In.Pure

namespace Cert.In.Val

variable (m : (ℓ : Loc nD τ sig) → Buf (Elt Ideal) ℓ)

/-- A tile's rows as the kernel reads them back from the scratch. -/
theorem cur_at (c : Dev nD) (t : Fin cfg0.N) (f : (View.whole cc0_scratch0).ty.Contents (Elt Ideal)) (u : FVec Ideal S512x512 .f32)
    (L : List (View.Piece (Elt Ideal) S528x512 .f32))
    (hu : ∀ r q : Fin 512, u (ix2 r q) = val_main_v21 (F := Ideal) (A0 m c) (A1 m c) (A2 m c) (ix3 (bat t) (row (tile t) r) q))
    (y : S528x512.Idx) (r q : Fin 512) (h0 : (y 0 : ℕ) = 16 + r) (h1 : (y 1 : ℕ) = q) :
    (View.whole cc0_scratch0).read (Elt Ideal) ((View.whole cc0_scratch0).writes (Elt Ideal) f
        (⟨Rect.unit ![16, 0] ![512, 512] inb_S528x512_S512x512_16_0, u⟩ :: L)) y
      = val_main_v56 (F := Ideal) (A0 m c) (A1 m c) (A2 m c) (ix3 (bat t) ⟨512 * tile t + (15 + r), by omega⟩ q) := by
  rw [View.read_writes_cons_unit_of_mem _ _ _ _ _ _ (ix2 r q) rfl
    (Fin.forall_fin_two.mpr ⟨h0, h1.trans (Nat.zero_add _).symm⟩), hu]
  pointwise [val_main_v56]
  rw [dif_neg (by omega)]
  exact congrArg (val_main_v21 (F := Ideal) (A0 m c) (A1 m c) (A2 m c)) (by blk_ext [row])

/-- The scratch once a tile's rows are stored below its 16 rows of history: row `p` is the padded sequence's row before
the tile's row `p - 16` by 15. -/
theorem rows_at (c : Dev nD) (t : Fin cfg0.N) (f : (View.whole cc0_scratch0).ty.Contents (Elt Ideal)) (u : FVec Ideal S512x512 .f32)
    (L : List (View.Piece (Elt Ideal) S528x512 .f32))
    (hu : ∀ r q : Fin 512, u (ix2 r q) = val_main_v21 (F := Ideal) (A0 m c) (A1 m c) (A2 m c) (ix3 (bat t) (row (tile t) r) q))
    (hf : ∀ (p : Fin 528) (q : Fin 512), (p : ℕ) < 16 → (View.whole cc0_scratch0).read (Elt Ideal) ((View.whole cc0_scratch0).writes (Elt Ideal) f L) (ix2 p q)
      = val_main_v56 (F := Ideal) (A0 m c) (A1 m c) (A2 m c) (ix3 (bat t) ⟨512 * tile t + p - 1, by omega⟩ q))
    (p : Fin 528) (q : Fin 512) :
    (View.whole cc0_scratch0).read (Elt Ideal) ((View.whole cc0_scratch0).writes (Elt Ideal) f
        (⟨Rect.unit ![16, 0] ![512, 512] inb_S528x512_S512x512_16_0, u⟩ :: L)) (ix2 p q)
      = val_main_v56 (F := Ideal) (A0 m c) (A1 m c) (A2 m c) (ix3 (bat t) ⟨512 * tile t + p - 1, by omega⟩ q) := by
  by_cases hp : (p : ℕ) < 16
  · rw [View.read_writes_cons_unit_of_not_mem _ _ _ _ _ _ rfl 0 (Or.inl hp)]
    exact hf p q hp
  · rw [View.read_writes_cons_unit_of_mem _ _ _ _ _ _ (ix2 ⟨(p : ℕ) - 16, by omega⟩ q) rfl
      (Fin.forall_fin_two.mpr ⟨by show (p : ℕ) = 16 + ((p : ℕ) - 16); omega, (Nat.zero_add _).symm⟩), hu]
    pointwise [val_main_v56]
    rw [dif_neg (by omega)]
    exact congrArg (val_main_v21 (F := Ideal) (A0 m c) (A1 m c) (A2 m c)) (by blk_ext [row])

/-- The history that a tile after the first finds in the scratch. -/
theorem hist (c : Dev nD) (t : Fin cfg0.N) (ht : ¬t.val % 16 = 0) (p : Fin 528) (q : Fin 512) (hp : (p : ℕ) < 16) :
    (View.whole cc0_scratch0).read (Elt Ideal) ((View.whole cc0_scratch0).writes (Elt Ideal)
        ((Memref.isWhole_whole cc0_scratch0).unread (outsAt0 m c (t.val - 1) (Nat.lt_of_le_of_lt (Nat.sub_le _ _) t.isLt)).2.2.2.2.2.2.2.2.2.1) []) (ix2 p q)
      = val_main_v56 (F := Ideal) (A0 m c) (A1 m c) (A2 m c) (ix3 (bat t) ⟨512 * tile t + p - 1, by omega⟩ q) := by
  have ht' : ((t.val - 1) % 16 : ℕ) + 1 = t.val % 16 := by omega
  rw [View.writes_nil, Idealize.ShloMosaic.read_unread_whole]
  refine (scr m c ⟨t.val - 1, Nat.lt_of_le_of_lt (Nat.sub_le _ _) t.isLt⟩ ⟨p, hp⟩ q).trans ?_
  pointwise [val_main_v56]
  rw [dif_neg (by show ¬ (512 * (t.val % 16) + p - 1 < 15); omega)]
  exact congrArg (val_main_v21 (F := Ideal) (A0 m c) (A1 m c) (A2 m c)) (by blk_ext [row, tile, bat])

/-- The history of the first tile: zeros. -/
theorem zeros (c : Dev nD) (t : Fin cfg0.N) (ht : t.val % 16 = 0) (f : (View.whole cc0_scratch0).ty.Contents (Elt Ideal)) (p : Fin 528) (q : Fin 512) (hp : (p : ℕ) < 16) :
    (View.whole cc0_scratch0).read (Elt Ideal) ((View.whole cc0_scratch0).writes (Elt Ideal) f
        [⟨Rect.unit ![0, 0] ![16, 512] inb_S528x512_S16x512_0_0, k0_pay4 (F := Ideal)⟩]) (ix2 p q)
      = val_main_v56 (F := Ideal) (A0 m c) (A1 m c) (A2 m c) (ix3 (bat t) ⟨512 * tile t + p - 1, by omega⟩ q) := by
  rw [View.read_writes_cons_unit_of_mem _ _ _ _ _ _ (ix2 ⟨p, hp⟩ q) rfl
    (Fin.forall_fin_two.mpr ⟨(Nat.zero_add _).symm, (Nat.zero_add _).symm⟩)]
  have e : (512 * (tile t : ℕ) + p - 1) < 15 := by show 512 * (t.val % 16) + p - 1 < 15; omega
  pointwise [k0_pay4, val_main_v56, val_main_v53, val_main_cst_8]
  rw [dif_pos e]

/-- The pooled branch's array. -/
theorem final13 (c : Dev nD) : (dats m 0 c).arrAt 13 (cfgs 0).N = val_main_v189 (F := Ideal) (A0 m c) (A1 m c) (A2 m c) (A5 m c) (A6 m c) := by
  refine (dats m 0 c).arrAt_eq_of_covers 13 _ (by decide +kernel) fun t _ y => ?_
  blk_simp
  rw [after0_13]
  have hu := urow m c t
  have hc := coord t
  have h6 := b6 m c t
  have h7 := b7 m c t
  have hy : (((View.whole main_v11_5).slice (win0_13.rect t)).emb y) = ix3 (bat t) (row (tile t) (y 1)) (y 2) := by
    blk_ext [idx t, bat, tile, row]
  rw [hy]
  clear hy
  by_cases h : t.val % 16 = 0
  · rw [outsAt0_A m c t h]; frame_out
    rename' h => ht
    rw [hc]
    canon_tiles x h
    · idx_vars x
      obtain rfl : x0 = 0 := Subsingleton.elim _ _
      refine (y3_at _ _ _ _ _ (bat t) (tile t) _ _ _ (d3_at _ _ _ (bat t) (tile t) _ _ (fun p q => ?_) (fun r q => ?_)) (fun k q => ?_) (fun q => ?_) x1 x2).trans
        (congrArg (val_main_v189 (F := Ideal) (A0 m c) (A1 m c) (A2 m c) (A5 m c) (A6 m c)) ?_)
      · rw [View.readCov_eq_canon']
        beta_reduce
        rw [← View.read_writes_junk_apply_eq_canon (View.whole cc0_scratch0)]
        refine Eq.trans (congrArg _ ?_) (rows_at m c t _ _ _ hu (zeros m c t ht _) p ⟨384 + q, by omega⟩)
        exact funext (Fin.forall_fin_two.mpr ⟨Fin.ext ((Rect.idx_unit_val _ _ _ _ _).trans (Nat.zero_add _)), Fin.ext ((Rect.idx_unit_val _ _ _ _ _).trans rfl)⟩)
      · rw [View.readCov_eq_canon']
        beta_reduce
        rw [← View.read_writes_junk_apply_eq_canon (View.whole cc0_scratch0)]
        exact cur_at m c t _ _ _ hu _ r _ (Rect.idx_unit_val _ _ _ _ _) (Rect.idx_unit_val _ _ _ _ _)
      · pointwise
        exact h6 _ _ _
      · pointwise
        exact h7 _ _
      · blk_ext [row]
    · idx_vars x
      obtain rfl : x0 = 0 := Subsingleton.elim _ _
      refine (y2_at _ _ _ _ _ (bat t) (tile t) _ _ _ (d2_at _ _ _ (bat t) (tile t) _ _ (fun p q => ?_) (fun r q => ?_)) (fun k q => ?_) (fun q => ?_) x1 x2).trans
        (congrArg (val_main_v189 (F := Ideal) (A0 m c) (A1 m c) (A2 m c) (A5 m c) (A6 m c)) ?_)
      · rw [View.readCov_eq_canon']
        beta_reduce
        rw [← View.read_writes_junk_apply_eq_canon (View.whole cc0_scratch0)]
        refine Eq.trans (congrArg _ ?_) (rows_at m c t _ _ _ hu (zeros m c t ht _) p ⟨256 + q, by omega⟩)
        exact funext (Fin.forall_fin_two.mpr ⟨Fin.ext ((Rect.idx_unit_val _ _ _ _ _).trans (Nat.zero_add _)), Fin.ext ((Rect.idx_unit_val _ _ _ _ _).trans rfl)⟩)
      · rw [View.readCov_eq_canon']
        beta_reduce
        rw [← View.read_writes_junk_apply_eq_canon (View.whole cc0_scratch0)]
        exact cur_at m c t _ _ _ hu _ r _ (Rect.idx_unit_val _ _ _ _ _) (Rect.idx_unit_val _ _ _ _ _)
      · pointwise
        exact h6 _ _ _
      · pointwise
        exact h7 _ _
      · blk_ext [row]
    · idx_vars x
      obtain rfl : x0 = 0 := Subsingleton.elim _ _
      refine (y1_at _ _ _ _ _ (bat t) (tile t) _ _ _ (d1_at _ _ _ (bat t) (tile t) _ _ (fun p q => ?_) (fun r q => ?_)) (fun k q => ?_) (fun q => ?_) x1 x2).trans
        (congrArg (val_main_v189 (F := Ideal) (A0 m c) (A1 m c) (A2 m c) (A5 m c) (A6 m c)) ?_)
      · rw [View.readCov_eq_canon']
        beta_reduce
        rw [← View.read_writes_junk_apply_eq_canon (View.whole cc0_scratch0)]
        refine Eq.trans (congrArg _ ?_) (rows_at m c t _ _ _ hu (zeros m c t ht _) p ⟨128 + q, by omega⟩)
        exact funext (Fin.forall_fin_two.mpr ⟨Fin.ext ((Rect.idx_unit_val _ _ _ _ _).trans (Nat.zero_add _)), Fin.ext ((Rect.idx_unit_val _ _ _ _ _).trans rfl)⟩)
      · rw [View.readCov_eq_canon']
        beta_reduce
        rw [← View.read_writes_junk_apply_eq_canon (View.whole cc0_scratch0)]
        exact cur_at m c t _ _ _ hu _ r _ (Rect.idx_unit_val _ _ _ _ _) (Rect.idx_unit_val _ _ _ _ _)
      · pointwise
        exact h6 _ _ _
      · pointwise
        exact h7 _ _
      · blk_ext [row]
    · idx_vars x
      obtain rfl : x0 = 0 := Subsingleton.elim _ _
      refine (y0_at _ _ _ _ _ (bat t) (tile t) _ _ _ (d0_at _ _ _ (bat t) (tile t) _ _ (fun p q => ?_) (fun r q => ?_)) (fun k q => ?_) (fun q => ?_) x1 x2).trans
        (congrArg (val_main_v189 (F := Ideal) (A0 m c) (A1 m c) (A2 m c) (A5 m c) (A6 m c)) ?_)
      · rw [View.readCov_eq_canon']
        beta_reduce
        rw [← View.read_writes_junk_apply_eq_canon (View.whole cc0_scratch0)]
        refine Eq.trans (congrArg _ ?_) (rows_at m c t _ _ _ hu (zeros m c t ht _) p ⟨0 + q, by omega⟩)
        exact funext (Fin.forall_fin_two.mpr ⟨Fin.ext ((Rect.idx_unit_val _ _ _ _ _).trans (Nat.zero_add _)), Fin.ext ((Rect.idx_unit_val _ _ _ _ _).trans rfl)⟩)
      · rw [View.readCov_eq_canon']
        beta_reduce
        rw [← View.read_writes_junk_apply_eq_canon (View.whole cc0_scratch0)]
        exact cur_at m c t _ _ _ hu _ r _ (Rect.idx_unit_val _ _ _ _ _) (Rect.idx_unit_val _ _ _ _ _)
      · pointwise
        exact h6 _ _ _
      · pointwise
        exact h7 _ _
      · blk_ext [row]
  · rw [outsAt0_B m c t h]; frame_out
    rename' h => ht
    rw [hc]
    canon_tiles x h
    · idx_vars x
      obtain rfl : x0 = 0 := Subsingleton.elim _ _
      refine (y3_at _ _ _ _ _ (bat t) (tile t) _ _ _ (d3_at _ _ _ (bat t) (tile t) _ _ (fun p q => ?_) (fun r q => ?_)) (fun k q => ?_) (fun q => ?_) x1 x2).trans
        (congrArg (val_main_v189 (F := Ideal) (A0 m c) (A1 m c) (A2 m c) (A5 m c) (A6 m c)) ?_)
      · pointwise
        exact rows_at m c t _ _ _ hu (hist m c t ht) p _
      · rw [View.readCov_eq_canon']
        beta_reduce
        rw [← View.read_writes_junk_apply_eq_canon (View.whole cc0_scratch0)]
        exact cur_at m c t _ _ _ hu _ r _ (Rect.idx_unit_val _ _ _ _ _) (Rect.idx_unit_val _ _ _ _ _)
      · pointwise
        exact h6 _ _ _
      · pointwise
        exact h7 _ _
      · blk_ext [row]
    · idx_vars x
      obtain rfl : x0 = 0 := Subsingleton.elim _ _
      refine (y2_at _ _ _ _ _ (bat t) (tile t) _ _ _ (d2_at _ _ _ (bat t) (tile t) _ _ (fun p q => ?_) (fun r q => ?_)) (fun k q => ?_) (fun q => ?_) x1 x2).trans
        (congrArg (val_main_v189 (F := Ideal) (A0 m c) (A1 m c) (A2 m c) (A5 m c) (A6 m c)) ?_)
      · pointwise
        exact rows_at m c t _ _ _ hu (hist m c t ht) p _
      · rw [View.readCov_eq_canon']
        beta_reduce
        rw [← View.read_writes_junk_apply_eq_canon (View.whole cc0_scratch0)]
        exact cur_at m c t _ _ _ hu _ r _ (Rect.idx_unit_val _ _ _ _ _) (Rect.idx_unit_val _ _ _ _ _)
      · pointwise
        exact h6 _ _ _
      · pointwise
        exact h7 _ _
      · blk_ext [row]
    · idx_vars x
      obtain rfl : x0 = 0 := Subsingleton.elim _ _
      refine (y1_at _ _ _ _ _ (bat t) (tile t) _ _ _ (d1_at _ _ _ (bat t) (tile t) _ _ (fun p q => ?_) (fun r q => ?_)) (fun k q => ?_) (fun q => ?_) x1 x2).trans
        (congrArg (val_main_v189 (F := Ideal) (A0 m c) (A1 m c) (A2 m c) (A5 m c) (A6 m c)) ?_)
      · pointwise
        exact rows_at m c t _ _ _ hu (hist m c t ht) p _
      · rw [View.readCov_eq_canon']
        beta_reduce
        rw [← View.read_writes_junk_apply_eq_canon (View.whole cc0_scratch0)]
        exact cur_at m c t _ _ _ hu _ r _ (Rect.idx_unit_val _ _ _ _ _) (Rect.idx_unit_val _ _ _ _ _)
      · pointwise
        exact h6 _ _ _
      · pointwise
        exact h7 _ _
      · blk_ext [row]
    · idx_vars x
      obtain rfl : x0 = 0 := Subsingleton.elim _ _
      refine (y0_at _ _ _ _ _ (bat t) (tile t) _ _ _ (d0_at _ _ _ (bat t) (tile t) _ _ (fun p q => ?_) (fun r q => ?_)) (fun k q => ?_) (fun q => ?_) x1 x2).trans
        (congrArg (val_main_v189 (F := Ideal) (A0 m c) (A1 m c) (A2 m c) (A5 m c) (A6 m c)) ?_)
      · pointwise
        exact rows_at m c t _ _ _ hu (hist m c t ht) p _
      · rw [View.readCov_eq_canon']
        beta_reduce
        rw [← View.read_writes_junk_apply_eq_canon (View.whole cc0_scratch0)]
        exact cur_at m c t _ _ _ hu _ r _ (Rect.idx_unit_val _ _ _ _ _) (Rect.idx_unit_val _ _ _ _ _)
      · pointwise
        exact h6 _ _ _
      · pointwise
        exact h7 _ _
      · blk_ext [row]
end Cert.In.Val
end
-- ==== Proof.InClaim.lean ====
module

public import proofs.«01_k».proof.Defs
public import proofs.«01_k».proof.Proof.InOut2
public import proofs.«01_k».proof.Proof.InGate
public import proofs.«01_k».proof.Proof.InPoolOut
public import proofs.«01_k».proof.Proof.Gen.ReferenceIdeal
public import proofs.«01_k».proof.Proof.Gen.ReferenceIdeal.Run

/-! # The prompt's in-projection: the claims about the reference program and about the pair -/

@[expose] public section

set_option maxRecDepth 16384

noncomputable section

open Idealize.ShloMosaic Idealize.SL.Sem Idealize.ShloMosaic.StableHlo

namespace Cert.Claims

open Cert.ReferenceIdeal.Read Cert.In.Val

/-- The reference runs, leaves its arguments as they were, and declares no semaphore. -/
theorem in_ref_frame : Cert.quiescent_ReferenceIdeal (hReferenceIdeal := Cert.ReferenceIdeal.Gen.facts) := fun m g _ =>
  (θ_run Cert.ReferenceIdeal.defs _ _).mono (fun r h => ⟨fun c => (h c).2.2.2.2.2.2.2.2, Idealize.ShloMosaic.sem_eq_zero_of_no_sems (by decide) r.2⟩)
    (Cert.ReferenceIdeal.Value.run m g)

/-- The kernel's eight results are the reference's. -/
theorem in_algebraic : Cert.algebraic_KernelIdeal_ReferenceIdeal (hKernelIdeal := Cert.KernelIdeal.Gen.facts)
    (hReferenceIdeal := Cert.ReferenceIdeal.Gen.facts) := by
  intro m g m' g' _ hag
  have agree : ∀ c : Dev Cert.KernelIdeal.nD, launchContents m' c (Proc.devRef .tc Cert.ReferenceIdeal.main_arg0) = A0 m c
      ∧ launchContents m' c (Proc.devRef .tc Cert.ReferenceIdeal.main_arg1) = A1 m c
      ∧ launchContents m' c (Proc.devRef .tc Cert.ReferenceIdeal.main_arg2) = A2 m c
      ∧ launchContents m' c (Proc.devRef .tc Cert.ReferenceIdeal.main_arg3) = A3 m c
      ∧ launchContents m' c (Proc.devRef .tc Cert.ReferenceIdeal.main_arg4) = A4 m c
      ∧ launchContents m' c (Proc.devRef .tc Cert.ReferenceIdeal.main_arg5) = A5 m c
      ∧ launchContents m' c (Proc.devRef .tc Cert.ReferenceIdeal.main_arg6) = A6 m c := hag
  refine ⟨fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    fun c => (Cert.KernelIdeal.Gen.dats m 0 c).arrAt 14 Cert.KernelIdeal.cfg0.N,
    fun c => (Cert.KernelIdeal.Gen.dats m 0 c).arrAt 15 Cert.KernelIdeal.cfg0.N,
    fun c => (Cert.KernelIdeal.Gen.dats m 0 c).arrAt 16 Cert.KernelIdeal.cfg0.N,
    (θ_run Cert.KernelIdeal.defs _ _).mono (fun _ h c => ⟨(h c).1,
        (h c).2.1,
        (h c).2.2.2.1,
        (h c).2.2.2.2.1,
        (h c).2.2.2.2.2.1,
        (h c).2.2.2.2.2.2.1,
        (h c).2.2.2.2.2.2.2.1,
        (h c).2.2.2.2.2.2.2.2.1,
        (h c).2.2.2.2.2.2.2.2.2⟩) (Cert.KernelIdeal.Value.run_blocks m g),
    (θ_run Cert.ReferenceIdeal.defs _ _).mono (fun _ h c => ⟨(h c).1.trans ?_,
        (h c).2.1.trans ?_,
        (h c).2.2.1.trans ?_,
        (h c).2.2.2.1.trans ?_,
        (h c).2.2.2.2.1.trans ?_,
        (h c).2.2.2.2.2.1.trans ?_,
        (h c).2.2.2.2.2.2.1.trans ?_,
        (h c).2.2.2.2.2.2.2.1.trans ?_,
        (h c).2.2.2.2.2.2.2.2⟩) (Cert.ReferenceIdeal.Value.run m' g')⟩
  · obtain ⟨h0, h1, h2, h3, h4, h5, h6⟩ := agree c
    rw [val_main_v186_eq, h0, h1, h2, h4]
    exact (Cert.In.Val.final8 m c).symm
  · obtain ⟨h0, h1, h2, h3, h4, h5, h6⟩ := agree c
    rw [val_main_v178_eq, h0, h1, h2]
    exact (Cert.In.Val.final9 m c).symm
  · obtain ⟨h0, h1, h2, h3, h4, h5, h6⟩ := agree c
    rw [val_main_v187_eq, h0, h1, h2, h4]
    exact (Cert.In.Val.final11 m c).symm
  · obtain ⟨h0, h1, h2, h3, h4, h5, h6⟩ := agree c
    rw [val_main_v188_eq, h0, h1, h2]
    exact (Cert.In.Val.final12 m c).symm
  · obtain ⟨h0, h1, h2, h3, h4, h5, h6⟩ := agree c
    rw [val_main_v189_eq, h0, h1, h2, h5, h6]
    exact (Cert.In.Val.final13 m c).symm
  · obtain ⟨h0, h1, h2, h3, h4, h5, h6⟩ := agree c
    rw [val_main_v196_eq, h0, h1, h2]
    exact (Cert.In.Val.final14 m c).symm
  · obtain ⟨h0, h1, h2, h3, h4, h5, h6⟩ := agree c
    rw [val_main_v203_eq, h0, h1, h2]
    exact (Cert.In.Val.final15 m c).symm
  · obtain ⟨h0, h1, h2, h3, h4, h5, h6⟩ := agree c
    rw [val_main_v204_eq, h0, h1, h2]
    exact (Cert.In.Val.final16 m c).symm

end Cert.Claims
end
-- ==== Proof.SamplePure.lean ====
module

public import proofs.«01_k».proof.Proof.Gen.SampleInIdeal.Skeleton
public import proofs.«01_k».proof.Proof.Gen.SampleInRefIdeal.Read
public import proofs.«01_k».proof.Proof.Math
public import Idealize.ShloMosaic.Lib.Pipeline.ValueKit.Geometry

/-! # The sample's in-projection: the kernel's values against the reference's rows -/

@[expose] public section

set_option maxRecDepth 16384

noncomputable section

open Idealize.ShloMosaic Idealize.ShloMosaic.TcCoe Idealize.SL.Sem
open Cert.SampleInIdeal Cert.SampleInIdeal.Gen Cert.SampleInRefIdeal.Read

namespace Cert.Smp.Pure

variable (a0 : FVec Ideal ⟨3, ![32, 1, 1024]⟩ .f32) (a1 : FVec Ideal ⟨4, ![1, 32, 15, 512]⟩ .f32)
  (a2 : FVec Ideal ⟨2, ![1, 1024]⟩ .f32) (a3 : FVec Ideal ⟨3, ![1, 1024, 4096]⟩ .f32) (a4 a5 : FVec Ideal ⟨2, ![1, 64]⟩ .f32)
  (a6 : FVec Ideal ⟨4, ![1, 4, 128, 128]⟩ .f32) (a7 : FVec Ideal ⟨2, ![1, 512]⟩ .f32)

/-- The normalised rows. -/
theorem xn_at (x : FVec Ideal S32x1024 .f32) (g : FVec Ideal S1x1024 .f32)
    (hx : ∀ (r : Fin 32) (k : Fin 1024), x (ix2 r k) = a0 (ix3 r 0 k)) (hg : g = a2) (r : Fin 32) (k : Fin 1024) :
    k0_pay5 (F := Ideal) x g (ix2 r k) = val_main_v16 (F := Ideal) a0 a2 (ix3 r 0 k) := by
  subst hg
  pointwise [k0_pay5, val_main_v16, val_main_v15, val_main_v14, val_main_v13, val_main_v12, val_main_v11, val_main_v10, val_main_v9, val_main_v8, val_main_v7, val_main_v6, val_main_v5, val_main_v4, val_main_v0, val_main_cst, val_main_cst_0, val_main_cst_1, hx]

/-- The keys before their norm, row by row. -/
theorem kr_at (x : FVec Ideal S32x1024 .f32) (g : FVec Ideal S1x1024 .f32) (w : FVec Ideal S512x1024 .bf16)
    (hx : ∀ (r : Fin 32) (k : Fin 1024), x (ix2 r k) = a0 (ix3 r 0 k)) (hg : g = a2)
    (hw : ∀ (q : Fin 512) (k : Fin 1024), w (ix2 q k) = a3 (ix3 0 k ⟨512 + q, by omega⟩)) (r : Fin 32) (q : Fin 512) :
    k0_pay6 (F := Ideal) x g w (ix2 r q) = val_main_v19 (F := Ideal) a0 a2 a3 (ix3 r 0 q) := by
  have h := xn_at a0 a2 x g hx hg
  unfold k0_pay6
  generalize k0_pay5 (F := Ideal) x g = X at h
  pointwise [val_main_v19, val_main_v17, val_main_v1, h, hw]

section
variable (X : FVec Ideal S32x1024 .bf16) (hX : ∀ (r : Fin 32) (k : Fin 1024), X (ix2 r k) = val_main_v16 (F := Ideal) a0 a2 (ix3 r 0 k))
include hX

/-- The values, row by row. -/
theorem v_at (w : FVec Ideal S512x1024 .bf16)
    (hw : ∀ (q : Fin 512) (k : Fin 1024), w (ix2 q k) = a3 (ix3 0 k ⟨1024 + q, by omega⟩)) (r : Fin 32) (q : Fin 512) :
    k0_pay20 (F := Ideal) X w (ix2 r q) = val_main_v177 (F := Ideal) a0 a2 a3 (ix2 r q) := by
  pointwise [k0_pay20, val_main_v177, val_main_v52, val_main_v20, val_main_v17, val_main_v1, hX, hw]

/-- The rest of the projection. -/
theorem z_at (w : FVec Ideal S1024x2560 .bf16)
    (hw : ∀ (k : Fin 1024) (q : Fin 2560), w (ix2 k q) = a3 (ix3 0 k ⟨1536 + q, by omega⟩)) (r : Fin 32) (q : Fin 2560) :
    k0_pay21 (F := Ideal) X w (ix2 r q) = val_main_v17 (F := Ideal) a0 a2 a3 (ix3 r 0 ⟨1536 + q, by omega⟩) := by
  pointwise [k0_pay21, val_main_v17, val_main_v1, hX, hw]

/-- Queries, keys and values before the norm, columns first. -/
theorem qkv_at (w : FVec Ideal S1536x1024 .bf16)
    (hw : ∀ (q : Fin 1536) (k : Fin 1024), w (ix2 q k) = a3 (ix3 0 k ⟨q, by omega⟩)) (p : Fin 3) (h : Fin 8) (d : Fin 64) (r : Fin 32) :
    k0_pay22 (F := Ideal) X w (ix4 p h d r) = val_main_v17 (F := Ideal) a0 a2 a3 (ix3 r 0 ⟨512 * p + (64 * h + d), by omega⟩) := by
  pointwise [k0_pay22, val_main_v17, val_main_v1, hX, hw]
  refine Finset.sum_congr rfl fun k _ => (mul_comm _ _).trans (congrArg₂ (fun x y : EReal => x * y) rfl (congrArg a3 (by blk_ext)))
end

section
variable (Y : FVec Ideal S3x8x64x32 .f32)
  (hY : ∀ (p : Fin 3) (h : Fin 8) (d : Fin 64) (r : Fin 32), Y (ix4 p h d r) = val_main_v17 (F := Ideal) a0 a2 a3 (ix3 r 0 ⟨512 * p + (64 * h + d), by omega⟩))
include hY

/-- The queries, columns first. -/
theorem q_at (T : FVec Ideal S8x64x32 .f32) (hT : ∀ (h : Fin 8) (d : Fin 64) (r : Fin 32), T (ix3 h d r) = Y (ix4 0 h d r))
    (g : FVec Ideal S64x1 .f32) (hg : ∀ d : Fin 64, g (ix2 d 0) = a4 (ix2 0 d)) (h : Fin 8) (d : Fin 64) (r : Fin 32) :
    k0_pay24 (F := Ideal) T g (ix4 0 h d r) = val_main_v37 (F := Ideal) a0 a2 a3 a4 (ix4 r 0 h d) := by
  have e : ∀ (h : Fin 8) (d : Fin 64) (r : Fin 32), T (ix3 h d r) = val_main_v24 (F := Ideal) a0 a2 a3 (ix4 r 0 h d) := by
    intro h d r
    rw [hT, hY]
    pointwise [val_main_v24, val_main_v18]
    exact congrArg _ (by blk_ext)
  pointwise [k0_pay24, val_main_v25, val_main_v26, val_main_v27, val_main_v28, val_main_v29, val_main_v30, val_main_v31, val_main_v32, val_main_v33, val_main_v34, val_main_v35, val_main_v36, val_main_v37, val_main_v2, val_main_cst_2, val_main_cst_3, val_main_cst_4, e, hg]

/-- The keys, columns first. -/
theorem k_at (g : FVec Ideal S64x1 .f32) (hg : ∀ d : Fin 64, g (ix2 d 0) = a5 (ix2 0 d)) (h : Fin 8) (d : Fin 64) (r : Fin 32) :
    k0_pay25 (F := Ideal) Y g (ix4 0 h d r) = val_main_v51 (F := Ideal) a0 a2 a3 a5 (ix4 r 0 h d) := by
  have e : ∀ (h : Fin 8) (d : Fin 64) (r : Fin 32), Y (ix4 1 h d r) = val_main_v38 (F := Ideal) a0 a2 a3 (ix4 r 0 h d) := by
    intro h d r
    rw [hY]
    pointwise [val_main_v38, val_main_v19]
    exact congrArg _ (by blk_ext)
  pointwise [k0_pay25, val_main_v39, val_main_v40, val_main_v41, val_main_v42, val_main_v43, val_main_v44, val_main_v45, val_main_v46, val_main_v47, val_main_v48, val_main_v49, val_main_v50, val_main_v51, val_main_v3, val_main_cst_5, val_main_cst_6, val_main_cst_7, e, hg]

/-- The values, columns first. -/
theorem vT_at (h : Fin 8) (d : Fin 64) (r : Fin 32) :
    k0_pay27 (F := Ideal) (k0_pay26 (F := Ideal) Y) (ix4 0 h d r) = val_main_v52 (F := Ideal) a0 a2 a3 (ix4 r 0 h d) := by
  pointwise [k0_pay27, k0_pay26, val_main_v52, val_main_v20, hY]
  exact congrArg _ (by blk_ext)
end

section
variable (Z : FVec Ideal S32x2560 .f32)
  (hZ : ∀ (r : Fin 32) (q : Fin 2560), Z (ix2 r q) = val_main_v17 (F := Ideal) a0 a2 a3 (ix3 r 0 ⟨1536 + q, by omega⟩))
include hZ

/-- The pooled branch's input. -/
theorem u_at (r : Fin 32) (q : Fin 512) :
    k0_pay28 (F := Ideal) Z (ix2 r q) = val_main_v21 (F := Ideal) a0 a2 a3 (ix3 r 0 q) := by
  pointwise [k0_pay28, val_main_v21, hZ]

/-- The first gate. -/
theorem ga_at (r : Fin 32) (q : Fin 1024) :
    k0_pay3 (F := Ideal) Z (ix2 r q) = val_main_v187 (F := Ideal) a0 a2 a3 (ix2 r q) := by
  pointwise [k0_pay3, val_main_v180, val_main_v181, val_main_v182, val_main_v183, val_main_v184, val_main_v185, val_main_v186, val_main_v187, val_main_cst_20, val_main_cst_21, val_main_v22, hZ]
  refine (Cert.Math.logistic _).trans (congrArg (fun x => Ideal.div 1 (1 + Ideal.exp (-x))) (congrArg _ (by blk_ext)))

/-- The second gate. -/
theorem gb_at (r : Fin 32) (q : Fin 1024) :
    k0_pay4 (F := Ideal) Z (ix2 r q) = val_main_v195 (F := Ideal) a0 a2 a3 (ix2 r q) := by
  pointwise [k0_pay4, val_main_v188, val_main_v189, val_main_v190, val_main_v191, val_main_v192, val_main_v193, val_main_v194, val_main_v195, val_main_cst_22, val_main_cst_23, val_main_v23, hZ]
  refine (Cert.Math.logistic _).trans (congrArg (fun x => Ideal.div 1 (1 + Ideal.exp (-x))) (congrArg _ (by blk_ext)))
end

section
variable (K : FVec Ideal S32x512 .f32) (hK : ∀ (r : Fin 32) (q : Fin 512), K (ix2 r q) = val_main_v19 (F := Ideal) a0 a2 a3 (ix3 r 0 q))
  (g : FVec Ideal S1x64 .f32) (hg : g = a5)
include hK hg

/-- The keys of head 2, row by row. -/
theorem k2_at (r : Fin 32) (d : Fin 64) :
    k0_pay11 (F := Ideal) K g (ix2 r d) = val_main_v51 (F := Ideal) a0 a2 a3 a5 (ix4 r 0 2 d) := by
  subst hg
  pointwise [k0_pay11, val_main_v39, val_main_v40, val_main_v41, val_main_v42, val_main_v43, val_main_v44, val_main_v45, val_main_v46, val_main_v47, val_main_v48, val_main_v49, val_main_v50, val_main_v51, val_main_v3, val_main_cst_5, val_main_cst_6, val_main_cst_7, val_main_v38, hK]

/-- The keys of head 3, row by row. -/
theorem k3_at (r : Fin 32) (d : Fin 64) :
    k0_pay12 (F := Ideal) K g (ix2 r d) = val_main_v51 (F := Ideal) a0 a2 a3 a5 (ix4 r 0 3 d) := by
  subst hg
  pointwise [k0_pay12, val_main_v39, val_main_v40, val_main_v41, val_main_v42, val_main_v43, val_main_v44, val_main_v45, val_main_v46, val_main_v47, val_main_v48, val_main_v49, val_main_v50, val_main_v51, val_main_v3, val_main_cst_5, val_main_cst_6, val_main_cst_7, val_main_v38, hK]

/-- The keys of head 4, row by row. -/
theorem k4_at (r : Fin 32) (d : Fin 64) :
    k0_pay13 (F := Ideal) K g (ix2 r d) = val_main_v51 (F := Ideal) a0 a2 a3 a5 (ix4 r 0 4 d) := by
  subst hg
  pointwise [k0_pay13, val_main_v39, val_main_v40, val_main_v41, val_main_v42, val_main_v43, val_main_v44, val_main_v45, val_main_v46, val_main_v47, val_main_v48, val_main_v49, val_main_v50, val_main_v51, val_main_v3, val_main_cst_5, val_main_cst_6, val_main_cst_7, val_main_v38, hK]

/-- The keys of head 5, row by row. -/
theorem k5_at (r : Fin 32) (d : Fin 64) :
    k0_pay14 (F := Ideal) K g (ix2 r d) = val_main_v51 (F := Ideal) a0 a2 a3 a5 (ix4 r 0 5 d) := by
  subst hg
  pointwise [k0_pay14, val_main_v39, val_main_v40, val_main_v41, val_main_v42, val_main_v43, val_main_v44, val_main_v45, val_main_v46, val_main_v47, val_main_v48, val_main_v49, val_main_v50, val_main_v51, val_main_v3, val_main_cst_5, val_main_cst_6, val_main_cst_7, val_main_v38, hK]

/-- The keys of head 6, row by row. -/
theorem k6_at (r : Fin 32) (d : Fin 64) :
    k0_pay18 (F := Ideal) (k0_pay15 (F := Ideal) K) g (k0_pay16 (F := Ideal) K) (k0_pay17 (F := Ideal)) (ix2 r d) = val_main_v51 (F := Ideal) a0 a2 a3 a5 (ix4 r 0 6 d) := by
  subst hg
  pointwise [k0_pay18, k0_pay15, k0_pay16, k0_pay17, val_main_v39, val_main_v40, val_main_v41, val_main_v42, val_main_v43, val_main_v44, val_main_v45, val_main_v46, val_main_v47, val_main_v48, val_main_v49, val_main_v50, val_main_v51, val_main_v3, val_main_cst_5, val_main_cst_6, val_main_cst_7, val_main_v38, hK]

/-- The keys of head 7, row by row. -/
theorem k7_at (r : Fin 32) (d : Fin 64) :
    k0_pay19 (F := Ideal) K g (ix2 r d) = val_main_v51 (F := Ideal) a0 a2 a3 a5 (ix4 r 0 7 d) := by
  subst hg
  pointwise [k0_pay19, val_main_v39, val_main_v40, val_main_v41, val_main_v42, val_main_v43, val_main_v44, val_main_v45, val_main_v46, val_main_v47, val_main_v48, val_main_v49, val_main_v50, val_main_v51, val_main_v3, val_main_cst_5, val_main_cst_6, val_main_cst_7, val_main_v38, hK]
end

section
variable (x : FVec Ideal S32x1024 .f32) (n : FVec Ideal S1x1024 .f32) (w : FVec Ideal S512x1024 .bf16)
  (hK : ∀ (r : Fin 32) (q : Fin 512), k0_pay6 (F := Ideal) x n w (ix2 r q) = val_main_v19 (F := Ideal) a0 a2 a3 (ix3 r 0 q))
  (g : FVec Ideal S1x64 .f32) (hg : g = a5)
include hK hg

/-- The keys of head 0, row by row. -/
theorem k0_at (r : Fin 32) (d : Fin 64) :
    k0_pay7 (F := Ideal) x n w g (ix2 r d) = val_main_v51 (F := Ideal) a0 a2 a3 a5 (ix4 r 0 0 d) := by
  subst hg
  unfold k0_pay7
  generalize k0_pay6 (F := Ideal) x n w = K at hK
  pointwise [val_main_v39, val_main_v40, val_main_v41, val_main_v42, val_main_v43, val_main_v44, val_main_v45, val_main_v46, val_main_v47, val_main_v48, val_main_v49, val_main_v50, val_main_v51, val_main_v3, val_main_cst_5, val_main_cst_6, val_main_cst_7, val_main_v38, hK]

/-- The keys of head 1, row by row. -/
theorem k1_at (r : Fin 32) (d : Fin 64) :
    k0_pay10 (F := Ideal) (k0_pay8 (F := Ideal) x n w) g (k0_pay9 (F := Ideal) x n w) (ix2 r d) = val_main_v51 (F := Ideal) a0 a2 a3 a5 (ix4 r 0 1 d) := by
  subst hg
  unfold k0_pay10 k0_pay9 k0_pay8
  generalize k0_pay6 (F := Ideal) x n w = K at hK
  pointwise [val_main_v39, val_main_v40, val_main_v41, val_main_v42, val_main_v43, val_main_v44, val_main_v45, val_main_v46, val_main_v47, val_main_v48, val_main_v49, val_main_v50, val_main_v51, val_main_v3, val_main_cst_5, val_main_cst_6, val_main_cst_7, val_main_v38, hK]
end

end Cert.Smp.Pure
end
-- ==== Proof.SamplePool.lean ====
module

public import proofs.«01_k».proof.Proof.Gen.SampleInIdeal.Skeleton
public import proofs.«01_k».proof.Proof.Gen.SampleInRefIdeal.Read
public import proofs.«01_k».proof.Proof.Math
public import Idealize.ShloMosaic.Lib.Pipeline.ValueKit.Geometry

/-! # The sample's in-projection: the pooled branch -/

@[expose] public section

set_option maxRecDepth 16384

noncomputable section

open Idealize.ShloMosaic Idealize.ShloMosaic.TcCoe Idealize.SL.Sem
open Cert.SampleInIdeal Cert.SampleInIdeal.Gen Cert.SampleInRefIdeal.Read

namespace Cert.Smp.Pure

variable (a0 : FVec Ideal ⟨3, ![32, 1, 1024]⟩ .f32) (a1 : FVec Ideal ⟨4, ![1, 32, 15, 512]⟩ .f32)
  (a2 : FVec Ideal ⟨2, ![1, 1024]⟩ .f32) (a3 : FVec Ideal ⟨3, ![1, 1024, 4096]⟩ .f32) (a4 a5 : FVec Ideal ⟨2, ![1, 64]⟩ .f32)
  (a6 : FVec Ideal ⟨4, ![1, 4, 128, 128]⟩ .f32) (a7 : FVec Ideal ⟨2, ![1, 512]⟩ .f32)

/-- The padded sequence's first 15 rows are the state's. -/
theorem old_at (r : Fin 32) (k : ℕ) (hk : k < 15) (q : Fin 512) :
    val_main_v56 (F := Ideal) a0 a1 a2 a3 (ix3 r ⟨k, by omega⟩ q) = a1 (ix4 0 r ⟨k, hk⟩ q) := by
  pointwise [val_main_v56, val_main_v53]
  rw [dif_pos hk]

/-- Its last row is the new one. -/
theorem new_at (r : Fin 32) (q : Fin 512) :
    val_main_v56 (F := Ideal) a0 a1 a2 a3 (ix3 r ⟨15, by omega⟩ q) = val_main_v21 (F := Ideal) a0 a2 a3 (ix3 r 0 q) := by
  pointwise [val_main_v56, val_main_v53]

/-- The reference's columns of group 0. -/
theorem cat0 (r : Fin 32) (q : Fin 128) :
    val_main_v156 (F := Ideal) a0 a1 a2 a3 (ix3 r 0 ⟨q, by omega⟩) = val_main_v72 (F := Ideal) a0 a1 a2 a3 (ix3 r 0 q) := by
  pointwise [val_main_v156]

/-- The reference's mean of 2 rows, less the new row. -/
theorem ref0 (r : Fin 32) (q : Fin 128) :
    val_main_v158 (F := Ideal) a0 a1 a2 a3 (ix3 r 0 ⟨q, by omega⟩)
      = Ideal.div (val_main_v21 (F := Ideal) a0 a2 a3 (ix3 r 0 ⟨q, by omega⟩) + a1 (ix4 0 r 14 ⟨q, by omega⟩)) (FloatOps.sitofp (F := Ideal) .f32 2#32)
        - val_main_v21 (F := Ideal) a0 a2 a3 (ix3 r 0 ⟨q, by omega⟩) := by
  have ho := old_at a0 a1 a2 a3 r
  have hn := new_at a0 a1 a2 a3 r
  pointwise [val_main_v158, val_main_v157]
  rw [cat0]
  pointwise [val_main_v60, val_main_v61, val_main_v62, val_main_v63, val_main_v64, val_main_v65, val_main_v66, val_main_v67, val_main_v68, val_main_v69, val_main_v70, val_main_v71, val_main_v72, val_main_cst_8, val_main_c_9, val_main_c_10, val_main_v57, val_main_v58, val_main_v59, val_main_c]
  rw [show IntOp.minsi 2#32 (IntOp.addi (IntOp.addi 16384#32 0#32) 1#32) = 2#32 by decide]
  exact congrArg₂ (fun x y : EReal => x - y) (congrArg (fun x => Ideal.div x _) (congrArg₂ (fun x y : EReal => x + y) (hn _) (ho 14 (by omega) _))) (hn _)

/-- Group 0 of the columns: the linear map of the differences, scaled. -/
theorem y0_at (Z : FVec Ideal S32x2560 .f32) (h1 : FVec Ideal S1x32x128 .f32)
    (W : FVec Ideal S1x128x128 .bf16) (S : FVec Ideal S1x128 .f32)
    (hU : ∀ (r : Fin 32) (q : Fin 512), k0_pay28 (F := Ideal) Z (ix2 r q) = val_main_v21 (F := Ideal) a0 a2 a3 (ix3 r 0 q))
    (e1 : ∀ (r : Fin 32) (q : Fin 128), h1 (ix3 0 r q) = a1 (ix4 0 r 14 ⟨q, by omega⟩))
    (hW : ∀ k q : Fin 128, W (ix3 0 k q) = a6 (ix4 0 0 k q))
    (hS : ∀ q : Fin 128, S (ix2 0 q) = a7 (ix2 0 ⟨q, by omega⟩)) (r : Fin 32) (q : Fin 128) :
    k0_pay29 (F := Ideal) Z h1 W S (ix2 r q) = val_main_v179 (F := Ideal) a0 a1 a2 a3 a6 a7 (ix2 r ⟨q, by omega⟩) := by
  have hR := ref0 a0 a1 a2 a3
  unfold k0_pay29
  generalize k0_pay28 (F := Ideal) Z = U at hU
  pointwise [val_main_v179, val_main_v178, val_main_v165, val_main_v164, val_main_v163, val_main_v162, val_main_v161, val_main_v160, val_main_v159, val_main_v55, val_main_v54, hU, hW, hS, e1]
  rw [Cert.Math.len2_val]
  refine congrArg (fun x : EReal => x * _) (Finset.sum_congr rfl fun k _ => ?_)
  exact (mul_comm _ _).trans (congrArg₂ (fun x y : EReal => x * y) (congrArg a6 (by blk_ext)) ((hR r k).symm.trans (congrArg (val_main_v158 (F := Ideal) a0 a1 a2 a3) (by blk_ext))))

/-- The reference's columns of group 1. -/
theorem cat1 (r : Fin 32) (q : Fin 128) :
    val_main_v156 (F := Ideal) a0 a1 a2 a3 (ix3 r 0 ⟨128 + q, by omega⟩) = val_main_v89 (F := Ideal) a0 a1 a2 a3 (ix3 r 0 q) := by
  pointwise [val_main_v156]

/-- The reference's mean of 4 rows, less the new row. -/
theorem ref1 (r : Fin 32) (q : Fin 128) :
    val_main_v158 (F := Ideal) a0 a1 a2 a3 (ix3 r 0 ⟨128 + q, by omega⟩)
      = Ideal.div (val_main_v21 (F := Ideal) a0 a2 a3 (ix3 r 0 ⟨128 + q, by omega⟩) + a1 (ix4 0 r 14 ⟨128 + q, by omega⟩) + a1 (ix4 0 r 13 ⟨128 + q, by omega⟩) + a1 (ix4 0 r 12 ⟨128 + q, by omega⟩)) (FloatOps.sitofp (F := Ideal) .f32 4#32)
        - val_main_v21 (F := Ideal) a0 a2 a3 (ix3 r 0 ⟨128 + q, by omega⟩) := by
  have ho := old_at a0 a1 a2 a3 r
  have hn := new_at a0 a1 a2 a3 r
  pointwise [val_main_v158, val_main_v157]
  rw [cat1]
  pointwise [val_main_v73, val_main_v74, val_main_v75, val_main_v76, val_main_v77, val_main_v78, val_main_v79, val_main_v80, val_main_v81, val_main_v82, val_main_v83, val_main_v84, val_main_v85, val_main_v86, val_main_v87, val_main_v88, val_main_v89, val_main_cst_11, val_main_c_12, val_main_c_13, val_main_v57, val_main_v58, val_main_v59, val_main_c]
  rw [show IntOp.minsi 4#32 (IntOp.addi (IntOp.addi 16384#32 0#32) 1#32) = 4#32 by decide]
  exact congrArg₂ (fun x y : EReal => x - y) (congrArg (fun x => Ideal.div x _) (congrArg₂ (fun x y : EReal => x + y) (congrArg₂ (fun x y : EReal => x + y) (congrArg₂ (fun x y : EReal => x + y) (hn _) (ho 14 (by omega) _)) (ho 13 (by omega) _)) (ho 12 (by omega) _))) (hn _)

/-- Group 1 of the columns: the linear map of the differences, scaled. -/
theorem y1_at (Z : FVec Ideal S32x2560 .f32) (h1 h2 h3 : FVec Ideal S1x32x128 .f32)
    (W : FVec Ideal S1x128x128 .bf16) (S : FVec Ideal S1x128 .f32)
    (hU : ∀ (r : Fin 32) (q : Fin 512), k0_pay28 (F := Ideal) Z (ix2 r q) = val_main_v21 (F := Ideal) a0 a2 a3 (ix3 r 0 q))
    (e1 : ∀ (r : Fin 32) (q : Fin 128), h1 (ix3 0 r q) = a1 (ix4 0 r 14 ⟨128 + q, by omega⟩))
    (e2 : ∀ (r : Fin 32) (q : Fin 128), h2 (ix3 0 r q) = a1 (ix4 0 r 13 ⟨128 + q, by omega⟩))
    (e3 : ∀ (r : Fin 32) (q : Fin 128), h3 (ix3 0 r q) = a1 (ix4 0 r 12 ⟨128 + q, by omega⟩))
    (hW : ∀ k q : Fin 128, W (ix3 0 k q) = a6 (ix4 0 1 k q))
    (hS : ∀ q : Fin 128, S (ix2 0 q) = a7 (ix2 0 ⟨128 + q, by omega⟩)) (r : Fin 32) (q : Fin 128) :
    k0_pay31 (F := Ideal) (k0_pay30 (F := Ideal) Z h1 h2 h3) W S (ix2 r q) = val_main_v179 (F := Ideal) a0 a1 a2 a3 a6 a7 (ix2 r ⟨128 + q, by omega⟩) := by
  have hR := ref1 a0 a1 a2 a3
  unfold k0_pay31 k0_pay30
  generalize k0_pay28 (F := Ideal) Z = U at hU
  pointwise [val_main_v179, val_main_v178, val_main_v165, val_main_v164, val_main_v163, val_main_v162, val_main_v161, val_main_v160, val_main_v159, val_main_v55, val_main_v54, hU, hW, hS, e1, e2, e3]
  rw [Cert.Math.len4_val]
  refine congrArg (fun x : EReal => x * _) (Finset.sum_congr rfl fun k _ => ?_)
  exact (mul_comm _ _).trans (congrArg₂ (fun x y : EReal => x * y) (congrArg a6 (by blk_ext)) ((hR r k).symm.trans (congrArg (val_main_v158 (F := Ideal) a0 a1 a2 a3) (by blk_ext))))

/-- The reference's columns of group 2. -/
theorem cat2 (r : Fin 32) (q : Fin 128) :
    val_main_v156 (F := Ideal) a0 a1 a2 a3 (ix3 r 0 ⟨256 + q, by omega⟩) = val_main_v114 (F := Ideal) a0 a1 a2 a3 (ix3 r 0 q) := by
  pointwise [val_main_v156]
  rw [dif_neg (by omega), dif_neg (by omega), dif_pos (by omega)]
  exact congrArg _ (by blk_ext)

/-- The reference's mean of 8 rows, less the new row. -/
theorem ref2 (r : Fin 32) (q : Fin 128) :
    val_main_v158 (F := Ideal) a0 a1 a2 a3 (ix3 r 0 ⟨256 + q, by omega⟩)
      = Ideal.div (val_main_v21 (F := Ideal) a0 a2 a3 (ix3 r 0 ⟨256 + q, by omega⟩) + a1 (ix4 0 r 14 ⟨256 + q, by omega⟩) + a1 (ix4 0 r 13 ⟨256 + q, by omega⟩) + a1 (ix4 0 r 12 ⟨256 + q, by omega⟩) + a1 (ix4 0 r 11 ⟨256 + q, by omega⟩) + a1 (ix4 0 r 10 ⟨256 + q, by omega⟩) + a1 (ix4 0 r 9 ⟨256 + q, by omega⟩) + a1 (ix4 0 r 8 ⟨256 + q, by omega⟩)) (FloatOps.sitofp (F := Ideal) .f32 8#32)
        - val_main_v21 (F := Ideal) a0 a2 a3 (ix3 r 0 ⟨256 + q, by omega⟩) := by
  have ho := old_at a0 a1 a2 a3 r
  have hn := new_at a0 a1 a2 a3 r
  pointwise [val_main_v158, val_main_v157]
  rw [cat2]
  pointwise [val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_cst_14, val_main_c_15, val_main_c_16, val_main_v57, val_main_v58, val_main_v59, val_main_c]
  rw [show IntOp.minsi 8#32 (IntOp.addi (IntOp.addi 16384#32 0#32) 1#32) = 8#32 by decide]
  exact congrArg₂ (fun x y : EReal => x - y) (congrArg (fun x => Ideal.div x _) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (hn _) (ho 14 (by omega) _)) (ho 13 (by omega) _)) (ho 12 (by omega) _)) (ho 11 (by omega) _)) (ho 10 (by omega) _)) (ho 9 (by omega) _)) (ho 8 (by omega) _))) (hn _)

/-- Group 2 of the columns: the linear map of the differences, scaled. -/
theorem y2_at (U : FVec Ideal S32x512 .f32) (h1 h2 h3 h4 h5 h6 h7 : FVec Ideal S1x32x128 .f32)
    (W : FVec Ideal S1x128x128 .bf16) (S : FVec Ideal S1x128 .f32)
    (hU : ∀ (r : Fin 32) (q : Fin 512), U (ix2 r q) = val_main_v21 (F := Ideal) a0 a2 a3 (ix3 r 0 q))
    (e1 : ∀ (r : Fin 32) (q : Fin 128), h1 (ix3 0 r q) = a1 (ix4 0 r 14 ⟨256 + q, by omega⟩))
    (e2 : ∀ (r : Fin 32) (q : Fin 128), h2 (ix3 0 r q) = a1 (ix4 0 r 13 ⟨256 + q, by omega⟩))
    (e3 : ∀ (r : Fin 32) (q : Fin 128), h3 (ix3 0 r q) = a1 (ix4 0 r 12 ⟨256 + q, by omega⟩))
    (e4 : ∀ (r : Fin 32) (q : Fin 128), h4 (ix3 0 r q) = a1 (ix4 0 r 11 ⟨256 + q, by omega⟩))
    (e5 : ∀ (r : Fin 32) (q : Fin 128), h5 (ix3 0 r q) = a1 (ix4 0 r 10 ⟨256 + q, by omega⟩))
    (e6 : ∀ (r : Fin 32) (q : Fin 128), h6 (ix3 0 r q) = a1 (ix4 0 r 9 ⟨256 + q, by omega⟩))
    (e7 : ∀ (r : Fin 32) (q : Fin 128), h7 (ix3 0 r q) = a1 (ix4 0 r 8 ⟨256 + q, by omega⟩))
    (hW : ∀ k q : Fin 128, W (ix3 0 k q) = a6 (ix4 0 2 k q))
    (hS : ∀ q : Fin 128, S (ix2 0 q) = a7 (ix2 0 ⟨256 + q, by omega⟩)) (r : Fin 32) (q : Fin 128) :
    k0_pay34 (F := Ideal) (k0_pay32 (F := Ideal) U) (k0_pay33 (F := Ideal) U h1 h2 h3 h4 h5 h6 h7) W S (ix2 r q) = val_main_v179 (F := Ideal) a0 a1 a2 a3 a6 a7 (ix2 r ⟨256 + q, by omega⟩) := by
  have hR := ref2 a0 a1 a2 a3
  pointwise [k0_pay34, k0_pay33, k0_pay32, val_main_v179, val_main_v178, val_main_v165, val_main_v164, val_main_v163, val_main_v162, val_main_v161, val_main_v160, val_main_v159, val_main_v55, val_main_v54, hU, hW, hS, e1, e2, e3, e4, e5, e6, e7]
  rw [Cert.Math.len8_val]
  refine congrArg (fun x : EReal => x * _) (Finset.sum_congr rfl fun k _ => ?_)
  exact (mul_comm _ _).trans (congrArg₂ (fun x y : EReal => x * y) (congrArg a6 (by blk_ext)) ((hR r k).symm.trans (congrArg (val_main_v158 (F := Ideal) a0 a1 a2 a3) (by blk_ext))))

/-- The reference's columns of group 3. -/
theorem cat3 (r : Fin 32) (q : Fin 128) :
    val_main_v156 (F := Ideal) a0 a1 a2 a3 (ix3 r 0 ⟨384 + q, by omega⟩) = val_main_v155 (F := Ideal) a0 a1 a2 a3 (ix3 r 0 q) := by
  pointwise [val_main_v156]
  rw [dif_neg (by omega), dif_neg (by omega), dif_neg (by omega)]
  exact congrArg _ (by blk_ext)

/-- The reference's mean of 16 rows, less the new row. -/
theorem ref3 (r : Fin 32) (q : Fin 128) :
    val_main_v158 (F := Ideal) a0 a1 a2 a3 (ix3 r 0 ⟨384 + q, by omega⟩)
      = Ideal.div (val_main_v21 (F := Ideal) a0 a2 a3 (ix3 r 0 ⟨384 + q, by omega⟩) + a1 (ix4 0 r 14 ⟨384 + q, by omega⟩) + a1 (ix4 0 r 13 ⟨384 + q, by omega⟩) + a1 (ix4 0 r 12 ⟨384 + q, by omega⟩) + a1 (ix4 0 r 11 ⟨384 + q, by omega⟩) + a1 (ix4 0 r 10 ⟨384 + q, by omega⟩) + a1 (ix4 0 r 9 ⟨384 + q, by omega⟩) + a1 (ix4 0 r 8 ⟨384 + q, by omega⟩) + a1 (ix4 0 r 7 ⟨384 + q, by omega⟩) + a1 (ix4 0 r 6 ⟨384 + q, by omega⟩) + a1 (ix4 0 r 5 ⟨384 + q, by omega⟩) + a1 (ix4 0 r 4 ⟨384 + q, by omega⟩) + a1 (ix4 0 r 3 ⟨384 + q, by omega⟩) + a1 (ix4 0 r 2 ⟨384 + q, by omega⟩) + a1 (ix4 0 r 1 ⟨384 + q, by omega⟩) + a1 (ix4 0 r 0 ⟨384 + q, by omega⟩)) (FloatOps.sitofp (F := Ideal) .f32 16#32)
        - val_main_v21 (F := Ideal) a0 a2 a3 (ix3 r 0 ⟨384 + q, by omega⟩) := by
  have ho := old_at a0 a1 a2 a3 r
  have hn := new_at a0 a1 a2 a3 r
  pointwise [val_main_v158, val_main_v157]
  rw [cat3]
  pointwise [val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_cst_17, val_main_c_18, val_main_c_19, val_main_v57, val_main_v58, val_main_v59, val_main_c]
  rw [show IntOp.minsi 16#32 (IntOp.addi (IntOp.addi 16384#32 0#32) 1#32) = 16#32 by decide]
  exact congrArg₂ (fun x y : EReal => x - y) (congrArg (fun x => Ideal.div x _) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (hn _) (ho 14 (by omega) _)) (ho 13 (by omega) _)) (ho 12 (by omega) _)) (ho 11 (by omega) _)) (ho 10 (by omega) _)) (ho 9 (by omega) _)) (ho 8 (by omega) _)) (ho 7 (by omega) _)) (ho 6 (by omega) _)) (ho 5 (by omega) _)) (ho 4 (by omega) _)) (ho 3 (by omega) _)) (ho 2 (by omega) _)) (ho 1 (by omega) _)) (ho 0 (by omega) _))) (hn _)

/-- Group 3 of the columns: the linear map of the differences, scaled. -/
theorem y3_at (U : FVec Ideal S32x512 .f32) (h1 h2 h3 h4 h5 h6 h7 h8 h9 h10 h11 h12 h13 h14 h15 : FVec Ideal S1x32x128 .f32)
    (W : FVec Ideal S1x128x128 .bf16) (S : FVec Ideal S1x128 .f32)
    (hU : ∀ (r : Fin 32) (q : Fin 512), U (ix2 r q) = val_main_v21 (F := Ideal) a0 a2 a3 (ix3 r 0 q))
    (e1 : ∀ (r : Fin 32) (q : Fin 128), h1 (ix3 0 r q) = a1 (ix4 0 r 14 ⟨384 + q, by omega⟩))
    (e2 : ∀ (r : Fin 32) (q : Fin 128), h2 (ix3 0 r q) = a1 (ix4 0 r 13 ⟨384 + q, by omega⟩))
    (e3 : ∀ (r : Fin 32) (q : Fin 128), h3 (ix3 0 r q) = a1 (ix4 0 r 12 ⟨384 + q, by omega⟩))
    (e4 : ∀ (r : Fin 32) (q : Fin 128), h4 (ix3 0 r q) = a1 (ix4 0 r 11 ⟨384 + q, by omega⟩))
    (e5 : ∀ (r : Fin 32) (q : Fin 128), h5 (ix3 0 r q) = a1 (ix4 0 r 10 ⟨384 + q, by omega⟩))
    (e6 : ∀ (r : Fin 32) (q : Fin 128), h6 (ix3 0 r q) = a1 (ix4 0 r 9 ⟨384 + q, by omega⟩))
    (e7 : ∀ (r : Fin 32) (q : Fin 128), h7 (ix3 0 r q) = a1 (ix4 0 r 8 ⟨384 + q, by omega⟩))
    (e8 : ∀ (r : Fin 32) (q : Fin 128), h8 (ix3 0 r q) = a1 (ix4 0 r 7 ⟨384 + q, by omega⟩))
    (e9 : ∀ (r : Fin 32) (q : Fin 128), h9 (ix3 0 r q) = a1 (ix4 0 r 6 ⟨384 + q, by omega⟩))
    (e10 : ∀ (r : Fin 32) (q : Fin 128), h10 (ix3 0 r q) = a1 (ix4 0 r 5 ⟨384 + q, by omega⟩))
    (e11 : ∀ (r : Fin 32) (q : Fin 128), h11 (ix3 0 r q) = a1 (ix4 0 r 4 ⟨384 + q, by omega⟩))
    (e12 : ∀ (r : Fin 32) (q : Fin 128), h12 (ix3 0 r q) = a1 (ix4 0 r 3 ⟨384 + q, by omega⟩))
    (e13 : ∀ (r : Fin 32) (q : Fin 128), h13 (ix3 0 r q) = a1 (ix4 0 r 2 ⟨384 + q, by omega⟩))
    (e14 : ∀ (r : Fin 32) (q : Fin 128), h14 (ix3 0 r q) = a1 (ix4 0 r 1 ⟨384 + q, by omega⟩))
    (e15 : ∀ (r : Fin 32) (q : Fin 128), h15 (ix3 0 r q) = a1 (ix4 0 r 0 ⟨384 + q, by omega⟩))
    (hW : ∀ k q : Fin 128, W (ix3 0 k q) = a6 (ix4 0 3 k q))
    (hS : ∀ q : Fin 128, S (ix2 0 q) = a7 (ix2 0 ⟨384 + q, by omega⟩)) (r : Fin 32) (q : Fin 128) :
    k0_pay38 (F := Ideal) (k0_pay37 (F := Ideal) (k0_pay35 (F := Ideal) U) (k0_pay36 (F := Ideal) U h1 h2 h3 h4 h5 h6) h7 h8 h9 h10 h11 h12 h13 h14 h15) W S (ix2 r q) = val_main_v179 (F := Ideal) a0 a1 a2 a3 a6 a7 (ix2 r ⟨384 + q, by omega⟩) := by
  have hR := ref3 a0 a1 a2 a3
  pointwise [k0_pay38, k0_pay37, k0_pay36, k0_pay35, val_main_v179, val_main_v178, val_main_v165, val_main_v164, val_main_v163, val_main_v162, val_main_v161, val_main_v160, val_main_v159, val_main_v55, val_main_v54, hU, hW, hS, e1, e2, e3, e4, e5, e6, e7, e8, e9, e10, e11, e12, e13, e14, e15]
  rw [Cert.Math.len16_val]
  refine congrArg (fun x : EReal => x * _) (Finset.sum_congr rfl fun k _ => ?_)
  exact (mul_comm _ _).trans (congrArg₂ (fun x y : EReal => x * y) (congrArg a6 (by blk_ext)) ((hR r k).symm.trans (congrArg (val_main_v158 (F := Ideal) a0 a1 a2 a3) (by blk_ext))))

end Cert.Smp.Pure
end
-- ==== Proof.SampleValue.lean ====
module

public import proofs.«01_k».proof.Proof.SamplePure
public import proofs.«01_k».proof.Proof.SamplePool
public import proofs.«01_k».proof.Proof.Gen.SampleInIdeal.Value
public import Idealize.ShloMosaic.Lib.Pipeline.ValueKit

/-! # The sample's in-projection: the blocks that the call reads, and the reference's layouts -/

@[expose] public section

set_option maxRecDepth 16384

noncomputable section

open Idealize.ShloMosaic Idealize.ShloMosaic.TcCoe Idealize.SL.Sem
open Idealize.ShloMosaic.Pipeline (Dat)
open Cert.SampleInIdeal Cert.SampleInIdeal.Gen Cert.SampleInRefIdeal.Read Cert.Smp.Pure

namespace Cert.Smp.Val

variable (m : (ℓ : Loc nD τ sig) → Buf (Elt Ideal) ℓ)

/-- The single point reads and writes whole arrays. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0, 0] ∧ win0_8.index t = ![0, 0, 0] ∧ win0_9.index t = ![0, 0] ∧ win0_10.index t = ![0, 0]
    ∧ win0_11.index t = ![0, 0] ∧ win0_12.index t = ![0, 0, 0, 0] ∧ win0_13.index t = ![0, 0] ∧ win0_14.index t = ![0, 0]
    ∧ win0_15.index t = ![0, 0] ∧ win0_16.index t = ![0, 0, 0] :=
  (by decide +kernel : ∀ t : Fin grid0.N, _)

/-- Window 0's block: the rows. -/
theorem b0 (c : Dev nD) (t : Fin cfg0.N) (r : Fin 32) (k : Fin 1024) :
    @Eq EReal (iblk m c 0 t (ix2 r k)) (m ((c : Thread nD τ).loc main_arg0) (ix3 r 0 k)) := by
  blk_simp [iblk, idx t]
  entry_read
  pointwise
  try blk_ext [idx t]

/-- Window 1's block: the scale of the rows. -/
theorem b1 (c : Dev nD) (t : Fin cfg0.N) (z : Fin 1) (k : Fin 1024) :
    @Eq EReal (iblk m c 1 t (ix2 z k)) (m ((c : Thread nD τ).loc main_arg2) (ix2 z k)) := by
  blk_ext [iblk, V, idx t]

/-- Window 2's block: the weights of queries, keys and values, columns first. -/
theorem b2 (c : Dev nD) (t : Fin cfg0.N) (q : Fin 1536) (k : Fin 1024) :
    @Eq EReal (iblk m c 2 t (ix2 q k)) (m ((c : Thread nD τ).loc main_arg3) (ix3 0 k ⟨q, by omega⟩)) := by
  blk_simp [iblk, idx t]
  entry_read
  pointwise
  try blk_ext [idx t]

/-- Window 3's block: the other weights. -/
theorem b3 (c : Dev nD) (t : Fin cfg0.N) (k : Fin 1024) (q : Fin 2560) :
    @Eq EReal (iblk m c 3 t (ix2 k q)) (m ((c : Thread nD τ).loc main_arg3) (ix3 0 k ⟨1536 + q, by omega⟩)) := by
  blk_simp [iblk, idx t]
  entry_read
  pointwise
  try blk_ext [idx t]

/-- Window 4's block: the scale of the keys, as a row. -/
theorem b4 (c : Dev nD) (t : Fin cfg0.N) (z : Fin 1) (d : Fin 64) :
    @Eq EReal (iblk m c 4 t (ix2 z d)) (m ((c : Thread nD τ).loc main_arg5) (ix2 z d)) := by
  blk_ext [iblk, V, idx t]

/-- Window 5's block: the scale of the queries, as a column. -/
theorem b5 (c : Dev nD) (t : Fin cfg0.N) (d : Fin 64) (z : Fin 1) :
    @Eq EReal (iblk m c 5 t (ix2 d z)) (m ((c : Thread nD τ).loc main_arg4) (ix2 z d)) := by
  blk_simp [iblk, idx t]
  entry_read
  pointwise
  try blk_ext [idx t]

/-- Window 6's block: the scale of the keys, as a column. -/
theorem b6 (c : Dev nD) (t : Fin cfg0.N) (d : Fin 64) (z : Fin 1) :
    @Eq EReal (iblk m c 6 t (ix2 d z)) (m ((c : Thread nD τ).loc main_arg5) (ix2 z d)) := by
  blk_simp [iblk, idx t]
  entry_read
  pointwise
  try blk_ext [idx t]

/-- Window 7's block: the state's rows, newest last. -/
theorem b7 (c : Dev nD) (t : Fin cfg0.N) (k : Fin 15) (r : Fin 32) (q : Fin 512) :
    @Eq EReal (iblk m c 7 t (ix3 k r q)) (m ((c : Thread nD τ).loc main_arg1) (ix4 0 r k q)) := by
  blk_simp [iblk, idx t]
  entry_read
  pointwise
  try blk_ext [idx t]

/-- Window 8's block: the four groups' weights. -/
theorem b8 (c : Dev nD) (t : Fin cfg0.N) (g : Fin 4) (q k : Fin 128) :
    @Eq EReal (iblk m c 8 t (ix3 g q k)) (m ((c : Thread nD τ).loc main_arg6) (ix4 0 g q k)) := by
  blk_simp [iblk, idx t]
  entry_read
  pointwise
  try blk_ext [idx t]

/-- Window 9's block: the scale of the pooled branch. -/
theorem b9 (c : Dev nD) (t : Fin cfg0.N) (z : Fin 1) (k : Fin 512) :
    @Eq EReal (iblk m c 9 t (ix2 z k)) (m ((c : Thread nD τ).loc main_arg7) (ix2 z k)) := by
  blk_ext [iblk, V, idx t]

/-- Argument 0 as an array. -/
abbrev A0 (c : Dev nD) : FVec Ideal ⟨3, ![32, 1, 1024]⟩ .f32 := m ((c : Thread nD τ).loc main_arg0)
/-- Argument 1 as an array. -/
abbrev A1 (c : Dev nD) : FVec Ideal ⟨4, ![1, 32, 15, 512]⟩ .f32 := m ((c : Thread nD τ).loc main_arg1)
/-- Argument 2 as an array. -/
abbrev A2 (c : Dev nD) : FVec Ideal ⟨2, ![1, 1024]⟩ .f32 := m ((c : Thread nD τ).loc main_arg2)
/-- Argument 3 as an array. -/
abbrev A3 (c : Dev nD) : FVec Ideal ⟨3, ![1, 1024, 4096]⟩ .f32 := m ((c : Thread nD τ).loc main_arg3)
/-- Argument 4 as an array. -/
abbrev A4 (c : Dev nD) : FVec Ideal ⟨2, ![1, 64]⟩ .f32 := m ((c : Thread nD τ).loc main_arg4)
/-- Argument 5 as an array. -/
abbrev A5 (c : Dev nD) : FVec Ideal ⟨2, ![1, 64]⟩ .f32 := m ((c : Thread nD τ).loc main_arg5)
/-- Argument 6 as an array. -/
abbrev A6 (c : Dev nD) : FVec Ideal ⟨4, ![1, 4, 128, 128]⟩ .f32 := m ((c : Thread nD τ).loc main_arg6)
/-- Argument 7 as an array. -/
abbrev A7 (c : Dev nD) : FVec Ideal ⟨2, ![1, 512]⟩ .f32 := m ((c : Thread nD τ).loc main_arg7)

end Cert.Smp.Val

namespace Cert.Smp.Pure

variable (a0 : FVec Ideal ⟨3, ![32, 1, 1024]⟩ .f32) (a1 : FVec Ideal ⟨4, ![1, 32, 15, 512]⟩ .f32)
  (a2 : FVec Ideal ⟨2, ![1, 1024]⟩ .f32) (a3 : FVec Ideal ⟨3, ![1, 1024, 4096]⟩ .f32) (a4 a5 : FVec Ideal ⟨2, ![1, 64]⟩ .f32)

/-- The keys' result, head by head. -/
theorem rows_key (r : Fin 32) (h : Fin 8) (d : Fin 64) :
    val_main_v51 (F := Ideal) a0 a2 a3 a5 (ix4 r 0 h d) = val_main_v176 (F := Ideal) a0 a2 a3 a5 (ix2 r ⟨64 * h + d, by omega⟩) := by
  pointwise [val_main_v176]

/-- The joined result's first part is the queries, columns first. -/
theorem cat_q (h : Fin 8) (d : Fin 64) (r : Fin 32) :
    val_main_v37 (F := Ideal) a0 a2 a3 a4 (ix4 r 0 h d) = val_main_v175 (F := Ideal) a0 a2 a3 a4 a5 (ix4 0 h d r) := by
  pointwise [val_main_v175, val_main_v172, val_main_v167, val_main_v166]

/-- Its second part is the keys. -/
theorem cat_k (h : Fin 8) (d : Fin 64) (r : Fin 32) :
    val_main_v51 (F := Ideal) a0 a2 a3 a5 (ix4 r 0 h d) = val_main_v175 (F := Ideal) a0 a2 a3 a4 a5 (ix4 1 h d r) := by
  pointwise [val_main_v175, val_main_v173, val_main_v169, val_main_v168]

/-- Its third part is the values. -/
theorem cat_v (h : Fin 8) (d : Fin 64) (r : Fin 32) :
    val_main_v52 (F := Ideal) a0 a2 a3 (ix4 r 0 h d) = val_main_v175 (F := Ideal) a0 a2 a3 a4 a5 (ix4 2 h d r) := by
  pointwise [val_main_v175, val_main_v174, val_main_v171, val_main_v170]

/-- The history that is kept: the state's rows but the oldest, … -/
theorem hist_old (k : Fin 15) (r : Fin 32) (q : Fin 512) (hk : (k : ℕ) < 14) :
    a1 (ix4 0 r ⟨k + 1, by omega⟩ q) = val_main_v197 (F := Ideal) a0 a1 a2 a3 (ix3 k r q) := by
  pointwise [val_main_v197, val_main_v196]
  refine (old_at a0 a1 a2 a3 r (k + 1) (by omega) q).symm.trans (congrArg _ (by blk_ext))

/-- … and the new row. -/
theorem hist_new (r : Fin 32) (q : Fin 512) :
    val_main_v21 (F := Ideal) a0 a2 a3 (ix3 r 0 q) = val_main_v197 (F := Ideal) a0 a1 a2 a3 (ix3 14 r q) := by
  pointwise [val_main_v197, val_main_v196]
  exact (new_at a0 a1 a2 a3 r q).symm

end Cert.Smp.Pure
end
-- ==== Proof.SampleOut.lean ====
module

public import proofs.«01_k».proof.Proof.SampleValue

/-! # The sample's in-projection: the result arrays -/

@[expose] public section

set_option maxRecDepth 16384

noncomputable section

open Idealize.ShloMosaic Idealize.ShloMosaic.TcCoe Idealize.SL.Sem
open Idealize.ShloMosaic.Pipeline (Dat)
open Cert.SampleInIdeal Cert.SampleInIdeal.Gen Cert.SampleInRefIdeal.Read Cert.Smp.Pure

namespace Cert.Smp.Val

variable (m : (ℓ : Loc nD τ sig) → Buf (Elt Ideal) ℓ)

/-- The normalised rows. -/
theorem xn (c : Dev nD) (t : Fin cfg0.N) (r : Fin 32) (k : Fin 1024) :
    k0_pay55 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k)
      = val_main_v16 (F := Ideal) (A0 m c) (A2 m c) (ix3 r 0 k) := by
  unfold k0_pay55
  refine xn_at _ _ _ _ (fun r k => ?_) ?_ r k
  · pointwise; exact b0 m c t r k
  · funext j; idx_vars j; obtain rfl : j0 = 0 := Subsingleton.elim _ _; pointwise; exact b1 m c t _ _

/-- The keys before their norm. -/
theorem kr (c : Dev nD) (t : Fin cfg0.N) (r : Fin 32) (q : Fin 512) :
    k0_pay56 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q)
      = val_main_v19 (F := Ideal) (A0 m c) (A2 m c) (A3 m c) (ix3 r 0 q) := by
  unfold k0_pay56
  refine kr_at _ _ _ _ _ _ (fun r k => ?_) ?_ (fun q k => ?_) r q
  · pointwise; exact b0 m c t r k
  · funext j; idx_vars j; obtain rfl : j0 = 0 := Subsingleton.elim _ _; pointwise; exact b1 m c t _ _
  · pointwise; exact b2 m c t _ k

/-- The rest of the projection. -/
theorem zz (c : Dev nD) (t : Fin cfg0.N) (r : Fin 32) (q : Fin 2560) :
    k0_pay57 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q)
      = val_main_v17 (F := Ideal) (A0 m c) (A2 m c) (A3 m c) (ix3 r 0 ⟨1536 + q, by omega⟩) := by
  unfold k0_pay57
  refine z_at _ _ _ _ (xn m c t) _ (fun k q => ?_) r q
  pointwise; exact b3 m c t k q

/-- Queries, keys and values before the norm, columns first. -/
theorem qkv (c : Dev nD) (t : Fin cfg0.N) (p : Fin 3) (h : Fin 8) (d : Fin 64) (r : Fin 32) :
    k0_pay58 (F := Ideal) (iblk m c 0 t) (iblk m c 1 t) (iblk m c 2 t) (iblk m c 3 t) (iblk m c 4 t) (iblk m c 5 t) (iblk m c 6 t) (iblk m c 7 t) (iblk m c 8 t) (iblk m c 9 t) (ix4 p h d r)
      = val_main_v17 (F := Ideal) (A0 m c) (A2 m c) (A3 m c) (ix3 r 0 ⟨512 * p + (64 * h + d), by omega⟩) := by
  unfold k0_pay58
  refine qkv_at _ _ _ _ (xn m c t) _ (fun q k => ?_) p h d r
  pointwise; exact b2 m c t q k

/-- The pooled branch's input. -/
theorem uu (c : Dev nD) (t : Fin cfg0.N) (r : Fin 32) (q : Fin 512) :
    k0_pay59 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q)
      = val_main_v21 (F := Ideal) (A0 m c) (A2 m c) (A3 m c) (ix3 r 0 q) := by
  unfold k0_pay59
  exact u_at _ _ _ _ (zz m c t) r q

set_option maxHeartbeats 1000000 in
/-- The values' array. -/
theorem final11 (c : Dev nD) : (dats m 0 c).arrAt 11 (cfgs 0).N = val_main_v177 (F := Ideal) (A0 m c) (A2 m c) (A3 m c) := by
  refine (dats m 0 c).arrAt_eq_of_covers 11 _ (by decide +kernel) fun t _ y => ?_
  blk_simp
  rw [after0_11]
  have hy : (((View.whole main_v14_1).slice (win0_11.rect t)).emb y) = y := by blk_ext [idx t]
  rw [hy]
  clear hy
  frame_out
  idx_vars y
  refine v_at _ _ _ _ (xn m c t) _ (fun q k => ?_) _ _
  pointwise; exact b2 m c t _ k

set_option maxHeartbeats 1000000 in
/-- The first gate's array. -/
theorem final14 (c : Dev nD) : (dats m 0 c).arrAt 14 (cfgs 0).N = val_main_v187 (F := Ideal) (A0 m c) (A2 m c) (A3 m c) := by
  refine (dats m 0 c).arrAt_eq_of_covers 14 _ (by decide +kernel) fun t _ y => ?_
  blk_simp
  rw [after0_14]
  have hy : (((View.whole main_v14_4).slice (win0_14.rect t)).emb y) = y := by blk_ext [idx t]
  rw [hy]
  clear hy
  frame_out
  idx_vars y
  exact ga_at _ _ _ _ (zz m c t) _ _

set_option maxHeartbeats 1000000 in
/-- The second gate's array. -/
theorem final15 (c : Dev nD) : (dats m 0 c).arrAt 15 (cfgs 0).N = val_main_v195 (F := Ideal) (A0 m c) (A2 m c) (A3 m c) := by
  refine (dats m 0 c).arrAt_eq_of_covers 15 _ (by decide +kernel) fun t _ y => ?_
  blk_simp
  rw [after0_15]
  have hy : (((View.whole main_v14_5).slice (win0_15.rect t)).emb y) = y := by blk_ext [idx t]
  rw [hy]
  clear hy
  frame_out
  idx_vars y
  exact gb_at _ _ _ _ (zz m c t) _ _

set_option maxHeartbeats 1000000 in
/-- The keys' array. -/
theorem final10 (c : Dev nD) : (dats m 0 c).arrAt 10 (cfgs 0).N = val_main_v176 (F := Ideal) (A0 m c) (A2 m c) (A3 m c) (A5 m c) := by
  refine (dats m 0 c).arrAt_eq_of_covers 10 _ (by decide +kernel) fun t _ y => ?_
  blk_simp
  rw [after0_10]
  have hy : (((View.whole main_v14_0).slice (win0_10.rect t)).emb y) = y := by blk_ext [idx t]
  rw [hy]
  clear hy
  frame_out
  have hg : iblk m c 4 t = A5 m c := by funext j; idx_vars j; exact b4 m c t _ _
  canon_tiles x h
  case piece0 =>
    idx_vars x
    refine (k7_at _ _ _ _ _ (kr m c t) _ hg x0 x1).trans ((rows_key _ _ _ _ x0 7 x1).trans (congrArg _ ?_))
    blk_ext
  case piece1 =>
    idx_vars x
    refine (k6_at _ _ _ _ _ (kr m c t) _ hg x0 x1).trans ((rows_key _ _ _ _ x0 6 x1).trans (congrArg _ ?_))
    blk_ext
  case piece2 =>
    idx_vars x
    refine (k5_at _ _ _ _ _ (kr m c t) _ hg x0 x1).trans ((rows_key _ _ _ _ x0 5 x1).trans (congrArg _ ?_))
    blk_ext
  case piece3 =>
    idx_vars x
    refine (k4_at _ _ _ _ _ (kr m c t) _ hg x0 x1).trans ((rows_key _ _ _ _ x0 4 x1).trans (congrArg _ ?_))
    blk_ext
  case piece4 =>
    idx_vars x
    refine (k3_at _ _ _ _ _ (kr m c t) _ hg x0 x1).trans ((rows_key _ _ _ _ x0 3 x1).trans (congrArg _ ?_))
    blk_ext
  case piece5 =>
    idx_vars x
    refine (k2_at _ _ _ _ _ (kr m c t) _ hg x0 x1).trans ((rows_key _ _ _ _ x0 2 x1).trans (congrArg _ ?_))
    blk_ext
  case piece6 =>
    idx_vars x
    refine (k1_at _ _ _ _ _ _ _ (fun r q => ?_) _ hg x0 x1).trans ((rows_key _ _ _ _ x0 1 x1).trans (congrArg _ ?_))
    · refine kr_at _ _ _ _ _ _ (fun r k => ?_) ?_ (fun q k => ?_) r q
      · exact b0 m c t r k
      · funext j; idx_vars j; exact b1 m c t _ _
      · pointwise; exact b2 m c t _ k
    · blk_ext
  case piece7 =>
    idx_vars x
    refine (k0_at _ _ _ _ _ _ _ (fun r q => ?_) _ hg x0 x1).trans ((rows_key _ _ _ _ x0 0 x1).trans (congrArg _ ?_))
    · refine kr_at _ _ _ _ _ _ (fun r k => ?_) ?_ (fun q k => ?_) r q
      · exact b0 m c t r k
      · funext j; idx_vars j; exact b1 m c t _ _
      · pointwise; exact b2 m c t _ k
    · blk_ext

end Cert.Smp.Val
end
-- ==== Proof.SampleOut2.lean ====
module

public import proofs.«01_k».proof.Proof.SampleOut

/-! # The sample's in-projection: the results that are written in several pieces -/

@[expose] public section

set_option maxRecDepth 16384

noncomputable section

open Idealize.ShloMosaic Idealize.ShloMosaic.TcCoe Idealize.SL.Sem
open Idealize.ShloMosaic.Pipeline (Dat)
open Cert.SampleInIdeal Cert.SampleInIdeal.Gen Cert.SampleInRefIdeal.Read Cert.Smp.Pure

namespace Cert.Smp.Val

variable (m : (ℓ : Loc nD τ sig) → Buf (Elt Ideal) ℓ)

set_option maxHeartbeats 1000000 in
/-- Queries, keys and values, columns first. -/
theorem final12 (c : Dev nD) : (dats m 0 c).arrAt 12 (cfgs 0).N = val_main_v175 (F := Ideal) (A0 m c) (A2 m c) (A3 m c) (A4 m c) (A5 m c) := by
  refine (dats m 0 c).arrAt_eq_of_covers 12 _ (by decide +kernel) fun t _ y => ?_
  blk_simp
  rw [after0_12]
  have hy : (((View.whole main_v14_2).slice (win0_12.rect t)).emb y) = y := by blk_ext [idx t]
  rw [hy]
  clear hy
  frame_out
  canon_tiles x h
  case piece0 =>
    idx_vars x
    obtain rfl : x0 = 0 := Subsingleton.elim _ _
    refine (vT_at _ _ _ _ (qkv m c t) x1 x2 x3).trans ((cat_v _ _ _ _ _ x1 x2 x3).trans (congrArg _ ?_))
    blk_ext
  case piece1 =>
    idx_vars x
    obtain rfl : x0 = 0 := Subsingleton.elim _ _
    refine (k_at _ _ _ _ _ (qkv m c t) _ (fun d => ?_) x1 x2 x3).trans ((cat_k _ _ _ _ _ x1 x2 x3).trans (congrArg _ ?_))
    · pointwise; exact b6 m c t d 0
    · blk_ext
  case piece2 =>
    idx_vars x
    obtain rfl : x0 = 0 := Subsingleton.elim _ _
    refine (q_at _ _ _ _ _ (qkv_at _ _ _ _ (xn m c t) (iblk m c 2 t) (fun q k => b2 m c t q k)) _ (fun h d r => ?_) _ (fun d => ?_) x1 x2 x3).trans ((cat_q _ _ _ _ _ x1 x2 x3).trans (congrArg _ ?_))
    · pointwise [k0_pay23]
    · pointwise; exact b5 m c t d 0
    · blk_ext

set_option maxHeartbeats 1000000 in
/-- The history's array. -/
theorem final16 (c : Dev nD) : (dats m 0 c).arrAt 16 (cfgs 0).N = val_main_v197 (F := Ideal) (A0 m c) (A1 m c) (A2 m c) (A3 m c) := by
  refine (dats m 0 c).arrAt_eq_of_covers 16 _ (by decide +kernel) fun t _ y => ?_
  blk_simp
  rw [after0_16]
  have hy : (((View.whole main_v14_6).slice (win0_16.rect t)).emb y) = y := by blk_ext [idx t]
  rw [hy]
  clear hy
  frame_out
  canon_tiles x h
  case piece0 =>
    idx_vars x
    obtain rfl : x0 = 0 := Subsingleton.elim _ _
    pointwise [k0_pay2]
    exact (uu m c t x1 x2).trans ((hist_new _ _ _ _ x1 x2).trans (congrArg _ (by blk_ext)))
  case piece1 =>
    idx_vars x
    obtain rfl : x0 = 0 := Subsingleton.elim _ _
    pointwise [k0_pay1, k0_pay54]
    exact (b7 m c t 14 x1 x2).trans ((hist_old (A0 m c) (A1 m c) (A2 m c) (A3 m c) 13 x1 x2 (by decide)).trans (congrArg _ (by blk_ext)))
  case piece2 =>
    idx_vars x
    obtain rfl : x0 = 0 := Subsingleton.elim _ _
    pointwise [k0_pay53]
    exact (b7 m c t 13 x1 x2).trans ((hist_old (A0 m c) (A1 m c) (A2 m c) (A3 m c) 12 x1 x2 (by decide)).trans (congrArg _ (by blk_ext)))
  case piece3 =>
    idx_vars x
    obtain rfl : x0 = 0 := Subsingleton.elim _ _
    pointwise [k0_pay52]
    exact (b7 m c t 12 x1 x2).trans ((hist_old (A0 m c) (A1 m c) (A2 m c) (A3 m c) 11 x1 x2 (by decide)).trans (congrArg _ (by blk_ext)))
  case piece4 =>
    idx_vars x
    obtain rfl : x0 = 0 := Subsingleton.elim _ _
    pointwise [k0_pay51]
    exact (b7 m c t 11 x1 x2).trans ((hist_old (A0 m c) (A1 m c) (A2 m c) (A3 m c) 10 x1 x2 (by decide)).trans (congrArg _ (by blk_ext)))
  case piece5 =>
    idx_vars x
    obtain rfl : x0 = 0 := Subsingleton.elim _ _
    pointwise [k0_pay50]
    exact (b7 m c t 10 x1 x2).trans ((hist_old (A0 m c) (A1 m c) (A2 m c) (A3 m c) 9 x1 x2 (by decide)).trans (congrArg _ (by blk_ext)))
  case piece6 =>
    idx_vars x
    obtain rfl : x0 = 0 := Subsingleton.elim _ _
    pointwise [k0_pay49, k0_pay48]
    exact (b7 m c t 9 x1 x2).trans ((hist_old (A0 m c) (A1 m c) (A2 m c) (A3 m c) 8 x1 x2 (by decide)).trans (congrArg _ (by blk_ext)))
  case piece7 =>
    idx_vars x
    obtain rfl : x0 = 0 := Subsingleton.elim _ _
    pointwise [k0_pay47]
    exact (b7 m c t 8 x1 x2).trans ((hist_old (A0 m c) (A1 m c) (A2 m c) (A3 m c) 7 x1 x2 (by decide)).trans (congrArg _ (by blk_ext)))
  case piece8 =>
    idx_vars x
    obtain rfl : x0 = 0 := Subsingleton.elim _ _
    pointwise [k0_pay46]
    exact (b7 m c t 7 x1 x2).trans ((hist_old (A0 m c) (A1 m c) (A2 m c) (A3 m c) 6 x1 x2 (by decide)).trans (congrArg _ (by blk_ext)))
  case piece9 =>
    idx_vars x
    obtain rfl : x0 = 0 := Subsingleton.elim _ _
    pointwise [k0_pay45]
    exact (b7 m c t 6 x1 x2).trans ((hist_old (A0 m c) (A1 m c) (A2 m c) (A3 m c) 5 x1 x2 (by decide)).trans (congrArg _ (by blk_ext)))
  case piece10 =>
    idx_vars x
    obtain rfl : x0 = 0 := Subsingleton.elim _ _
    pointwise [k0_pay44]
    exact (b7 m c t 5 x1 x2).trans ((hist_old (A0 m c) (A1 m c) (A2 m c) (A3 m c) 4 x1 x2 (by decide)).trans (congrArg _ (by blk_ext)))
  case piece11 =>
    idx_vars x
    obtain rfl : x0 = 0 := Subsingleton.elim _ _
    pointwise [k0_pay43, k0_pay42]
    exact (b7 m c t 4 x1 x2).trans ((hist_old (A0 m c) (A1 m c) (A2 m c) (A3 m c) 3 x1 x2 (by decide)).trans (congrArg _ (by blk_ext)))
  case piece12 =>
    idx_vars x
    obtain rfl : x0 = 0 := Subsingleton.elim _ _
    pointwise [k0_pay41]
    exact (b7 m c t 3 x1 x2).trans ((hist_old (A0 m c) (A1 m c) (A2 m c) (A3 m c) 2 x1 x2 (by decide)).trans (congrArg _ (by blk_ext)))
  case piece13 =>
    idx_vars x
    obtain rfl : x0 = 0 := Subsingleton.elim _ _
    pointwise [k0_pay40]
    exact (b7 m c t 2 x1 x2).trans ((hist_old (A0 m c) (A1 m c) (A2 m c) (A3 m c) 1 x1 x2 (by decide)).trans (congrArg _ (by blk_ext)))
  case piece14 =>
    idx_vars x
    obtain rfl : x0 = 0 := Subsingleton.elim _ _
    pointwise [k0_pay39]
    exact (b7 m c t 1 x1 x2).trans ((hist_old (A0 m c) (A1 m c) (A2 m c) (A3 m c) 0 x1 x2 (by decide)).trans (congrArg _ (by blk_ext)))

set_option maxHeartbeats 1000000 in
/-- The pooled branch's array. -/
theorem final13 (c : Dev nD) : (dats m 0 c).arrAt 13 (cfgs 0).N = val_main_v179 (F := Ideal) (A0 m c) (A1 m c) (A2 m c) (A3 m c) (A6 m c) (A7 m c) := by
  refine (dats m 0 c).arrAt_eq_of_covers 13 _ (by decide +kernel) fun t _ y => ?_
  blk_simp
  rw [after0_13]
  have hy : (((View.whole main_v14_3).slice (win0_13.rect t)).emb y) = y := by blk_ext [idx t]
  rw [hy]
  clear hy
  frame_out
  canon_tiles x h
  case piece3 =>
    idx_vars x
    refine (y0_at (A0 m c) (A1 m c) (A2 m c) (A3 m c) (A6 m c) (A7 m c) _ _ _ _ (fun r q => ?_) (fun r q => ?_) (fun k q => ?_) (fun q => ?_) x0 x1).trans (congrArg _ ?_)
    · exact u_at _ _ _ _ (zz m c t) r q
    · pointwise; exact b7 m c t 14 r _
    · pointwise; exact b8 m c t 0 k q
    · pointwise; exact b9 m c t 0 _
    · blk_ext
  case piece2 =>
    idx_vars x
    refine (y1_at (A0 m c) (A1 m c) (A2 m c) (A3 m c) (A6 m c) (A7 m c) _ _ _ _ _ _ (fun r q => ?_) (fun r q => ?_) (fun r q => ?_) (fun r q => ?_) (fun k q => ?_) (fun q => ?_) x0 x1).trans (congrArg _ ?_)
    · exact u_at _ _ _ _ (zz m c t) r q
    · pointwise; exact b7 m c t 14 r _
    · pointwise; exact b7 m c t 13 r _
    · pointwise; exact b7 m c t 12 r _
    · pointwise; exact b8 m c t 1 k q
    · pointwise; exact b9 m c t 0 _
    · blk_ext
  case piece1 =>
    idx_vars x
    refine (y2_at (A0 m c) (A1 m c) (A2 m c) (A3 m c) (A6 m c) (A7 m c) _ _ _ _ _ _ _ _ _ _ (fun r q => ?_) (fun r q => ?_) (fun r q => ?_) (fun r q => ?_) (fun r q => ?_) (fun r q => ?_) (fun r q => ?_) (fun r q => ?_) (fun k q => ?_) (fun q => ?_) x0 x1).trans (congrArg _ ?_)
    · exact uu m c t r q
    · pointwise; exact b7 m c t 14 r _
    · pointwise; exact b7 m c t 13 r _
    · pointwise; exact b7 m c t 12 r _
    · pointwise; exact b7 m c t 11 r _
    · pointwise; exact b7 m c t 10 r _
    · pointwise; exact b7 m c t 9 r _
    · pointwise; exact b7 m c t 8 r _
    · pointwise; exact b8 m c t 2 k q
    · pointwise; exact b9 m c t 0 _
    · blk_ext
  case piece0 =>
    idx_vars x
    refine (y3_at (A0 m c) (A1 m c) (A2 m c) (A3 m c) (A6 m c) (A7 m c) _ _ _ _ _ _ _ _ _ _ _ _ _ _ _ _ _ _ (fun r q => ?_) (fun r q => ?_) (fun r q => ?_) (fun r q => ?_) (fun r q => ?_) (fun r q => ?_) (fun r q => ?_) (fun r q => ?_) (fun r q => ?_) (fun r q => ?_) (fun r q => ?_) (fun r q => ?_) (fun r q => ?_) (fun r q => ?_) (fun r q => ?_) (fun r q => ?_) (fun k q => ?_) (fun q => ?_) x0 x1).trans (congrArg _ ?_)
    · exact uu m c t r q
    · pointwise; exact b7 m c t 14 r _
    · pointwise; exact b7 m c t 13 r _
    · pointwise; exact b7 m c t 12 r _
    · pointwise; exact b7 m c t 11 r _
    · pointwise; exact b7 m c t 10 r _
    · pointwise; exact b7 m c t 9 r _
    · pointwise; exact b7 m c t 8 r _
    · pointwise; exact b7 m c t 7 r _
    · pointwise; exact b7 m c t 6 r _
    · pointwise; exact b7 m c t 5 r _
    · pointwise; exact b7 m c t 4 r _
    · pointwise; exact b7 m c t 3 r _
    · pointwise; exact b7 m c t 2 r _
    · pointwise; exact b7 m c t 1 r _
    · pointwise; exact b7 m c t 0 r _
    · pointwise; exact b8 m c t 3 k q
    · pointwise; exact b9 m c t 0 _
    · blk_ext

end Cert.Smp.Val
end
-- ==== Proof.SampleClaim.lean ====
module

public import proofs.«01_k».proof.Defs
public import proofs.«01_k».proof.Proof.SampleOut2
public import proofs.«01_k».proof.Proof.Gen.SampleInRefIdeal
public import proofs.«01_k».proof.Proof.Gen.SampleInRefIdeal.Run

/-! # The sample's in-projection: the claims about the reference program and about the pair -/

@[expose] public section

set_option maxRecDepth 16384

noncomputable section

open Idealize.ShloMosaic Idealize.SL.Sem Idealize.ShloMosaic.StableHlo

namespace Cert.Claims

open Cert.SampleInRefIdeal.Read Cert.Smp.Val

/-- The reference runs, leaves its arguments as they were, and declares no semaphore. -/
theorem sample_ref_frame : Cert.quiescent_SampleInRefIdeal (hSampleInRefIdeal := Cert.SampleInRefIdeal.Gen.facts) := fun m g _ =>
  (θ_run Cert.SampleInRefIdeal.defs _ _).mono (fun r h => ⟨fun c => (h c).2.2.2.2.2.2.2, Idealize.ShloMosaic.sem_eq_zero_of_no_sems (by decide) r.2⟩)
    (Cert.SampleInRefIdeal.Value.run m g)

/-- The kernel's seven results are the reference's. -/
theorem sample_algebraic : Cert.algebraic_SampleInIdeal_SampleInRefIdeal (hSampleInIdeal := Cert.SampleInIdeal.Gen.facts)
    (hSampleInRefIdeal := Cert.SampleInRefIdeal.Gen.facts) := by
  intro m g m' g' _ hag
  have agree : ∀ c : Dev Cert.SampleInIdeal.nD, launchContents m' c (Proc.devRef .tc Cert.SampleInRefIdeal.main_arg0) = A0 m c
      ∧ launchContents m' c (Proc.devRef .tc Cert.SampleInRefIdeal.main_arg1) = A1 m c
      ∧ launchContents m' c (Proc.devRef .tc Cert.SampleInRefIdeal.main_arg2) = A2 m c
      ∧ launchContents m' c (Proc.devRef .tc Cert.SampleInRefIdeal.main_arg3) = A3 m c
      ∧ launchContents m' c (Proc.devRef .tc Cert.SampleInRefIdeal.main_arg4) = A4 m c
      ∧ launchContents m' c (Proc.devRef .tc Cert.SampleInRefIdeal.main_arg5) = A5 m c
      ∧ launchContents m' c (Proc.devRef .tc Cert.SampleInRefIdeal.main_arg6) = A6 m c
      ∧ launchContents m' c (Proc.devRef .tc Cert.SampleInRefIdeal.main_arg7) = A7 m c := hag
  refine ⟨fun c => (Cert.SampleInIdeal.Gen.dats m 0 c).arrAt 10 Cert.SampleInIdeal.cfg0.N,
    fun c => (Cert.SampleInIdeal.Gen.dats m 0 c).arrAt 11 Cert.SampleInIdeal.cfg0.N,
    fun c => (Cert.SampleInIdeal.Gen.dats m 0 c).arrAt 12 Cert.SampleInIdeal.cfg0.N,
    fun c => (Cert.SampleInIdeal.Gen.dats m 0 c).arrAt 13 Cert.SampleInIdeal.cfg0.N,
    fun c => (Cert.SampleInIdeal.Gen.dats m 0 c).arrAt 14 Cert.SampleInIdeal.cfg0.N,
    fun c => (Cert.SampleInIdeal.Gen.dats m 0 c).arrAt 15 Cert.SampleInIdeal.cfg0.N,
    fun c => (Cert.SampleInIdeal.Gen.dats m 0 c).arrAt 16 Cert.SampleInIdeal.cfg0.N,
    Cert.SampleInIdeal.Value.run_blocks m g,
    (θ_run Cert.SampleInRefIdeal.defs _ _).mono (fun _ h c => ⟨(h c).1.trans ?_,
        (h c).2.1.trans ?_,
        (h c).2.2.1.trans ?_,
        (h c).2.2.2.1.trans ?_,
        (h c).2.2.2.2.1.trans ?_,
        (h c).2.2.2.2.2.1.trans ?_,
        (h c).2.2.2.2.2.2.1.trans ?_,
        (h c).2.2.2.2.2.2.2⟩) (Cert.SampleInRefIdeal.Value.run m' g')⟩
  · obtain ⟨h0, h1, h2, h3, h4, h5, h6, h7⟩ := agree c
    rw [val_main_v176_eq, h0, h2, h3, h5]
    exact (final10 m c).symm
  · obtain ⟨h0, h1, h2, h3, h4, h5, h6, h7⟩ := agree c
    rw [val_main_v177_eq, h0, h2, h3]
    exact (final11 m c).symm
  · obtain ⟨h0, h1, h2, h3, h4, h5, h6, h7⟩ := agree c
    rw [val_main_v175_eq, h0, h2, h3, h4, h5]
    exact (final12 m c).symm
  · obtain ⟨h0, h1, h2, h3, h4, h5, h6, h7⟩ := agree c
    rw [val_main_v179_eq, h0, h1, h2, h3, h6, h7]
    exact (final13 m c).symm
  · obtain ⟨h0, h1, h2, h3, h4, h5, h6, h7⟩ := agree c
    rw [val_main_v187_eq, h0, h2, h3]
    exact (final14 m c).symm
  · obtain ⟨h0, h1, h2, h3, h4, h5, h6, h7⟩ := agree c
    rw [val_main_v195_eq, h0, h2, h3]
    exact (final15 m c).symm
  · obtain ⟨h0, h1, h2, h3, h4, h5, h6, h7⟩ := agree c
    rw [val_main_v197_eq, h0, h1, h2, h3]
    exact (final16 m c).symm

end Cert.Claims
end
-- ==== Proof.TailPure.lean ====
module

public import proofs.«01_k».proof.Proof.Gen.TailIdeal.Skeleton
public import proofs.«01_k».proof.Proof.Gen.TailRefIdeal.Read
public import proofs.«01_k».proof.Proof.Math

/-! # The closing call: the body's payloads against the reference's stages

The merge of the two branches, the feed-forward part in four chunks against one product, and the gated embedding, each
over any blocks that read as the reference's operands. -/

@[expose] public section

set_option maxRecDepth 16384

noncomputable section

open Idealize.ShloMosaic Idealize.ShloMosaic.TcCoe Idealize.SL.Sem
open Cert.TailIdeal Cert.TailIdeal.Gen Cert.TailRefIdeal.Read

namespace Cert.Tail.Pure

variable (a0 : FVec Ideal ⟨3, ![32, 1, 1024]⟩ .f32) (a1 : FVec Ideal ⟨3, ![8, 64, 32]⟩ .f32)
  (a2 : FVec Ideal ⟨2, ![32, 512]⟩ .bf16) (a3 a4 : FVec Ideal ⟨2, ![32, 1024]⟩ .bf16)
  (a5 : FVec Ideal ⟨4, ![1, 32, 1, 256]⟩ .f32)
  (a6 a7 : FVec Ideal ⟨3, ![1, 512, 1024]⟩ .f32) (a8 : FVec Ideal ⟨3, ![1, 1024, 1024]⟩ .f32)
  (a9 : FVec Ideal ⟨2, ![1, 1024]⟩ .f32) (a10 : FVec Ideal ⟨3, ![1, 1024, 4096]⟩ .f32) (a11 : FVec Ideal ⟨3, ![1, 4096, 1024]⟩ .f32)
  (a12 : FVec Ideal ⟨2, ![1, 1024]⟩ .f32) (a13 : FVec Ideal ⟨3, ![1, 1024, 1024]⟩ .f32) (a14 : FVec Ideal ⟨3, ![1, 256, 1024]⟩ .f32)

/-- The merge of the two branches and its residual: the block after the output projection. -/
theorem merge_eq (i : grid0.Coords) (v1 v3 : FVec Ideal S1x512x32 .bf16) (v6 : FVec Ideal S512x1024 .bf16) (v9 : FVec Ideal S1x32x512 .bf16)
    (v11 : FVec Ideal S512x1024 .bf16) (v14 v18 : FVec Ideal S1x32x1024 .bf16) (v23 : FVec Ideal S1x32x1024 .f32) (v26 : FVec Ideal S1024x1024 .bf16)
    (h1 : ∀ (q : Fin 512) (r : Fin 32), v1 (ix3 0 q r) = a1 (ix3 ⟨q / 64, by omega⟩ ⟨q % 64, by omega⟩ r))
    (h3 : v3 = v1)
    (h6 : ∀ (q : Fin 512) (k : Fin 1024), v6 (ix2 q k) = a6 (ix3 0 q k))
    (h9 : ∀ (r : Fin 32) (q : Fin 512), v9 (ix3 0 r q) = a2 (ix2 r q))
    (h11 : ∀ (q : Fin 512) (k : Fin 1024), v11 (ix2 q k) = a7 (ix3 0 q k))
    (h14 : ∀ (r : Fin 32) (k : Fin 1024), v14 (ix3 0 r k) = a3 (ix2 r k))
    (h18 : ∀ (r : Fin 32) (k : Fin 1024), v18 (ix3 0 r k) = a4 (ix2 r k))
    (h23 : ∀ (r : Fin 32) (k : Fin 1024), v23 (ix3 0 r k) = a0 (ix3 r 0 k))
    (h26 : ∀ (q k : Fin 1024), v26 (ix2 q k) = a8 (ix3 0 q k)) :
    k0_pay2 (F := Ideal) i v1 v3 v6 v9 v11 v14 v18 v23 v26 = val_main_v15 (F := Ideal) a0 a1 a2 a3 a4 a6 a7 a8 := by
  subst h3
  funext j
  idx_vars j
  pointwise [k0_pay2, val_main_v15, val_main_v14, val_main_v13, val_main_v12, val_main_v11, val_main_v10, val_main_v9, val_main_v8, val_main_v7, val_main_v6, val_main_v5, val_main_v4, val_main_v3, val_main_v2, val_main_v1, val_main_v0, h1, h6, h9, h11, h14, h18, h23, h26]

/-- The normalised rows before the feed-forward part. -/
theorem norm_eq (v29 : FVec Ideal S32x1024 .f32) (v30 : FVec Ideal S1x1024 .f32) (h : v29 = val_main_v15 (F := Ideal) a0 a1 a2 a3 a4 a6 a7 a8)
    (h30 : v30 = a9) : k0_pay3 (F := Ideal) v29 v30 = val_main_v29 (F := Ideal) a0 a1 a2 a3 a4 a6 a7 a8 a9 := by
  subst h30
  funext j
  idx_vars j
  pointwise [k0_pay3, val_main_v29, val_main_v28, val_main_v27, val_main_v26, val_main_v25, val_main_v24, val_main_v23, val_main_v22, val_main_v21, val_main_v20, val_main_v19, val_main_v18, val_main_v17, val_main_v16, val_main_cst, val_main_cst_0, val_main_cst_1, h]

/-- The feed-forward part: four chunks of the hidden width, added up one after the other. -/
theorem ff_eq (v29 : FVec Ideal S32x1024 .f32) (v30 : FVec Ideal S1x1024 .f32) (v43 : FVec Ideal S32x1024 .bf16)
    (u0 u1 u2 u3 d0 d1 d2 d3 : FVec Ideal S1024x1024 .bf16)
    (h : v29 = val_main_v15 (F := Ideal) a0 a1 a2 a3 a4 a6 a7 a8) (h30 : v30 = a9) (h43 : v43 = k0_pay3 (F := Ideal) v29 v30)
    (hu0 : ∀ q k : Fin 1024, u0 (ix2 q k) = a10 (ix3 0 q ⟨0 * 1024 + k, by omega⟩))
    (hu1 : ∀ q k : Fin 1024, u1 (ix2 q k) = a10 (ix3 0 q ⟨1 * 1024 + k, by omega⟩))
    (hu2 : ∀ q k : Fin 1024, u2 (ix2 q k) = a10 (ix3 0 q ⟨2 * 1024 + k, by omega⟩))
    (hu3 : ∀ q k : Fin 1024, u3 (ix2 q k) = a10 (ix3 0 q ⟨3 * 1024 + k, by omega⟩))
    (hd0 : ∀ q k : Fin 1024, d0 (ix2 q k) = a11 (ix3 0 ⟨0 * 1024 + q, by omega⟩ k))
    (hd1 : ∀ q k : Fin 1024, d1 (ix2 q k) = a11 (ix3 0 ⟨1 * 1024 + q, by omega⟩ k))
    (hd2 : ∀ q k : Fin 1024, d2 (ix2 q k) = a11 (ix3 0 ⟨2 * 1024 + q, by omega⟩ k))
    (hd3 : ∀ q k : Fin 1024, d3 (ix2 q k) = a11 (ix3 0 ⟨3 * 1024 + q, by omega⟩ k)) :
    k0_pay6 (F := Ideal) v43 (k0_pay4 (F := Ideal) v29 v30 u0 d0 u1 d1) (k0_pay5 (F := Ideal) u2) (constant S32x1024 .f32 0x00000000#32) d2 u3 d3
      = val_main_v36 (F := Ideal) a0 a1 a2 a3 a4 a6 a7 a8 a9 a10 a11 := by
  subst h
  subst h43
  have hn : ∀ (r : Fin 32) (k : Fin 1024), k0_pay3 (F := Ideal) (val_main_v15 (F := Ideal) a0 a1 a2 a3 a4 a6 a7 a8) v30 (ix2 r k) = (show EReal from val_main_v29 (F := Ideal) a0 a1 a2 a3 a4 a6 a7 a8 a9 (ix2 r k)) :=
    fun r k => congrFun (norm_eq a0 a1 a2 a3 a4 a6 a7 a8 a9 _ v30 rfl h30) (ix2 r k)
  funext j
  idx_vars j
  pointwise [k0_pay6, k0_pay5, k0_pay4, hn, hu0, hu1, hu2, hu3, hd0, hd1, hd2, hd3, val_main_v36, val_main_v35, val_main_v34, val_main_v33, val_main_v32, val_main_v31, val_main_v30, val_main_call0_v0, val_main_call0_cst]
  rw [Fin.sum_univ_tiles 4 1024 rfl]
  simp only [Fin.sum_univ_four, add_assoc]
  rfl

/-- The gate and the embedding's projection: the call's result. -/
theorem gate_eq (v43 : FVec Ideal S32x1024 .bf16) (v65 : FVec Ideal S32x1024 .f32) (v67 : FVec Ideal S1024x1024 .bf16) (z : FVec Ideal S32x1024 .f32)
    (d2 u3 d3 : FVec Ideal S1024x1024 .bf16) (v88 : FVec Ideal S1x1024 .f32) (v102 : FVec Ideal S1024x1024 .bf16) (v112 : FVec Ideal S1x32x256 .f32) (v115 : FVec Ideal S256x1024 .bf16)
    (h : k0_pay6 (F := Ideal) v43 v65 v67 z d2 u3 d3 = val_main_v36 (F := Ideal) a0 a1 a2 a3 a4 a6 a7 a8 a9 a10 a11) (h88 : v88 = a12)
    (h102 : ∀ q k : Fin 1024, v102 (ix2 q k) = a13 (ix3 0 q k))
    (h112 : ∀ (r : Fin 32) (q : Fin 256), v112 (ix3 0 r q) = a5 (ix4 0 r 0 q))
    (h115 : ∀ (q : Fin 256) (k : Fin 1024), v115 (ix2 q k) = a14 (ix3 0 q k)) :
    k0_pay1 (F := Ideal) (k0_pay6 (F := Ideal) v43 v65 v67 z d2 u3 d3) (k0_pay7 (F := Ideal) v43 v65 v67 z d2 u3 d3 v88 v102) v112 v115
      = val_main_v64 (F := Ideal) a0 a1 a2 a3 a4 a5 a6 a7 a8 a9 a10 a11 a12 a13 a14 := by
  subst h88
  funext j
  idx_vars j
  pointwise [k0_pay1, k0_pay7, h, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_cst_2, val_main_cst_3, val_main_cst_4, val_main_cst_5, val_main_cst_6, h102, h112, h115]
  rw [Cert.Math.logistic]

end Cert.Tail.Pure
end
-- ==== Proof.TailValue.lean ====
module

public import proofs.«01_k».proof.Proof.Gen.TailIdeal.Value
public import proofs.«01_k».proof.Proof.TailPure
public import Idealize.ShloMosaic.Lib.Pipeline.ValueKit

/-! # The sample's tail: the array the run leaves is the reference's term

The grid has one point and every block is its whole array, so the result is the body's payload over the prepared
operands. -/

@[expose] public section

set_option maxRecDepth 16384

noncomputable section

open Idealize.ShloMosaic Idealize.ShloMosaic.TcCoe Idealize.SL.Sem
open Idealize.ShloMosaic.Pipeline (Dat)
open Cert.TailIdeal Cert.TailIdeal.Gen

namespace Cert.Tail.Val

variable (m : (ℓ : Loc nD τ sig) → Buf (Elt Ideal) ℓ)

/-- Every window's block index is zero: one point, whole arrays. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0, 0] :=
  (by decide +kernel : ∀ t : Fin grid0.N, _)

/-- Window 0's block is its operand as prepared. -/
theorem b0 (c : Dev nD) (t : Fin cfg0.N) (r : Fin 32) (k : Fin 1024) :
    @Eq EReal (iblk m c 0 t (ix3 0 r k)) (m ((c : Thread nD τ).loc main_arg0) (ix3 r 0 k)) := by
  blk_simp [iblk, idx t]
  entry_read
  pointwise
  try blk_ext [idx t]

/-- Window 1's block is its operand as prepared. -/
theorem b1 (c : Dev nD) (t : Fin cfg0.N) (q : Fin 512) (r : Fin 32) :
    @Eq EReal (iblk m c 1 t (ix3 0 q r)) (m ((c : Thread nD τ).loc main_arg1) (ix3 ⟨q / 64, by omega⟩ ⟨q % 64, by omega⟩ r)) := by
  blk_simp [iblk, idx t]
  entry_read
  pointwise
  try blk_ext [idx t]

/-- Window 2's block is its operand as prepared. -/
theorem b2 (c : Dev nD) (t : Fin cfg0.N) (q : Fin 512) (r : Fin 32) :
    @Eq EReal (iblk m c 2 t (ix3 0 q r)) (m ((c : Thread nD τ).loc main_arg1) (ix3 ⟨q / 64, by omega⟩ ⟨q % 64, by omega⟩ r)) := by
  blk_simp [iblk, idx t]
  entry_read
  pointwise
  try blk_ext [idx t]

/-- Window 3's block is its operand as prepared. -/
theorem b3 (c : Dev nD) (t : Fin cfg0.N) (r : Fin 32) (q : Fin 512) :
    @Eq EReal (iblk m c 3 t (ix3 0 r q)) (m ((c : Thread nD τ).loc main_arg2) (ix2 r q)) := by
  blk_simp [iblk, idx t]
  entry_read
  pointwise
  try blk_ext [idx t]

/-- Window 4's block is its operand as prepared. -/
theorem b4 (c : Dev nD) (t : Fin cfg0.N) (r : Fin 32) (k : Fin 1024) :
    @Eq EReal (iblk m c 4 t (ix3 0 r k)) (m ((c : Thread nD τ).loc main_arg3) (ix2 r k)) := by
  blk_simp [iblk, idx t]
  entry_read
  pointwise
  try blk_ext [idx t]

/-- Window 5's block is its operand as prepared. -/
theorem b5 (c : Dev nD) (t : Fin cfg0.N) (r : Fin 32) (k : Fin 1024) :
    @Eq EReal (iblk m c 5 t (ix3 0 r k)) (m ((c : Thread nD τ).loc main_arg4) (ix2 r k)) := by
  blk_simp [iblk, idx t]
  entry_read
  pointwise
  try blk_ext [idx t]

/-- Window 6's block is its operand as prepared. -/
theorem b6 (c : Dev nD) (t : Fin cfg0.N) (r : Fin 32) (q : Fin 256) :
    @Eq EReal (iblk m c 6 t (ix3 0 r q)) (m ((c : Thread nD τ).loc main_arg5) (ix4 0 r 0 q)) := by
  blk_simp [iblk, idx t]
  entry_read
  pointwise
  try blk_ext [idx t]

/-- Window 7's block is its operand as prepared. -/
theorem b7 (c : Dev nD) (t : Fin cfg0.N) (q : Fin 512) (k : Fin 1024) :
    @Eq EReal (iblk m c 7 t (ix2 q k)) (m ((c : Thread nD τ).loc main_arg6) (ix3 0 q k)) := by
  blk_simp [iblk, idx t]
  entry_read
  pointwise
  try blk_ext [idx t]

/-- Window 8's block is its operand as prepared. -/
theorem b8 (c : Dev nD) (t : Fin cfg0.N) (q : Fin 512) (k : Fin 1024) :
    @Eq EReal (iblk m c 8 t (ix2 q k)) (m ((c : Thread nD τ).loc main_arg7) (ix3 0 q k)) := by
  blk_simp [iblk, idx t]
  entry_read
  pointwise
  try blk_ext [idx t]

/-- Window 9's block is its operand as prepared. -/
theorem b9 (c : Dev nD) (t : Fin cfg0.N) (q k : Fin 1024) :
    @Eq EReal (iblk m c 9 t (ix2 q k)) (m ((c : Thread nD τ).loc main_arg8) (ix3 0 q k)) := by
  blk_simp [iblk, idx t]
  entry_read
  pointwise
  try blk_ext [idx t]

/-- Window 10's block is its operand as prepared. -/
theorem b10 (c : Dev nD) (t : Fin cfg0.N) (z : Fin 1) (k : Fin 1024) :
    @Eq EReal (iblk m c 10 t (ix2 z k)) (m ((c : Thread nD τ).loc main_arg9) (ix2 z k)) := by
  blk_ext [iblk, V, idx t]

/-- Window 11's block is its operand as prepared. -/
theorem b11 (c : Dev nD) (t : Fin cfg0.N) (q : Fin 1024) (k : Fin 4096) :
    @Eq EReal (iblk m c 11 t (ix2 q k)) (m ((c : Thread nD τ).loc main_arg10) (ix3 0 q k)) := by
  blk_simp [iblk, idx t]
  entry_read
  pointwise
  try blk_ext [idx t]

/-- Window 12's block is its operand as prepared. -/
theorem b12 (c : Dev nD) (t : Fin cfg0.N) (q : Fin 4096) (k : Fin 1024) :
    @Eq EReal (iblk m c 12 t (ix2 q k)) (m ((c : Thread nD τ).loc main_arg11) (ix3 0 q k)) := by
  blk_simp [iblk, idx t]
  entry_read
  pointwise
  try blk_ext [idx t]

/-- Window 13's block is its operand as prepared. -/
theorem b13 (c : Dev nD) (t : Fin cfg0.N) (z : Fin 1) (k : Fin 1024) :
    @Eq EReal (iblk m c 13 t (ix2 z k)) (m ((c : Thread nD τ).loc main_arg12) (ix2 z k)) := by
  blk_ext [iblk, V, idx t]

/-- Window 14's block is its operand as prepared. -/
theorem b14 (c : Dev nD) (t : Fin cfg0.N) (q k : Fin 1024) :
    @Eq EReal (iblk m c 14 t (ix2 q k)) (m ((c : Thread nD τ).loc main_arg13) (ix3 0 q k)) := by
  blk_simp [iblk, idx t]
  entry_read
  pointwise
  try blk_ext [idx t]

/-- Window 15's block is its operand as prepared. -/
theorem b15 (c : Dev nD) (t : Fin cfg0.N) (q : Fin 256) (k : Fin 1024) :
    @Eq EReal (iblk m c 15 t (ix2 q k)) (m ((c : Thread nD τ).loc main_arg14) (ix3 0 q k)) := by
  blk_simp [iblk, idx t]
  entry_read
  pointwise
  try blk_ext [idx t]

set_option maxHeartbeats 1000000 in
/-- The result array after the run. -/
theorem final (c : Dev nD) : (dats m 0 c).arrAt 16 (cfgs 0).N
    = Cert.TailRefIdeal.Read.val_main_v64 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13))
        (m ((c : Thread nD τ).loc main_arg14)) := by
  refine (dats m 0 c).arrAt_eq_of_covers 16 _ (by decide +kernel) fun t _ y => ?_
  blk_simp
  rw [after0_16]
  frame_out
  have hy : (((View.whole main_v23).slice (win0_16.rect t)).emb y) = y := by blk_ext [idx t]
  rw [hy]
  unfold k0_pay12 k0_pay11 k0_pay10 k0_pay9 k0_pay8
  refine congrFun (Cert.Tail.Pure.gate_eq _ _ _ _ _ _ _ _ _ _ _ _ _ _ _ _ _ _ _ _ _ _ _ _ _ _
    (Cert.Tail.Pure.ff_eq _ _ _ _ _ _ _ _ _ _ _ _ _ _ _ _ _ _ _ _ _ _
      (Cert.Tail.Pure.merge_eq _ _ _ _ _ _ _ _ _ _ _ _ _ _ _ _ _ _ ?_ ?_ ?_ ?_ ?_ ?_ ?_ ?_ ?_) ?_ rfl ?_ ?_ ?_ ?_ ?_ ?_ ?_ ?_) ?_ ?_ ?_ ?_) y
  case refine_2 => funext j; idx_vars j; pointwise; exact (b2 m c t _ _).trans (b1 m c t _ _).symm
  case refine_10 => funext j; idx_vars j; obtain rfl : j0 = 0 := Subsingleton.elim _ _; pointwise; exact b10 m c t _ _
  case refine_19 => funext j; idx_vars j; exact b13 m c t _ _
  all_goals intro q k
  all_goals try pointwise
  · exact b1 m c t q k
  · exact b7 m c t q k
  · exact b3 m c t q k
  · exact b8 m c t q k
  · exact b4 m c t q k
  · exact b5 m c t q k
  · exact b0 m c t q k
  · exact b9 m c t q k
  · exact b11 m c t q _
  · exact b11 m c t q _
  · exact b11 m c t q _
  · exact b11 m c t q _
  · exact b12 m c t _ k
  · exact b12 m c t _ k
  · exact b12 m c t _ k
  · exact b12 m c t _ k
  · exact b14 m c t q k
  · exact b6 m c t q k
  · exact b15 m c t q k

end Cert.Tail.Val
end
-- ==== Proof.TailClaim.lean ====
module

public import proofs.«01_k».proof.Defs
public import proofs.«01_k».proof.Proof.TailValue
public import proofs.«01_k».proof.Proof.Gen.TailRefIdeal
public import proofs.«01_k».proof.Proof.Gen.TailRefIdeal.Run

/-! # The sample's tail: the claims about the reference program and about the pair -/

@[expose] public section

set_option maxRecDepth 16384

noncomputable section

open Idealize.ShloMosaic Idealize.SL.Sem Idealize.ShloMosaic.StableHlo

namespace Cert.Claims

/-- The reference runs, leaves its arguments as they were, and declares no semaphore. -/
theorem tail_ref_frame : Cert.quiescent_TailRefIdeal (hTailRefIdeal := Cert.TailRefIdeal.Gen.facts) := fun m g _ =>
  (θ_run Cert.TailRefIdeal.defs _ _).mono (fun r h => ⟨fun c => (h c).2, Idealize.ShloMosaic.sem_eq_zero_of_no_sems (by decide) r.2⟩)
    (Cert.TailRefIdeal.Value.run m g)

/-- The kernel's result is the reference's. -/
theorem tail_algebraic : Cert.algebraic_TailIdeal_TailRefIdeal (hTailIdeal := Cert.TailIdeal.Gen.facts)
    (hTailRefIdeal := Cert.TailRefIdeal.Gen.facts) := by
  intro m g m' g' _ hag
  refine ⟨fun c => (Cert.TailIdeal.Gen.dats m 0 c).arrAt 16 Cert.TailIdeal.cfg0.N, Cert.TailIdeal.Value.run_blocks m g,
    (θ_run Cert.TailRefIdeal.defs _ _).mono (fun _ h c => ⟨(h c).1.trans ?_, (h c).2⟩) (Cert.TailRefIdeal.Value.run m' g')⟩
  obtain ⟨h0, h1, h2, h3, h4, h5, h6, h7, h8, h9, h10, h11, h12, h13, h14⟩ := hag c
  rw [Cert.TailRefIdeal.Read.val_main_v64_eq, h0, h1, h2, h3, h4, h5, h6, h7, h8, h9, h10, h11, h12, h13, h14]
  exact (Cert.Tail.Val.final m c).symm

end Cert.Claims
end
-- ==== Proof.PromptTailPure.lean ====
module

public import proofs.«01_k».proof.Proof.Gen.PromptTailIdeal.Skeleton
public import proofs.«01_k».proof.Proof.Gen.PromptTailRefIdeal.Read
public import proofs.«01_k».proof.Proof.Math

/-! # The prompt's closing call: the body's payloads against the reference's stages

Row `r` of tile `T` of batch `b`: the merge of the two branches, the feed-forward part in four chunks against one product,
and the gated embedding, each over any blocks that read as the reference's operands at that tile. -/

@[expose] public section

set_option maxRecDepth 16384

noncomputable section

open Idealize.ShloMosaic Idealize.ShloMosaic.TcCoe Idealize.SL.Sem
open Cert.PromptTailIdeal Cert.PromptTailIdeal.Gen Cert.PromptTailRefIdeal.Read

namespace Cert.PTail.Pure

/-- Row `r` of tile `T`. -/
def row (T : Fin 16) (r : Fin 512) : Fin 8192 := ⟨T * 512 + r, by omega⟩

variable (a0 : FVec Ideal ⟨3, ![2, 8192, 1024]⟩ .f32) (a1 : FVec Ideal ⟨4, ![2, 8, 64, 8192]⟩ .bf16)
  (a2 : FVec Ideal ⟨3, ![2, 8192, 512]⟩ .bf16) (a3 a4 : FVec Ideal ⟨3, ![2, 8192, 1024]⟩ .bf16)
  (a5 : FVec Ideal ⟨4, ![1, 2, 8192, 256]⟩ .f32)
  (a6 a7 : FVec Ideal ⟨3, ![1, 512, 1024]⟩ .f32) (a8 : FVec Ideal ⟨3, ![1, 1024, 1024]⟩ .f32)
  (a9 : FVec Ideal ⟨2, ![1, 1024]⟩ .f32) (a10 : FVec Ideal ⟨3, ![1, 1024, 4096]⟩ .f32) (a11 : FVec Ideal ⟨3, ![1, 4096, 1024]⟩ .f32)
  (a12 : FVec Ideal ⟨2, ![1, 1024]⟩ .f32) (a13 : FVec Ideal ⟨3, ![1, 1024, 1024]⟩ .f32) (a14 : FVec Ideal ⟨3, ![1, 256, 1024]⟩ .f32)
  (b : Fin 2) (T : Fin 16)

/-- The merge of the two branches and its residual: the block after the output projection. -/
theorem merge_at (v0 : FVec Ideal S1x512x512 .bf16) (v2 : FVec Ideal S512x1024 .bf16) (v5 : FVec Ideal S1x512x512 .bf16) (v7 : FVec Ideal S512x1024 .bf16)
    (v10 v14 : FVec Ideal S1x512x1024 .bf16) (v19 : FVec Ideal S1x512x1024 .f32) (v22 : FVec Ideal S1024x1024 .bf16)
    (h0 : ∀ (q r : Fin 512), v0 (ix3 0 q r) = a1 (ix4 b ⟨q / 64, by omega⟩ ⟨q % 64, by omega⟩ (row T r)))
    (h2 : ∀ (q : Fin 512) (k : Fin 1024), v2 (ix2 q k) = a6 (ix3 0 q k))
    (h5 : ∀ (r q : Fin 512), v5 (ix3 0 r q) = a2 (ix3 b (row T r) q))
    (h7 : ∀ (q : Fin 512) (k : Fin 1024), v7 (ix2 q k) = a7 (ix3 0 q k))
    (h10 : ∀ (r : Fin 512) (k : Fin 1024), v10 (ix3 0 r k) = a3 (ix3 b (row T r) k))
    (h14 : ∀ (r : Fin 512) (k : Fin 1024), v14 (ix3 0 r k) = a4 (ix3 b (row T r) k))
    (h19 : ∀ (r : Fin 512) (k : Fin 1024), v19 (ix3 0 r k) = a0 (ix3 b (row T r) k))
    (h22 : ∀ (q k : Fin 1024), v22 (ix2 q k) = a8 (ix3 0 q k)) (r : Fin 512) (k : Fin 1024) :
    k0_pay2 (F := Ideal) v0 v2 v5 v7 v10 v14 v19 v22 (ix2 r k) = val_main_v16 (F := Ideal) a0 a1 a2 a3 a4 a6 a7 a8 (ix3 b (row T r) k) := by
  pointwise [k0_pay2, val_main_v16, val_main_v15, val_main_v14, val_main_v13, val_main_v12, val_main_v11, val_main_v10, val_main_v9, val_main_v8, val_main_v7, val_main_v6, val_main_v5, val_main_v4, val_main_v3, val_main_v2, val_main_v1, val_main_v0, h0, h2, h5, h7, h10, h14, h19, h22]

/-- The sum of a row's squares. -/
theorem square_at (v0 : FVec Ideal S1x512x512 .bf16) (v2 : FVec Ideal S512x1024 .bf16) (v5 : FVec Ideal S1x512x512 .bf16) (v7 : FVec Ideal S512x1024 .bf16)
    (v10 v14 : FVec Ideal S1x512x1024 .bf16) (v19 : FVec Ideal S1x512x1024 .f32) (v22 : FVec Ideal S1024x1024 .bf16)
    (h : ∀ (r : Fin 512) (k : Fin 1024), k0_pay2 (F := Ideal) v0 v2 v5 v7 v10 v14 v19 v22 (ix2 r k) = val_main_v16 (F := Ideal) a0 a1 a2 a3 a4 a6 a7 a8 (ix3 b (row T r) k)) (r : Fin 512) (z : Fin 1) :
    k0_pay3 (F := Ideal) v0 v2 v5 v7 v10 v14 v19 v22 (ix2 r z) = val_main_v19 (F := Ideal) a0 a1 a2 a3 a4 a6 a7 a8 (ix2 b (row T r)) := by
  pointwise [k0_pay3, h, val_main_v19, val_main_v18, val_main_cst]

/-- The normalised rows before the feed-forward part. -/
theorem norm_at (v25 : FVec Ideal S512x1024 .f32) (v26 : FVec Ideal S1x1024 .f32) (v29 : FVec Ideal S512x1 .f32)
    (h : ∀ (r : Fin 512) (k : Fin 1024), v25 (ix2 r k) = val_main_v16 (F := Ideal) a0 a1 a2 a3 a4 a6 a7 a8 (ix3 b (row T r) k))
    (h26 : ∀ k : Fin 1024, v26 (ix2 0 k) = a9 (ix2 0 k))
    (h29 : ∀ (r : Fin 512) (z : Fin 1), v29 (ix2 r z) = val_main_v19 (F := Ideal) a0 a1 a2 a3 a4 a6 a7 a8 (ix2 b (row T r))) (r : Fin 512) (k : Fin 1024) :
    k0_pay4 (F := Ideal) v25 v26 v29 (Scalar.ofBits .f32 0x44800000#32) (ix2 r k) = val_main_v30 (F := Ideal) a0 a1 a2 a3 a4 a6 a7 a8 a9 (ix3 b (row T r) k) := by
  pointwise [k0_pay4, val_main_v30, val_main_v29, val_main_v28, val_main_v27, val_main_v26, val_main_v25, val_main_v24, val_main_v23, val_main_v22, val_main_v21, val_main_v20, val_main_v17, val_main_cst_0, val_main_cst_1, h, h26, h29]

/-- The feed-forward part: four chunks of the hidden width, added up one after the other. -/
theorem ff_at (v25 : FVec Ideal S512x1024 .f32) (v26 : FVec Ideal S1x1024 .f32) (v29 : FVec Ideal S512x1 .f32) (cs : Ideal .f32)
    (u0 u1 u2 u3 d0 d1 d2 d3 : FVec Ideal S1024x1024 .bf16)
    (h : ∀ (r : Fin 512) (k : Fin 1024), v25 (ix2 r k) = val_main_v16 (F := Ideal) a0 a1 a2 a3 a4 a6 a7 a8 (ix3 b (row T r) k))
    (hn : ∀ (r : Fin 512) (k : Fin 1024), k0_pay4 (F := Ideal) v25 v26 v29 cs (ix2 r k) = val_main_v30 (F := Ideal) a0 a1 a2 a3 a4 a6 a7 a8 a9 (ix3 b (row T r) k))
    (hu0 : ∀ q k : Fin 1024, u0 (ix2 q k) = a10 (ix3 0 q ⟨0 * 1024 + k, by omega⟩))
    (hu1 : ∀ q k : Fin 1024, u1 (ix2 q k) = a10 (ix3 0 q ⟨1 * 1024 + k, by omega⟩))
    (hu2 : ∀ q k : Fin 1024, u2 (ix2 q k) = a10 (ix3 0 q ⟨2 * 1024 + k, by omega⟩))
    (hu3 : ∀ q k : Fin 1024, u3 (ix2 q k) = a10 (ix3 0 q ⟨3 * 1024 + k, by omega⟩))
    (hd0 : ∀ q k : Fin 1024, d0 (ix2 q k) = a11 (ix3 0 ⟨0 * 1024 + q, by omega⟩ k))
    (hd1 : ∀ q k : Fin 1024, d1 (ix2 q k) = a11 (ix3 0 ⟨1 * 1024 + q, by omega⟩ k))
    (hd2 : ∀ q k : Fin 1024, d2 (ix2 q k) = a11 (ix3 0 ⟨2 * 1024 + q, by omega⟩ k))
    (hd3 : ∀ q k : Fin 1024, d3 (ix2 q k) = a11 (ix3 0 ⟨3 * 1024 + q, by omega⟩ k))
    (r : Fin 512) (k : Fin 1024) :
    k0_pay7 (F := Ideal) (k0_pay4 (F := Ideal) v25 v26 v29 cs) (k0_pay5 (F := Ideal) v25 v26 v29 cs u0 d0 u1 d1)
        (k0_pay6 (F := Ideal) v25 v26 v29 cs u2) d2 u3 d3 (ix2 r k)
      = val_main_v37 (F := Ideal) a0 a1 a2 a3 a4 a6 a7 a8 a9 a10 a11 (ix3 b (row T r) k) := by
  pointwise [k0_pay7, k0_pay6, k0_pay5, hn, h, hu0, hu1, hu2, hu3, hd0, hd1, hd2, hd3, val_main_v37, val_main_v36, val_main_v35, val_main_v34, val_main_v33, val_main_v32, val_main_v31, val_main_call0_v0, val_main_call0_cst]
  rw [Fin.sum_univ_tiles 4 1024 rfl]
  simp only [Fin.sum_univ_four, add_assoc]
  rfl

/-- The gate: the logistic function of the normalised rows' product. -/
theorem gate_at (v39 : FVec Ideal S512x1024 .bf16) (v61 : FVec Ideal S512x1024 .f32) (v68 : FVec Ideal S512x1024 .bf16)
    (d2 u3 d3 : FVec Ideal S1024x1024 .bf16) (v84 : FVec Ideal S1x1024 .f32) (v98 : FVec Ideal S1024x1024 .bf16)
    (h : ∀ (r : Fin 512) (k : Fin 1024), k0_pay7 (F := Ideal) v39 v61 v68 d2 u3 d3 (ix2 r k) = val_main_v37 (F := Ideal) a0 a1 a2 a3 a4 a6 a7 a8 a9 a10 a11 (ix3 b (row T r) k))
    (h84 : ∀ k : Fin 1024, v84 (ix2 0 k) = a12 (ix2 0 k))
    (h98 : ∀ q k : Fin 1024, v98 (ix2 q k) = a13 (ix3 0 q k)) (r : Fin 512) (k : Fin 1024) :
    k0_pay8 (F := Ideal) v39 v61 v68 d2 u3 d3 v84 v98 (ix2 r k) = val_main_v59 (F := Ideal) a0 a1 a2 a3 a4 a6 a7 a8 a9 a10 a11 a12 a13 (ix3 b (row T r) k) := by
  pointwise [k0_pay8, h, h84, h98, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_cst_2, val_main_cst_3, val_main_cst_4, val_main_cst_5, val_main_cst_6]
  rfl

/-- The call's result: the gated projection of the embedding, added. -/
theorem out_at (v83 v101 : FVec Ideal S512x1024 .f32) (v102 : FVec Ideal S1x512x256 .f32) (v105 : FVec Ideal S256x1024 .bf16)
    (h : ∀ (r : Fin 512) (k : Fin 1024), v83 (ix2 r k) = val_main_v37 (F := Ideal) a0 a1 a2 a3 a4 a6 a7 a8 a9 a10 a11 (ix3 b (row T r) k))
    (hg : ∀ (r : Fin 512) (k : Fin 1024), v101 (ix2 r k) = val_main_v59 (F := Ideal) a0 a1 a2 a3 a4 a6 a7 a8 a9 a10 a11 a12 a13 (ix3 b (row T r) k))
    (h102 : ∀ (r : Fin 512) (q : Fin 256), v102 (ix3 0 r q) = a5 (ix4 0 b (row T r) q))
    (h105 : ∀ (q : Fin 256) (k : Fin 1024), v105 (ix2 q k) = a14 (ix3 0 q k)) (z : Fin 1) (r : Fin 512) (k : Fin 1024) :
    k0_pay1 (F := Ideal) v83 v101 (k0_pay9 (F := Ideal) v102) (k0_pay10 (F := Ideal) v105) (constant S512x1024 .f32 0x00000000#32) (ix3 z r k)
      = val_main_v63 (F := Ideal) a0 a1 a2 a3 a4 a5 a6 a7 a8 a9 a10 a11 a12 a13 a14 (ix3 b (row T r) k) := by
  pointwise [k0_pay1, k0_pay9, k0_pay10, h, hg, h102, h105, val_main_v63, val_main_v62, val_main_v61, val_main_v60, val_main_v3]

end Cert.PTail.Pure
end
-- ==== Proof.PromptTailValue.lean ====
module

public import proofs.«01_k».proof.Proof.Gen.PromptTailIdeal.Value
public import proofs.«01_k».proof.Proof.PromptTailPure
public import Idealize.ShloMosaic.Lib.Pipeline.ValueKit

/-! # The prompt's closing call: the array the run leaves is the reference's term

Point `t` of the grid is batch `t / 16`, tile `t % 16`.  Each lemma reads one input block at an index, as an entry of the
argument that the window stages; the last puts the body's payloads over them. -/

@[expose] public section

set_option maxRecDepth 16384

noncomputable section

open Idealize.ShloMosaic Idealize.ShloMosaic.TcCoe Idealize.SL.Sem
open Idealize.ShloMosaic.Pipeline (Dat)
open Cert.PromptTailIdeal Cert.PromptTailIdeal.Gen Cert.PTail.Pure

namespace Cert.PTail.Val

variable (m : (ℓ : Loc nD τ sig) → Buf (Elt Ideal) ℓ)

/-- The windows' block indices at point `t`. -/
theorem idx : ∀ t : Fin cfg0.N, win0_0.index t = ![t.val / 16, t.val % 16, 0] ∧ win0_1.index t = ![t.val / 16, 0, t.val % 16]
    ∧ win0_2.index t = ![t.val / 16, t.val % 16, 0] ∧ win0_3.index t = ![t.val / 16, t.val % 16, 0] ∧ win0_4.index t = ![t.val / 16, t.val % 16, 0]
    ∧ win0_5.index t = ![t.val / 16, t.val % 16, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![t.val / 16, t.val % 16, 0] :=
  (by decide +kernel : ∀ t : Fin grid0.N, _)

/-- The batch of point `t`. -/
def bat (t : Fin cfg0.N) : Fin 2 := ⟨t.val / 16, by have := lt_of_lt_of_eq t.isLt N_0; omega⟩

/-- The tile of point `t`. -/
def tile (t : Fin cfg0.N) : Fin 16 := ⟨t.val % 16, by omega⟩

/-- Window 0's block: 512 rows of the prompt. -/
theorem b0 (c : Dev nD) (t : Fin cfg0.N) (r : Fin 512) (k : Fin 1024) :
    @Eq EReal (iblk m c 0 t (ix3 0 r k)) (m ((c : Thread nD τ).loc main_arg0) (ix3 (bat t) (row (tile t) r) k)) := by
  blk_ext [iblk, V, idx t, bat, tile, row]

/-- Window 1's block: 512 columns of the attention's output, heads joined. -/
theorem b1 (c : Dev nD) (t : Fin cfg0.N) (q r : Fin 512) :
    @Eq EReal (iblk m c 1 t (ix3 0 q r)) (m ((c : Thread nD τ).loc main_arg1) (ix4 (bat t) ⟨q / 64, by omega⟩ ⟨q % 64, by omega⟩ (row (tile t) r))) := by
  blk_simp [iblk, idx t]
  entry_read
  pointwise
  try blk_ext [idx t, bat, tile, row]

/-- Window 2's block: 512 rows of the pooled branch. -/
theorem b2 (c : Dev nD) (t : Fin cfg0.N) (r q : Fin 512) :
    @Eq EReal (iblk m c 2 t (ix3 0 r q)) (m ((c : Thread nD τ).loc main_arg2) (ix3 (bat t) (row (tile t) r) q)) := by
  blk_ext [iblk, V, idx t, bat, tile, row]

/-- Window 3's block: 512 rows of the first gate. -/
theorem b3 (c : Dev nD) (t : Fin cfg0.N) (r : Fin 512) (k : Fin 1024) :
    @Eq EReal (iblk m c 3 t (ix3 0 r k)) (m ((c : Thread nD τ).loc main_arg3) (ix3 (bat t) (row (tile t) r) k)) := by
  blk_ext [iblk, V, idx t, bat, tile, row]

/-- Window 4's block: 512 rows of the second gate. -/
theorem b4 (c : Dev nD) (t : Fin cfg0.N) (r : Fin 512) (k : Fin 1024) :
    @Eq EReal (iblk m c 4 t (ix3 0 r k)) (m ((c : Thread nD τ).loc main_arg4) (ix3 (bat t) (row (tile t) r) k)) := by
  blk_ext [iblk, V, idx t, bat, tile, row]

/-- Window 5's block: 512 rows of the embedding. -/
theorem b5 (c : Dev nD) (t : Fin cfg0.N) (r : Fin 512) (q : Fin 256) :
    @Eq EReal (iblk m c 5 t (ix3 0 r q)) (m ((c : Thread nD τ).loc main_arg5) (ix4 0 (bat t) (row (tile t) r) q)) := by
  blk_simp [iblk, idx t]
  entry_read
  pointwise
  try blk_ext [idx t, bat, tile, row]

/-- Window 6's block: the attention's output weights. -/
theorem b6 (c : Dev nD) (t : Fin cfg0.N) (q : Fin 512) (k : Fin 1024) :
    @Eq EReal (iblk m c 6 t (ix2 q k)) (m ((c : Thread nD τ).loc main_arg6) (ix3 0 q k)) := by
  blk_simp [iblk, idx t]
  entry_read
  pointwise
  try blk_ext [idx t, bat, tile, row]

/-- Window 7's block: the pooled branch's output weights. -/
theorem b7 (c : Dev nD) (t : Fin cfg0.N) (q : Fin 512) (k : Fin 1024) :
    @Eq EReal (iblk m c 7 t (ix2 q k)) (m ((c : Thread nD τ).loc main_arg7) (ix3 0 q k)) := by
  blk_simp [iblk, idx t]
  entry_read
  pointwise
  try blk_ext [idx t, bat, tile, row]

/-- Window 8's block: the output weights. -/
theorem b8 (c : Dev nD) (t : Fin cfg0.N) (q k : Fin 1024) :
    @Eq EReal (iblk m c 8 t (ix2 q k)) (m ((c : Thread nD τ).loc main_arg8) (ix3 0 q k)) := by
  blk_simp [iblk, idx t]
  entry_read
  pointwise
  try blk_ext [idx t, bat, tile, row]

/-- Window 9's block: the scale before the feed-forward part. -/
theorem b9 (c : Dev nD) (t : Fin cfg0.N) (z : Fin 1) (k : Fin 1024) :
    @Eq EReal (iblk m c 9 t (ix2 z k)) (m ((c : Thread nD τ).loc main_arg9) (ix2 z k)) := by
  blk_ext [iblk, V, idx t, bat, tile, row]

/-- Window 10's block: the feed-forward part's first weights. -/
theorem b10 (c : Dev nD) (t : Fin cfg0.N) (q : Fin 1024) (k : Fin 4096) :
    @Eq EReal (iblk m c 10 t (ix2 q k)) (m ((c : Thread nD τ).loc main_arg10) (ix3 0 q k)) := by
  blk_simp [iblk, idx t]
  entry_read
  pointwise
  try blk_ext [idx t, bat, tile, row]

/-- Window 11's block: its second weights. -/
theorem b11 (c : Dev nD) (t : Fin cfg0.N) (q : Fin 4096) (k : Fin 1024) :
    @Eq EReal (iblk m c 11 t (ix2 q k)) (m ((c : Thread nD τ).loc main_arg11) (ix3 0 q k)) := by
  blk_simp [iblk, idx t]
  entry_read
  pointwise
  try blk_ext [idx t, bat, tile, row]

/-- Window 12's block: the scale before the gate. -/
theorem b12 (c : Dev nD) (t : Fin cfg0.N) (z : Fin 1) (k : Fin 1024) :
    @Eq EReal (iblk m c 12 t (ix2 z k)) (m ((c : Thread nD τ).loc main_arg12) (ix2 z k)) := by
  blk_ext [iblk, V, idx t, bat, tile, row]

/-- Window 13's block: the gate's weights. -/
theorem b13 (c : Dev nD) (t : Fin cfg0.N) (q k : Fin 1024) :
    @Eq EReal (iblk m c 13 t (ix2 q k)) (m ((c : Thread nD τ).loc main_arg13) (ix3 0 q k)) := by
  blk_simp [iblk, idx t]
  entry_read
  pointwise
  try blk_ext [idx t, bat, tile, row]

/-- Window 14's block: the embedding's weights. -/
theorem b14 (c : Dev nD) (t : Fin cfg0.N) (q : Fin 256) (k : Fin 1024) :
    @Eq EReal (iblk m c 14 t (ix2 q k)) (m ((c : Thread nD τ).loc main_arg14) (ix3 0 q k)) := by
  blk_simp [iblk, idx t]
  entry_read
  pointwise
  try blk_ext [idx t, bat, tile, row]

set_option maxHeartbeats 1000000 in
/-- The result array after the run. -/
theorem final (c : Dev nD) : (dats m 0 c).arrAt 15 (cfgs 0).N
    = Cert.PromptTailRefIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 15 _ (by decide +kernel) fun t _ y => ?_
  blk_simp
  rw [after0_15]
  frame_out
  have hy : (((View.whole main_v16).slice (win0_15.rect t)).emb y) = ix3 (bat t) (row (tile t) (y 1)) (y 2) := by
    blk_ext [idx t, bat, tile, row]
  rw [hy]
  unfold k0_pay15 k0_pay14 k0_pay13 k0_pay12 k0_pay11
  have hm := merge_at (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg6)) (m ((c : Thread nD τ).loc main_arg7)) (m ((c : Thread nD τ).loc main_arg8)) (bat t) (tile t)
    (View.ld (iblk m c 1 t) r0_0) (View.ld (iblk m c 6 t) r0_1) (View.ld (iblk m c 2 t) r0_0) (View.ld (iblk m c 7 t) r0_1)
    (View.ld (iblk m c 3 t) r0_2) (View.ld (iblk m c 4 t) r0_2) (View.ld (iblk m c 0 t) r0_2) (View.ld (iblk m c 8 t) r0_3)
    (by intro q r; pointwise; exact b1 m c t q r) (by intro q k; pointwise; exact b6 m c t q k) (by intro r q; pointwise; exact b2 m c t r q)
    (by intro q k; pointwise; exact b7 m c t q k) (by intro r k; pointwise; exact b3 m c t r k) (by intro r k; pointwise; exact b4 m c t r k)
    (by intro r k; pointwise; exact b0 m c t r k) (by intro q k; pointwise; exact b8 m c t q k)
  have hn := norm_at _ _ _ _ _ _ _ _ _ (bat t) (tile t) _ (View.ld (iblk m c 9 t) r0_4) _ hm (by intro k; pointwise; exact b9 m c t 0 k) (square_at _ _ _ _ _ _ _ _ (bat t) (tile t) _ _ _ _ _ _ _ _ hm)
  refine out_at _ _ _ _ _ _ _ _ _ _ _ _ _ _ _ (bat t) (tile t) _ _ _ _ ?_ (gate_at _ _ _ _ _ _ _ _ _ _ _ _ _ (bat t) (tile t) _ _ _ _ _ _ _ _ ?_ ?_ ?_) ?_ ?_ (y 0) (y 1) (y 2)
  case refine_3 => intro k; pointwise; exact b12 m c t 0 k
  case refine_4 => intro q k; pointwise; exact b13 m c t q k
  case refine_5 => intro r q; pointwise; exact b5 m c t r q
  case refine_6 => intro q k; pointwise; exact b14 m c t q k
  all_goals
    refine ff_at _ _ _ _ _ _ _ _ _ _ _ (bat t) (tile t) _ _ _ _ _ _ _ _ _ _ _ _ ?_ ?_ ?_ ?_ ?_ ?_ ?_ ?_ ?_ ?_
    · exact hm
    · exact hn
    · intro q k; pointwise; exact b10 m c t q _
    · intro q k; pointwise; exact b10 m c t q _
    · intro q k; pointwise; exact b10 m c t q _
    · intro q k; pointwise; exact b10 m c t q _
    · intro q k; pointwise; exact b11 m c t _ k
    · intro q k; pointwise; exact b11 m c t _ k
    · intro q k; pointwise; exact b11 m c t _ k
    · intro q k; pointwise; exact b11 m c t _ k

end Cert.PTail.Val
end
-- ==== Proof.PromptTailClaim.lean ====
module

public import proofs.«01_k».proof.Defs
public import proofs.«01_k».proof.Proof.PromptTailValue
public import proofs.«01_k».proof.Proof.Gen.PromptTailRefIdeal
public import proofs.«01_k».proof.Proof.Gen.PromptTailRefIdeal.Run

/-! # The prompt's closing call: the claims about the reference program and about the pair -/

@[expose] public section

set_option maxRecDepth 16384

noncomputable section

open Idealize.ShloMosaic Idealize.SL.Sem Idealize.ShloMosaic.StableHlo

namespace Cert.Claims

/-- The reference runs, leaves its arguments as they were, and declares no semaphore. -/
theorem ptail_ref_frame : Cert.quiescent_PromptTailRefIdeal (hPromptTailRefIdeal := Cert.PromptTailRefIdeal.Gen.facts) := fun m g _ =>
  (θ_run Cert.PromptTailRefIdeal.defs _ _).mono (fun r h => ⟨fun c => (h c).2, Idealize.ShloMosaic.sem_eq_zero_of_no_sems (by decide) r.2⟩)
    (Cert.PromptTailRefIdeal.Value.run m g)

/-- The kernel's result is the reference's. -/
theorem ptail_algebraic : Cert.algebraic_PromptTailIdeal_PromptTailRefIdeal (hPromptTailIdeal := Cert.PromptTailIdeal.Gen.facts)
    (hPromptTailRefIdeal := Cert.PromptTailRefIdeal.Gen.facts) := by
  intro m g m' g' _ hag
  refine ⟨fun c => (Cert.PromptTailIdeal.Gen.dats m 0 c).arrAt 15 Cert.PromptTailIdeal.cfg0.N, Cert.PromptTailIdeal.Value.run_blocks m g,
    (θ_run Cert.PromptTailRefIdeal.defs _ _).mono (fun _ h c => ⟨(h c).1.trans ?_, (h c).2⟩) (Cert.PromptTailRefIdeal.Value.run m' g')⟩
  obtain ⟨h0, h1, h2, h3, h4, h5, h6, h7, h8, h9, h10, h11, h12, h13, h14⟩ := hag c
  rw [Cert.PromptTailRefIdeal.Read.val_main_v63_eq, h0, h1, h2, h3, h4, h5, h6, h7, h8, h9, h10, h11, h12, h13, h14]
  exact (Cert.PTail.Val.final m c).symm

end Cert.Claims
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.SampleIn
public import proofs.«01_k».proof.Proof.Gen.SampleIn.Skeleton
public import proofs.«01_k».proof.Proof.Gen.SampleIn.Launch
public import proofs.«01_k».proof.Proof.Gen.SampleIn.Points
public import proofs.«01_k».proof.Proof.Gen.SampleIn.Frame
public import proofs.«01_k».proof.Proof.Gen.SampleInIdeal
public import proofs.«01_k».proof.Proof.Gen.SampleInIdeal.Skeleton
public import proofs.«01_k».proof.Proof.Gen.SampleInIdeal.Launch
public import proofs.«01_k».proof.Proof.Gen.SampleInIdeal.Points
public import proofs.«01_k».proof.Proof.Gen.SampleInIdeal.Frame
public import proofs.«01_k».proof.Proof.Gen.SampleInRefIdeal
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.KernelIdeal.Value
public import proofs.«01_k».proof.Proof.Gen.SampleInIdeal.Value
public import proofs.«01_k».proof.Proof.Gen.TailIdeal.Value
public import proofs.«01_k».proof.Proof.Gen.ReferenceIdeal.Run
public import proofs.«01_k».proof.Proof.Gen.ReferenceIdeal.Read
public import proofs.«01_k».proof.Proof.Gen.SampleInRefIdeal.Run
public import proofs.«01_k».proof.Proof.Gen.SampleInRefIdeal.Read
public import proofs.«01_k».proof.Proof.Gen.TailRefIdeal.Run
public import proofs.«01_k».proof.Proof.Gen.TailRefIdeal.Read
public import Idealize.ShloMosaic.Adequacy
public import Idealize.ShloMosaic.Init
public import proofs.«01_k».proof.Proof.Gen.PromptTail
public import proofs.«01_k».proof.Proof.Gen.PromptTail.Skeleton
public import proofs.«01_k».proof.Proof.Gen.PromptTail.Launch
public import proofs.«01_k».proof.Proof.Gen.PromptTail.Points
public import proofs.«01_k».proof.Proof.Gen.PromptTail.Frame
public import proofs.«01_k».proof.Proof.Gen.PromptTailIdeal
public import proofs.«01_k».proof.Proof.Gen.PromptTailIdeal.Skeleton
public import proofs.«01_k».proof.Proof.Gen.PromptTailIdeal.Launch
public import proofs.«01_k».proof.Proof.Gen.PromptTailIdeal.Points
public import proofs.«01_k».proof.Proof.Gen.PromptTailIdeal.Frame
public import proofs.«01_k».proof.Proof.Gen.PromptTailRefIdeal
public import proofs.«01_k».proof.Proof.Gen.PromptTailIdeal.Value
public import proofs.«01_k».proof.Proof.Gen.PromptTailRefIdeal.Run
public import proofs.«01_k».proof.Proof.Gen.PromptTailRefIdeal.Read
public import proofs.«01_k».proof.Proof.InClaim
public import proofs.«01_k».proof.Proof.SampleClaim
public import proofs.«01_k».proof.Proof.TailClaim
public import proofs.«01_k».proof.Proof.PromptTailClaim

/-! # The claims, assembled

Of each call: the kernel and its ideal program run to the end, leave their arguments as they were and every semaphore
counter at zero (the generated frames); the reference does too; the ideal program is the kernel's own text; and over the
extended reals kernel and reference end with equal results. -/

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.SampleIn.Gen.facts, Cert.SampleInIdeal.Gen.facts, Cert.SampleInRefIdeal.Gen.facts, Cert.Tail.Gen.facts, Cert.TailIdeal.Gen.facts, Cert.TailRefIdeal.Gen.facts, Cert.PromptTail.Gen.facts, Cert.PromptTailIdeal.Gen.facts, Cert.PromptTailRefIdeal.Gen.facts,
  fun m g _ => Cert.Kernel.Gen.frame m g, fun m g _ => Cert.KernelIdeal.Gen.frame m g, Claims.in_ref_frame,
  fun m g _ => Cert.SampleIn.Gen.frame m g, fun m g _ => Cert.SampleInIdeal.Gen.frame m g, Claims.sample_ref_frame,
  fun m g _ => Cert.Tail.Gen.frame m g, fun m g _ => Cert.TailIdeal.Gen.frame m g, Claims.tail_ref_frame,
  fun m g _ => Cert.PromptTail.Gen.frame m g, fun m g _ => Cert.PromptTailIdeal.Gen.frame m g, Claims.ptail_ref_frame,
  trivial, Claims.in_algebraic,
  trivial, Claims.sample_algebraic,
  trivial, Claims.tail_algebraic,
  trivial, Claims.ptail_algebraic⟩

end Cert.Proof

end
